-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "swa_scale" .f32 0x3E38AA3B#32 (((Real.log 2)⁻¹ * 8⁻¹ : ℝ) : EReal)
  ∧ IdealRules.named_const.Statement Cert.KernelIdeal.κ "mla_scale" .f32 0x3E16C740#32 (((Real.log 2)⁻¹ * (Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v83_0)) (v2 : (c : Dev Cert.KernelIdeal.nD) → Buf (Elt Ideal) ((c.tc : Thread Cert.KernelIdeal.nD Cert.KernelIdeal.τ).loc Cert.KernelIdeal.main_v83_1)) (v3 : (c : Dev Cert.KernelIdeal.nD) → Buf (Elt Ideal) ((c.tc : Thread Cert.KernelIdeal.nD Cert.KernelIdeal.τ).loc Cert.KernelIdeal.main_v83_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v83_0) = v1 c
          ∧ r.2.mem ((c.tc : Thread Cert.KernelIdeal.nD Cert.KernelIdeal.τ).loc Cert.KernelIdeal.main_v83_1) = v2 c
          ∧ r.2.mem ((c.tc : Thread Cert.KernelIdeal.nD Cert.KernelIdeal.τ).loc Cert.KernelIdeal.main_v83_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v210) = v1 c
          ∧ r.2.mem ((c.tc : Thread Cert.ReferenceIdeal.nD Cert.ReferenceIdeal.τ).loc Cert.ReferenceIdeal.main_v212) = v2 c
          ∧ r.2.mem ((c.tc : Thread Cert.ReferenceIdeal.nD Cert.ReferenceIdeal.τ).loc Cert.ReferenceIdeal.main_v213) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "mask" .f32 0xF149F2CA#32 ⊥
  ∧ IdealRules.named_const.Statement Cert.Kernel3Ideal.κ "log2e" .f32 0x3FB8AA3B#32 (((Real.log 2)⁻¹ : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S8x4096x1024 : Shape := ⟨3, ![8, 4096, 1024]⟩
abbrev S8x1024 : Shape := ⟨2, ![8, 1024]⟩
abbrev S1x1024x6144 : Shape := ⟨3, ![1, 1024, 6144]⟩
abbrev S1x6144 : Shape := ⟨2, ![1, 6144]⟩
abbrev S1x1024x1184 : Shape := ⟨3, ![1, 1024, 1184]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S_ : Shape := ⟨0, ![]⟩

class Facts : Prop where
  bcast_S_S8x4096x1024 : S_.BroadcastsInDim S8x4096x1024 (![] : Fin 0 → Fin S8x4096x1024.rank)
  bcast_S_S8x1024 : S_.BroadcastsInDim S8x1024 (![] : Fin 0 → Fin S8x1024.rank)
  bcast_S_S1x1024x6144 : S_.BroadcastsInDim S1x1024x6144 (![] : Fin 0 → Fin S1x1024x6144.rank)
  bcast_S_S1x6144 : S_.BroadcastsInDim S1x6144 (![] : Fin 0 → Fin S1x6144.rank)
  bcast_S_S1x1024x1184 : S_.BroadcastsInDim S1x1024x1184 (![] : Fin 0 → Fin S1x1024x1184.rank)
  bcast_S_S1x256 : S_.BroadcastsInDim S1x256 (![] : Fin 0 → Fin S1x256.rank)
  bcast_S_S1x256x768 : S_.BroadcastsInDim S1x256x768 (![] : Fin 0 → Fin S1x256x768.rank)
  bcast_S_S1x128 : S_.BroadcastsInDim S1x128 (![] : Fin 0 → Fin S1x128.rank)
  bcast_S_S1x128x1024 : S_.BroadcastsInDim S1x128x1024 (![] : Fin 0 → Fin S1x128x1024.rank)

variable [Facts]

def fn_part1 {F : FTy → Type} [FloatOps F] (main_arg6 : FVec F S1x256x768 .f32) (main_arg7 : FVec F S1x128 .f32) (main_arg8 : FVec F S1x128x1024 .f32) (main_v2 : IVec S8x4096x1024 1) (main_v5 : IVec S8x1024 1) (main_v8 : IVec S1x1024x6144 1) (main_v11 : IVec S1x6144 1) (main_v14 : IVec S1x1024x1184 1) (main_v17 : IVec S1x256 1) : IVec S8x4096x1024 1 × IVec S8x1024 1 × IVec S1x1024x6144 1 × IVec S1x6144 1 × IVec S1x1024x1184 1 × IVec S1x256 1 × IVec S1x256x768 1 × IVec S1x128 1 × IVec S1x128x1024 1 :=
  let main_v18 : FVec F S1x256x768 .f32 := Host.absf main_arg6
  let main_cst_5 : FVec F S_ .f32 := constant S_ .f32 0x7F800000#32
  let main_v19 : FVec F S1x256x768 .f32 := broadcastInDim S1x256x768 ![] bcast_S_S1x256x768 main_cst_5
  let main_v20 : IVec S1x256x768 1 := cmpf .olt main_v18 main_v19
  let main_v21 : FVec F S1x128 .f32 := Host.absf main_arg7
  let main_cst_6 : FVec F S_ .f32 := constant S_ .f32 0x7F800000#32
  let main_v22 : FVec F S1x128 .f32 := broadcastInDim S1x128 ![] bcast_S_S1x128 main_cst_6
  let main_v23 : IVec S1x128 1 := cmpf .olt main_v21 main_v22
  let main_v24 : FVec F S1x128x1024 .f32 := Host.absf main_arg8
  let main_cst_7 : FVec F S_ .f32 := constant S_ .f32 0x7F800000#32
  let main_v25 : FVec F S1x128x1024 .f32 := broadcastInDim S1x128x1024 ![] bcast_S_S1x128x1024 main_cst_7
  let main_v26 : IVec S1x128x1024 1 := cmpf .olt main_v24 main_v25
  (main_v2, main_v5, main_v8, main_v11, main_v14, main_v17, main_v20, main_v23, main_v26)

def fn {F : FTy → Type} [FloatOps F] (main_arg0 : FVec F S8x4096x1024 .f32) (main_arg1 : FVec F S8x1024 .f32) (main_arg2 : FVec F S1x1024x6144 .f32) (main_arg3 : FVec F S1x6144 .f32) (main_arg4 : FVec F S1x1024x1184 .f32) (main_arg5 : FVec F S1x256 .f32) (main_arg6 : FVec F S1x256x768 .f32) (main_arg7 : FVec F S1x128 .f32) (main_arg8 : FVec F S1x128x1024 .f32) : IVec S8x4096x1024 1 × IVec S8x1024 1 × IVec S1x1024x6144 1 × IVec S1x6144 1 × IVec S1x1024x1184 1 × IVec S1x256 1 × IVec S1x256x768 1 × IVec S1x128 1 × IVec S1x128x1024 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x1024 .f32 := Host.absf main_arg1
  let main_cst_0 : FVec F S_ .f32 := constant S_ .f32 0x7F800000#32
  let main_v4 : FVec F S8x1024 .f32 := broadcastInDim S8x1024 ![] bcast_S_S8x1024 main_cst_0
  let main_v5 : IVec S8x1024 1 := cmpf .olt main_v3 main_v4
  let main_v6 : FVec F S1x1024x6144 .f32 := Host.absf main_arg2
  let main_cst_1 : FVec F S_ .f32 := constant S_ .f32 0x7F800000#32
  let main_v7 : FVec F S1x1024x6144 .f32 := broadcastInDim S1x1024x6144 ![] bcast_S_S1x1024x6144 main_cst_1
  let main_v8 : IVec S1x1024x6144 1 := cmpf .olt main_v6 main_v7
  let main_v9 : FVec F S1x6144 .f32 := Host.absf main_arg3
  let main_cst_2 : FVec F S_ .f32 := constant S_ .f32 0x7F800000#32
  let main_v10 : FVec F S1x6144 .f32 := broadcastInDim S1x6144 ![] bcast_S_S1x6144 main_cst_2
  let main_v11 : IVec S1x6144 1 := cmpf .olt main_v9 main_v10
  let main_v12 : FVec F S1x1024x1184 .f32 := Host.absf main_arg4
  let main_cst_3 : FVec F S_ .f32 := constant S_ .f32 0x7F800000#32
  let main_v13 : FVec F S1x1024x1184 .f32 := broadcastInDim S1x1024x1184 ![] bcast_S_S1x1024x1184 main_cst_3
  let main_v14 : IVec S1x1024x1184 1 := cmpf .olt main_v12 main_v13
  let main_v15 : FVec F S1x256 .f32 := Host.absf main_arg5
  let main_cst_4 : FVec F S_ .f32 := constant S_ .f32 0x7F800000#32
  let main_v16 : FVec F S1x256 .f32 := broadcastInDim S1x256 ![] bcast_S_S1x256 main_cst_4
  let main_v17 : IVec S1x256 1 := cmpf .olt main_v15 main_v16
  fn_part1 (F := F) main_arg6 main_arg7 main_arg8 main_v2 main_v5 main_v8 main_v11 main_v14 main_v17
-- ==== Pre_finite3.lean ====
abbrev S8x4096x512 : Shape := ⟨3, ![8, 4096, 512]⟩
abbrev S8x4096x128 : Shape := ⟨3, ![8, 4096, 128]⟩
abbrev S1x8 : Shape := ⟨2, ![1, 8]⟩
abbrev S_ : Shape := ⟨0, ![]⟩

class Facts : Prop where
  bcast_S_S8x4096x512 : S_.BroadcastsInDim S8x4096x512 (![] : Fin 0 → Fin S8x4096x512.rank)
  bcast_S_S8x4096x128 : S_.BroadcastsInDim S8x4096x128 (![] : Fin 0 → Fin S8x4096x128.rank)
  bcast_S_S1x8 : S_.BroadcastsInDim S1x8 (![] : Fin 0 → Fin S1x8.rank)

variable [Facts]

def fn {F : FTy → Type} [FloatOps F] (main_arg0 : FVec F S8x4096x512 .bf16) (main_arg1 : FVec F S8x4096x128 .bf16) (main_arg2 : FVec F S8x4096x128 .bf16) (main_arg3 : FVec F S1x8 .f32) : IVec S8x4096x512 1 × IVec S8x4096x128 1 × IVec S1x8 1 :=
  let main_v0 : FVec F S8x4096x512 .bf16 := Host.absf main_arg0
  let main_cst : FVec F S_ .bf16 := constant S_ .bf16 0x7F80#16
  let main_v1 : FVec F S8x4096x512 .bf16 := broadcastInDim S8x4096x512 ![] bcast_S_S8x4096x512 main_cst
  let main_v2 : IVec S8x4096x512 1 := cmpf .olt main_v0 main_v1
  let main_v3 : FVec F S8x4096x128 .bf16 := Host.absf main_arg1
  let main_cst_0 : FVec F S_ .bf16 := constant S_ .bf16 0x7F80#16
  let main_v4 : FVec F S8x4096x128 .bf16 := broadcastInDim S8x4096x128 ![] bcast_S_S8x4096x128 main_cst_0
  let main_v5 : IVec S8x4096x128 1 := cmpf .olt main_v3 main_v4
  let main_v6 : FVec F S1x8 .f32 := Host.absf main_arg3
  let main_cst_1 : FVec F S_ .f32 := constant S_ .f32 0x7F800000#32
  let main_v7 : FVec F S1x8 .f32 := broadcastInDim S1x8 ![] bcast_S_S1x8 main_cst_1
  let main_v8 : IVec S1x8 1 := cmpf .olt main_v6 main_v7
  (main_v2, main_v5, main_v8)
-- ==== Kernel.lean ====
abbrev S8x4096x1024 : Shape := ⟨3, ![8, 4096, 1024]⟩
abbrev S8x1024 : Shape := ⟨2, ![8, 1024]⟩
abbrev S1x1024x6144 : Shape := ⟨3, ![1, 1024, 6144]⟩
abbrev S1x6144 : Shape := ⟨2, ![1, 6144]⟩
abbrev S1x1024x1184 : Shape := ⟨3, ![1, 1024, 1184]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S512 : Shape := ⟨1, ![512]⟩
abbrev S4096 : Shape := ⟨1, ![4096]⟩
abbrev S4096x1 : Shape := ⟨2, ![4096, 1]⟩
abbrev S32 : Shape := ⟨1, ![32]⟩
abbrev S_ : Shape := ⟨0, ![]⟩
abbrev S1x32 : Shape := ⟨2, ![1, 32]⟩
abbrev S4096x32 : Shape := ⟨2, ![4096, 32]⟩
abbrev S4096x128 : Shape := ⟨2, ![4096, 128]⟩
abbrev S16 : Shape := ⟨1, ![16]⟩
abbrev S1x16 : Shape := ⟨2, ![1, 16]⟩
abbrev S4096x16 : Shape := ⟨2, ![4096, 16]⟩
abbrev S4096x64 : Shape := ⟨2, ![4096, 64]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩
abbrev S1x1024 : Shape := ⟨2, ![1, 1024]⟩
abbrev S8x6x1024 : Shape := ⟨3, ![8, 6, 1024]⟩
abbrev S1024x1184 : Shape := ⟨2, ![1024, 1184]⟩
abbrev S1024x96 : Shape := ⟨2, ![1024, 96]⟩
abbrev S512x1 : Shape := ⟨2, ![512, 1]⟩
abbrev S1024x512 : Shape := ⟨2, ![1024, 512]⟩
abbrev S1024x672 : Shape := ⟨2, ![1024, 672]⟩
abbrev S1024x1280 : Shape := ⟨2, ![1024, 1280]⟩
abbrev S256x768 : Shape := ⟨2, ![256, 768]⟩
abbrev S256x8x96 : Shape := ⟨3, ![256, 8, 96]⟩
abbrev S256x8x128 : Shape := ⟨3, ![256, 8, 128]⟩
abbrev S256x1024 : Shape := ⟨2, ![256, 1024]⟩
abbrev S128x1024 : Shape := ⟨2, ![128, 1024]⟩
abbrev S128x8x128 : Shape := ⟨3, ![128, 8, 128]⟩
abbrev S128x8x64 : Shape := ⟨3, ![128, 8, 64]⟩
abbrev S256 : Shape := ⟨1, ![256]⟩
abbrev S128 : Shape := ⟨1, ![128]⟩
abbrev S8x4096x512 : Shape := ⟨3, ![8, 4096, 512]⟩
abbrev S8x4096x128 : Shape := ⟨3, ![8, 4096, 128]⟩
abbrev S1x512x1024 : Shape := ⟨3, ![1, 512, 1024]⟩
abbrev S1x6x1024 : Shape := ⟨3, ![1, 6, 1024]⟩
abbrev S512x128 : Shape := ⟨2, ![512, 128]⟩
abbrev S1x512x512 : Shape := ⟨3, ![1, 512, 512]⟩
abbrev S1x512x128 : Shape := ⟨3, ![1, 512, 128]⟩
abbrev S512x1024 : Shape := ⟨2, ![512, 1024]⟩
abbrev S1x1x1024 : Shape := ⟨3, ![1, 1, 1024]⟩
abbrev S512x1280 : Shape := ⟨2, ![512, 1280]⟩
abbrev S512x256 : Shape := ⟨2, ![512, 256]⟩
abbrev S1x256x512 : Shape := ⟨3, ![1, 256, 512]⟩
abbrev S1x4096x512 : Shape := ⟨3, ![1, 4096, 512]⟩
abbrev S1x256x256 : Shape := ⟨3, ![1, 256, 256]⟩
abbrev S1x256x128 : Shape := ⟨3, ![1, 256, 128]⟩
abbrev S256x128 : Shape := ⟨2, ![256, 128]⟩
abbrev S1x4096x128 : Shape := ⟨3, ![1, 4096, 128]⟩
abbrev S256x4096 : Shape := ⟨2, ![256, 4096]⟩
abbrev S256x1 : Shape := ⟨2, ![256, 1]⟩

abbrev nBuf : Space → Nat
  | .hbm => 123
  | .vmem => 45
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S1x1024x6144, .f32⟩
  | .hbm, ⟨3, _⟩ => ⟨S1x6144, .f32⟩
  | .hbm, ⟨4, _⟩ => ⟨S1x1024x1184, .f32⟩
  | .hbm, ⟨5, _⟩ => ⟨S1x256, .f32⟩
  | .hbm, ⟨6, _⟩ => ⟨S1x256x768, .f32⟩
  | .hbm, ⟨7, _⟩ => ⟨S1x128, .f32⟩
  | .hbm, ⟨8, _⟩ => ⟨S1x128x1024, .f32⟩
  | .hbm, ⟨9, _⟩ => ⟨S512, .i32⟩
  | .hbm, ⟨10, _⟩ => ⟨S512, .i1⟩
  | .hbm, ⟨11, _⟩ => ⟨S4096, .f32⟩
  | .hbm, ⟨12, _⟩ => ⟨S4096x1, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S1x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x128, .f32⟩
  | .hbm, ⟨36, _⟩ => ⟨S4096x32, .f32⟩
  | .hbm, ⟨37, _⟩ => ⟨S4096x32, .f32⟩
  | .hbm, ⟨38, _⟩ => ⟨S4096x128, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S1x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S_, .f32⟩
  | .hbm, ⟨62, _⟩ => ⟨S4096x64, .f32⟩
  | .hbm, ⟨63, _⟩ => ⟨S_, .f32⟩
  | .hbm, ⟨64, _⟩ => ⟨S4096x32, .f32⟩
  | .hbm, ⟨65, _⟩ => ⟨S4096x128, .f32⟩
  | .hbm, ⟨66, _⟩ => ⟨S_, .f32⟩
  | .hbm, ⟨67, _⟩ => ⟨S4096x64, .f32⟩
  | .hbm, ⟨68, _⟩ => ⟨S4096x64, .f32⟩
  | .hbm, ⟨69, _⟩ => ⟨S4096x16, .f32⟩
  | .hbm, ⟨70, _⟩ => ⟨S_, .f32⟩
  | .hbm, ⟨71, _⟩ => ⟨S4096x32, .f32⟩
  | .hbm, ⟨72, _⟩ => ⟨S4096x32, .f32⟩
  | .hbm, ⟨73, _⟩ => ⟨S4096x128, .f32⟩
  | .hbm, ⟨74, _⟩ => ⟨S1024x6144, .f32⟩
  | .hbm, ⟨75, _⟩ => ⟨S6144, .f32⟩
  | .hbm, ⟨76, _⟩ => ⟨S1x6144, .f32⟩
  | .hbm, ⟨77, _⟩ => ⟨S8x6144, .f32⟩
  | .hbm, ⟨78, _⟩ => ⟨S8x6x1024, .f32⟩
  | .hbm, ⟨79, _⟩ => ⟨S1024x1184, .f32⟩
  | .hbm, ⟨80, _⟩ => ⟨S_, .f32⟩
  | .hbm, ⟨81, _⟩ => ⟨S1024x96, .f32⟩
  | .hbm, ⟨82, _⟩ => ⟨S_, .i32⟩
  | .hbm, ⟨83, _⟩ => ⟨S512, .i32⟩
  | .hbm, ⟨84, _⟩ => ⟨S512, .i32⟩
  | .hbm, ⟨85, _⟩ => ⟨S512, .i32⟩
  | .hbm, ⟨86, _⟩ => ⟨S512x1, .i32⟩
  | .hbm, ⟨87, _⟩ => ⟨S1024x512, .f32⟩
  | .hbm, ⟨88, _⟩ => ⟨S1024x672, .f32⟩
  | .hbm, ⟨89, _⟩ => ⟨S1024x1280, .f32⟩
  | .hbm, ⟨90, _⟩ => ⟨S1024x1280, .bf16⟩
  | .hbm, ⟨91, _⟩ => ⟨S256x768, .f32⟩
  | .hbm, ⟨92, _⟩ => ⟨S256x8x96, .f32⟩
  | .hbm, ⟨93, _⟩ => ⟨S_, .i32⟩
  | .hbm, ⟨94, _⟩ => ⟨S_, .f32⟩
  | .hbm, ⟨95, _⟩ => ⟨S256x8x128, .f32⟩
  | .hbm, ⟨96, _⟩ => ⟨S256x1024, .f32⟩
  | .hbm, ⟨97, _⟩ => ⟨S256x1024, .bf16⟩
  | .hbm, ⟨98, _⟩ => ⟨S128x1024, .f32⟩
  | .hbm, ⟨99, _⟩ => ⟨S128x8x128, .f32⟩
  | .hbm, ⟨100, _⟩ => ⟨S128x8x64, .f32⟩
  | .hbm, ⟨101, _⟩ => ⟨S_, .i32⟩
  | .hbm, ⟨102, _⟩ => ⟨S_, .f32⟩
  | .hbm, ⟨103, _⟩ => ⟨S128x8x128, .f32⟩
  | .hbm, ⟨104, _⟩ => ⟨S128x1024, .f32⟩
  | .hbm, ⟨105, _⟩ => ⟨S128x1024, .bf16⟩
  | .hbm, ⟨106, _⟩ => ⟨S128x8x64, .f32⟩
  | .hbm, ⟨107, _⟩ => ⟨S_, .i32⟩
  | .hbm, ⟨108, _⟩ => ⟨S_, .f32⟩
  | .hbm, ⟨109, _⟩ => ⟨S128x8x128, .f32⟩
  | .hbm, ⟨110, _⟩ => ⟨S128x1024, .f32⟩
  | .hbm, ⟨111, _⟩ => ⟨S128x1024, .bf16⟩
  | .hbm, ⟨112, _⟩ => ⟨S256, .f32⟩
  | .hbm, ⟨113, _⟩ => ⟨S1x256, .f32⟩
  | .hbm, ⟨114, _⟩ => ⟨S128, .f32⟩
  | .hbm, ⟨115, _⟩ => ⟨S1x128, .f32⟩
  | .hbm, ⟨116, _⟩ => ⟨S8x4096x512, .bf16⟩
  | .hbm, ⟨117, _⟩ => ⟨S8x4096x128, .bf16⟩
  | .hbm, ⟨118, _⟩ => ⟨S8x4096x128, .bf16⟩
  | .hbm, ⟨119, _⟩ => ⟨S8x4096x1024, .bf16⟩
  | .hbm, ⟨120, _⟩ => ⟨S8x4096x1024, .bf16⟩
  | .hbm, ⟨121, _⟩ => ⟨S8x4096x1024, .bf16⟩
  | .hbm, ⟨122, _⟩ => ⟨S8x4096x512, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x6x1024, .f32⟩
  | .local _ .vmem, ⟨10, _⟩ => ⟨S1x6x1024, .f32⟩
  | .local _ .vmem, ⟨11, _⟩ => ⟨S1024x1280, .bf16⟩
  | .local _ .vmem, ⟨12, _⟩ => ⟨S1x256, .f32⟩
  | .local _ .vmem, ⟨13, _⟩ => ⟨S256x1024, .bf16⟩
  | .local _ .vmem, ⟨14, _⟩ => ⟨S1x128, .f32⟩
  | .local _ .vmem, ⟨15, _⟩ => ⟨S128x1024, .bf16⟩
  | .local _ .vmem, ⟨16, _⟩ => ⟨S128x1024, .bf16⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S1x512x512, .bf16⟩
  | .local _ .vmem, ⟨26, _⟩ => ⟨S1x512x512, .bf16⟩
  | .local _ .vmem, ⟨27, _⟩ => ⟨S1x512x128, .bf16⟩
  | .local _ .vmem, ⟨28, _⟩ => ⟨S1x512x128, .bf16⟩
  | .local _ .vmem, ⟨29, _⟩ => ⟨S1x512x128, .bf16⟩
  | .local _ .vmem, ⟨30, _⟩ => ⟨S1x512x128, .bf16⟩
  | .local _ .vmem, ⟨31, _⟩ => ⟨S1x512x1024, .bf16⟩
  | .local _ .vmem, ⟨32, _⟩ => ⟨S1x512x1024, .bf16⟩
  | .local _ .vmem, ⟨33, _⟩ => ⟨S1x512x1024, .bf16⟩
  | .local _ .vmem, ⟨34, _⟩ => ⟨S1x512x1024, .bf16⟩
  | .local _ .vmem, ⟨35, _⟩ => ⟨S1x512x1024, .bf16⟩
  | .local _ .vmem, ⟨36, _⟩ => ⟨S1x512x1024, .bf16⟩
  | .local _ .vmem, ⟨37, _⟩ => ⟨S1x256x512, .bf16⟩
  | .local _ .vmem, ⟨38, _⟩ => ⟨S1x256x512, .bf16⟩
  | .local _ .vmem, ⟨39, _⟩ => ⟨S1x4096x512, .bf16⟩
  | .local _ .vmem, ⟨40, _⟩ => ⟨S1x4096x512, .bf16⟩
  | .local _ .vmem, ⟨41, _⟩ => ⟨S1x4096x512, .bf16⟩
  | .local _ .vmem, ⟨42, _⟩ => ⟨S1x4096x512, .bf16⟩
  | .local _ .vmem, ⟨43, _⟩ => ⟨S1x256x256, .f32⟩
  | .local _ .vmem, ⟨44, _⟩ => ⟨S1x256x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_13 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_c_15 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_16 : Ref sig .tc := ⟨.hbm, 93, rfl⟩
abbrev main_call0_v0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_call1_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_18 : Ref sig .tc := ⟨.hbm, 107, rfl⟩
abbrev main_call2_v0 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83_0 : Ref sig .tc := ⟨.hbm, 116, rfl⟩
abbrev main_v83_1 : Ref sig .tc := ⟨.hbm, 117, rfl⟩
abbrev main_v83_2 : Ref sig .tc := ⟨.hbm, 118, rfl⟩
abbrev main_v83_3 : Ref sig .tc := ⟨.hbm, 119, rfl⟩
abbrev main_v83_4 : Ref sig .tc := ⟨.hbm, 120, rfl⟩
abbrev main_v83_5 : Ref sig .tc := ⟨.hbm, 121, rfl⟩
abbrev main_v84 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc1_stg12_0 : Ref sig .tc := ⟨.vmem, 25, rfl⟩
abbrev cc1_stg12_1 : Ref sig .tc := ⟨.vmem, 26, rfl⟩
abbrev cc1_stg13_0 : Ref sig .tc := ⟨.vmem, 27, rfl⟩
abbrev cc1_stg13_1 : Ref sig .tc := ⟨.vmem, 28, rfl⟩
abbrev cc1_stg14_0 : Ref sig .tc := ⟨.vmem, 29, rfl⟩
abbrev cc1_stg14_1 : Ref sig .tc := ⟨.vmem, 30, rfl⟩
abbrev cc1_stg15_0 : Ref sig .tc := ⟨.vmem, 31, rfl⟩
abbrev cc1_stg15_1 : Ref sig .tc := ⟨.vmem, 32, rfl⟩
abbrev cc1_stg16_0 : Ref sig .tc := ⟨.vmem, 33, rfl⟩
abbrev cc1_stg16_1 : Ref sig .tc := ⟨.vmem, 34, rfl⟩
abbrev cc1_stg17_0 : Ref sig .tc := ⟨.vmem, 35, rfl⟩
abbrev cc1_stg17_1 : Ref sig .tc := ⟨.vmem, 36, rfl⟩
abbrev cc2_stg0_0 : Ref sig .tc := ⟨.vmem, 37, rfl⟩
abbrev cc2_stg0_1 : Ref sig .tc := ⟨.vmem, 38, rfl⟩
abbrev cc2_stg1_0 : Ref sig .tc := ⟨.vmem, 39, rfl⟩
abbrev cc2_stg1_1 : Ref sig .tc := ⟨.vmem, 40, rfl⟩
abbrev cc2_stg2_0 : Ref sig .tc := ⟨.vmem, 41, rfl⟩
abbrev cc2_stg2_1 : Ref sig .tc := ⟨.vmem, 42, rfl⟩
abbrev cc2_stg3_0 : Ref sig .tc := ⟨.vmem, 43, rfl⟩
abbrev cc2_stg3_1 : Ref sig .tc := ⟨.vmem, 44, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev cc1_sem10_0 : DmaSem sig := 21
abbrev cc1_sem10_1 : DmaSem sig := 22
abbrev cc1_sem11_0 : DmaSem sig := 23
abbrev cc1_sem11_1 : DmaSem sig := 24
abbrev cc1_sem12_0 : DmaSem sig := 25
abbrev cc1_sem12_1 : DmaSem sig := 26
abbrev cc1_sem13_0 : DmaSem sig := 27
abbrev cc1_sem13_1 : DmaSem sig := 28
abbrev cc1_sem14_0 : DmaSem sig := 29
abbrev cc1_sem14_1 : DmaSem sig := 30
abbrev cc1_sem15_0 : DmaSem sig := 31
abbrev cc1_sem15_1 : DmaSem sig := 32
abbrev cc1_sem16_0 : DmaSem sig := 33
abbrev cc1_sem16_1 : DmaSem sig := 34
abbrev cc1_sem17_0 : DmaSem sig := 35
abbrev cc1_sem17_1 : DmaSem sig := 36
abbrev cc2_sem0_0 : DmaSem sig := 37
abbrev cc2_sem0_1 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc2_sem3_1 : DmaSem sig := 44

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_17 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x6x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1024x1280 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S512x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S512x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1x512x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x512x128 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x512x128 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x512x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x512x1024 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S1x512x1024 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev grid2 : Pipeline.Grid := ⟨3, ![8, 2, 16], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x4096x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x256x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]
-- ==== KernelIdeal.lean ====
variable {F : FTy → Type} [FloatOps F] [Named F]
def κ : String → Option EReal := fun
  | "mla_scale" => some (((Real.log 2)⁻¹ * (Real.sqrt 96)⁻¹ : ℝ) : EReal)
  | "swa_scale" => some (((Real.log 2)⁻¹ * 8⁻¹ : ℝ) : EReal)
  | _ => none
-- ==== ReferenceIdeal.lean ====
abbrev S8x4096x1024 : Shape := ⟨3, ![8, 4096, 1024]⟩
abbrev S8x1024 : Shape := ⟨2, ![8, 1024]⟩
abbrev S1x1024x6144 : Shape := ⟨3, ![1, 1024, 6144]⟩
abbrev S1x6144 : Shape := ⟨2, ![1, 6144]⟩
abbrev S1x1024x1184 : Shape := ⟨3, ![1, 1024, 1184]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩
abbrev S8x4096 : Shape := ⟨2, ![8, 4096]⟩
abbrev S8x4096x1 : Shape := ⟨3, ![8, 4096, 1]⟩
abbrev S8x1x1024 : Shape := ⟨3, ![8, 1, 1024]⟩
abbrev S1024x1184 : Shape := ⟨2, ![1024, 1184]⟩
abbrev S8x4096x1184 : Shape := ⟨3, ![8, 4096, 1184]⟩
abbrev S8x4096x256 : Shape := ⟨3, ![8, 4096, 256]⟩
abbrev S8x4096x128 : Shape := ⟨3, ![8, 4096, 128]⟩
abbrev S8x4096x32 : Shape := ⟨3, ![8, 4096, 32]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x1x256 : Shape := ⟨3, ![1, 1, 256]⟩
abbrev S8x4096x768 : Shape := ⟨3, ![8, 4096, 768]⟩
abbrev S8x4096x8x96 : Shape := ⟨4, ![8, 4096, 8, 96]⟩
abbrev S8x4096x8x64 : Shape := ⟨4, ![8, 4096, 8, 64]⟩
abbrev S8x4096x8x32 : Shape := ⟨4, ![8, 4096, 8, 32]⟩
abbrev S8x4096x8x16 : Shape := ⟨4, ![8, 4096, 8, 16]⟩
abbrev S1x4096x1x16 : Shape := ⟨4, ![1, 4096, 1, 16]⟩
abbrev S1x1x128 : Shape := ⟨3, ![1, 1, 128]⟩
abbrev S8x4096x8x128 : Shape := ⟨4, ![8, 4096, 8, 128]⟩
abbrev S8x4096x1x32 : Shape := ⟨4, ![8, 4096, 1, 32]⟩
abbrev S8x4096x1x16 : Shape := ⟨4, ![8, 4096, 1, 16]⟩
abbrev S8x8x4096x4096 : Shape := ⟨4, ![8, 8, 4096, 4096]⟩
abbrev S8x4096x4096x8 : Shape := ⟨4, ![8, 4096, 4096, 8]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩
abbrev S32 : Shape := ⟨1, ![32]⟩
abbrev S1x32 : Shape := ⟨2, ![1, 32]⟩
abbrev S4096x32 : Shape := ⟨2, ![4096, 32]⟩
abbrev S1x4096x1x32 : Shape := ⟨4, ![1, 4096, 1, 32]⟩
abbrev S8x4096x2x64 : Shape := ⟨4, ![8, 4096, 2, 64]⟩
abbrev S8x4096x2x32 : Shape := ⟨4, ![8, 4096, 2, 32]⟩
abbrev S8x4096x2x4x64 : Shape := ⟨5, ![8, 4096, 2, 4, 64]⟩
abbrev S8x4096x4x2x64 : Shape := ⟨5, ![8, 4096, 4, 2, 64]⟩

abbrev nBuf : Space → Nat
  | .hbm => 259
  | .vmem => 0
  | .smem => 0
  | _ => 0

abbrev hbmTy0_0 (i : Nat) : BufTy := match i % 128 with
  | 0 => ⟨S8x4096x1024, .f32⟩
  | 1 => ⟨S8x1024, .f32⟩
  | 2 => ⟨S1x1024x6144, .f32⟩
  | 3 => ⟨S1x6144, .f32⟩
  | 4 => ⟨S1x1024x1184, .f32⟩
  | 5 => ⟨S1x256, .f32⟩
  | 6 => ⟨S1x256x768, .f32⟩
  | 7 => ⟨S1x128, .f32⟩
  | 8 => ⟨S1x128x1024, .f32⟩
  | 9 => ⟨S8x1024, .f32⟩
  | 10 => ⟨S8x1024, .f32⟩
  | 11 => ⟨S_, .f32⟩
  | 12 => ⟨S8x1024, .f32⟩
  | 13 => ⟨S8x1024, .f32⟩
  | 14 => ⟨S_, .f32⟩
  | 15 => ⟨S8x1024, .f32⟩
  | 16 => ⟨S8x1024, .f32⟩
  | 17 => ⟨S8x1024, .f32⟩
  | 18 => ⟨S1024x6144, .f32⟩
  | 19 => ⟨S8x6144, .f32⟩
  | 20 => ⟨S6144, .f32⟩
  | 21 => ⟨S1x6144, .f32⟩
  | 22 => ⟨S8x6144, .f32⟩
  | 23 => ⟨S8x6144, .f32⟩
  | 24 => ⟨S8x1024, .f32⟩
  | 25 => ⟨S8x1024, .f32⟩
  | 26 => ⟨S8x1024, .f32⟩
  | 27 => ⟨S8x1024, .f32⟩
  | 28 => ⟨S8x1024, .f32⟩
  | 29 => ⟨S8x1024, .f32⟩
  | 30 => ⟨S8x4096x1024, .f32⟩
  | 31 => ⟨S_, .f32⟩
  | 32 => ⟨S8x4096, .f32⟩
  | 33 => ⟨S8x4096x1, .f32⟩
  | 34 => ⟨S_, .f32⟩
  | 35 => ⟨S8x4096x1, .f32⟩
  | 36 => ⟨S8x4096x1, .f32⟩
  | 37 => ⟨S_, .f32⟩
  | 38 => ⟨S8x4096x1, .f32⟩
  | 39 => ⟨S8x4096x1, .f32⟩
  | 40 => ⟨S8x4096x1, .f32⟩
  | 41 => ⟨S8x4096x1024, .f32⟩
  | 42 => ⟨S8x4096x1024, .f32⟩
  | 43 => ⟨S8x1x1024, .f32⟩
  | 44 => ⟨S_, .f32⟩
  | 45 => ⟨S8x1x1024, .f32⟩
  | 46 => ⟨S8x1x1024, .f32⟩
  | 47 => ⟨S8x4096x1024, .f32⟩
  | 48 => ⟨S8x4096x1024, .f32⟩
  | 49 => ⟨S8x1x1024, .f32⟩
  | 50 => ⟨S8x4096x1024, .f32⟩
  | 51 => ⟨S8x4096x1024, .f32⟩
  | 52 => ⟨S1024x1184, .f32⟩
  | 53 => ⟨S8x4096x1184, .f32⟩
  | 54 => ⟨S8x4096x256, .f32⟩
  | 55 => ⟨S8x4096x128, .f32⟩
  | 56 => ⟨S8x4096x32, .f32⟩
  | 57 => ⟨S256, .f32⟩
  | 58 => ⟨S256x768, .f32⟩
  | 59 => ⟨S128, .f32⟩
  | 60 => ⟨S128x1024, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S4096, .f32⟩
  | 78 => ⟨S4096x1, .f32⟩
  | 79 => ⟨S1x16, .f32⟩
  | 80 => ⟨S4096x16, .f32⟩
  | 81 => ⟨S4096x16, .f32⟩
  | 82 => ⟨S4096x16, .f32⟩
  | 83 => ⟨S4096x16, .f32⟩
  | 84 => ⟨S4096x16, .f32⟩
  | 85 => ⟨S8x4096x256, .f32⟩
  | 86 => ⟨S_, .f32⟩
  | 87 => ⟨S8x4096, .f32⟩
  | 88 => ⟨S8x4096x1, .f32⟩
  | 89 => ⟨S_, .f32⟩
  | 90 => ⟨S8x4096x1, .f32⟩
  | 91 => ⟨S8x4096x1, .f32⟩
  | 92 => ⟨S_, .f32⟩
  | 93 => ⟨S8x4096x1, .f32⟩
  | 94 => ⟨S8x4096x1, .f32⟩
  | 95 => ⟨S8x4096x1, .f32⟩
  | 96 => ⟨S8x4096x256, .f32⟩
  | 97 => ⟨S8x4096x256, .f32⟩
  | 98 => ⟨S1x1x256, .f32⟩
  | 99 => ⟨S8x4096x256, .f32⟩
  | 100 => ⟨S8x4096x256, .f32⟩
  | 101 => ⟨S8x4096x768, .f32⟩
  | 102 => ⟨S8x4096x8x96, .f32⟩
  | 103 => ⟨S8x4096x8x64, .f32⟩
  | 104 => ⟨S8x4096x8x32, .f32⟩
  | 105 => ⟨S8x4096x8x16, .f32⟩
  | 106 => ⟨S8x4096x8x16, .f32⟩
  | 107 => ⟨S1x4096x1x16, .f32⟩
  | 108 => ⟨S1x4096x1x16, .f32⟩
  | 109 => ⟨S8x4096x8x16, .f32⟩
  | 110 => ⟨S8x4096x8x16, .f32⟩
  | 111 => ⟨S8x4096x8x16, .f32⟩
  | 112 => ⟨S8x4096x8x16, .f32⟩
  | 113 => ⟨S8x4096x8x16, .f32⟩
  | 114 => ⟨S8x4096x8x16, .f32⟩
  | 115 => ⟨S8x4096x8x16, .f32⟩
  | 116 => ⟨S8x4096x8x16, .f32⟩
  | 117 => ⟨S8x4096x8x16, .f32⟩
  | 118 => ⟨S8x4096x8x16, .f32⟩
  | 119 => ⟨S8x4096x8x32, .f32⟩
  | 120 => ⟨S8x4096x128, .f32⟩
  | 121 => ⟨S_, .f32⟩
  | 122 => ⟨S8x4096, .f32⟩
  | 123 => ⟨S8x4096x1, .f32⟩
  | 124 => ⟨S_, .f32⟩
  | 125 => ⟨S8x4096x1, .f32⟩
  | 126 => ⟨S8x4096x1, .f32⟩
  | 127 => ⟨S_, .f32⟩
  | _ => ⟨S8x4096x1024, .f32⟩

abbrev hbmTy0_1 (i : Nat) : BufTy := match i % 128 with
  | 0 => ⟨S8x4096x1, .f32⟩
  | 1 => ⟨S8x4096x1, .f32⟩
  | 2 => ⟨S8x4096x1, .f32⟩
  | 3 => ⟨S8x4096x128, .f32⟩
  | 4 => ⟨S8x4096x128, .f32⟩
  | 5 => ⟨S1x1x128, .f32⟩
  | 6 => ⟨S8x4096x128, .f32⟩
  | 7 => ⟨S8x4096x128, .f32⟩
  | 8 => ⟨S8x4096x1024, .f32⟩
  | 9 => ⟨S8x4096x8x128, .f32⟩
  | 10 => ⟨S8x4096x8x64, .f32⟩
  | 11 => ⟨S8x4096x8x64, .f32⟩
  | 12 => ⟨S8x4096x1x32, .f32⟩
  | 13 => ⟨S8x4096x1x16, .f32⟩
  | 14 => ⟨S8x4096x1x16, .f32⟩
  | 15 => ⟨S1x4096x1x16, .f32⟩
  | 16 => ⟨S1x4096x1x16, .f32⟩
  | 17 => ⟨S8x4096x1x16, .f32⟩
  | 18 => ⟨S8x4096x1x16, .f32⟩
  | 19 => ⟨S8x4096x1x16, .f32⟩
  | 20 => ⟨S8x4096x1x16, .f32⟩
  | 21 => ⟨S8x4096x1x16, .f32⟩
  | 22 => ⟨S8x4096x1x16, .f32⟩
  | 23 => ⟨S8x4096x1x16, .f32⟩
  | 24 => ⟨S8x4096x1x16, .f32⟩
  | 25 => ⟨S8x4096x1x16, .f32⟩
  | 26 => ⟨S8x4096x1x16, .f32⟩
  | 27 => ⟨S8x4096x1x32, .f32⟩
  | 28 => ⟨S8x4096x32, .f32⟩
  | 29 => ⟨S_, .f32⟩
  | 30 => ⟨S_, .f32⟩
  | 31 => ⟨S_, .f32⟩
  | 32 => ⟨S_, .f32⟩
  | 33 => ⟨S8x8x4096x4096, .f32⟩
  | 34 => ⟨S8x4096x4096x8, .f32⟩
  | 35 => ⟨S8x8x4096x4096, .f32⟩
  | 36 => ⟨S8x8x4096x4096, .f32⟩
  | 37 => ⟨S8x8x4096x4096, .f32⟩
  | 38 => ⟨S8x8x4096x4096, .f32⟩
  | 39 => ⟨S_, .f32⟩
  | 40 => ⟨S8x8x4096, .f32⟩
  | 41 => ⟨S_, .f32⟩
  | 42 => ⟨S8x8x4096, .f32⟩
  | 43 => ⟨S8x8x4096, .f32⟩
  | 44 => ⟨S8x8x4096x1, .f32⟩
  | 45 => ⟨S8x8x4096x4096, .f32⟩
  | 46 => ⟨S8x8x4096x4096, .f32⟩
  | 47 => ⟨S8x8x4096x4096, .f32⟩
  | 48 => ⟨S_, .f32⟩
  | 49 => ⟨S8x8x4096, .f32⟩
  | 50 => ⟨S8x8x4096x1, .f32⟩
  | 51 => ⟨S8x8x4096x4096, .f32⟩
  | 52 => ⟨S8x8x4096x4096, .f32⟩
  | 53 => ⟨S8x8x64x4096, .f32⟩
  | 54 => ⟨S8x4096x8x64, .f32⟩
  | 55 => ⟨S8x4096x512, .f32⟩
  | 56 => ⟨S8x4096x512, .f32⟩
  | 57 => ⟨S8x4096x128, .f32⟩
  | 58 => ⟨S8x4096x128, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S4096, .f32⟩
  | 76 => ⟨S4096x1, .f32⟩
  | 77 => ⟨S1x32, .f32⟩
  | 78 => ⟨S4096x32, .f32⟩
  | 79 => ⟨S4096x32, .f32⟩
  | 80 => ⟨S4096x32, .f32⟩
  | 81 => ⟨S4096x32, .f32⟩
  | 82 => ⟨S4096x32, .f32⟩
  | 83 => ⟨S8x4096x8x64, .f32⟩
  | 84 => ⟨S8x4096x8x32, .f32⟩
  | 85 => ⟨S8x4096x8x32, .f32⟩
  | 86 => ⟨S1x4096x1x32, .f32⟩
  | 87 => ⟨S1x4096x1x32, .f32⟩
  | 88 => ⟨S8x4096x8x32, .f32⟩
  | 89 => ⟨S8x4096x8x32, .f32⟩
  | 90 => ⟨S8x4096x8x32, .f32⟩
  | 91 => ⟨S8x4096x8x32, .f32⟩
  | 92 => ⟨S8x4096x8x32, .f32⟩
  | 93 => ⟨S8x4096x8x32, .f32⟩
  | 94 => ⟨S8x4096x8x32, .f32⟩
  | 95 => ⟨S8x4096x8x32, .f32⟩
  | 96 => ⟨S8x4096x8x32, .f32⟩
  | 97 => ⟨S8x4096x8x32, .f32⟩
  | 98 => ⟨S8x4096x8x64, .f32⟩
  | 99 => ⟨S8x4096x2x64, .f32⟩
  | 100 => ⟨S8x4096x2x32, .f32⟩
  | 101 => ⟨S8x4096x2x32, .f32⟩
  | 102 => ⟨S1x4096x1x32, .f32⟩
  | 103 => ⟨S1x4096x1x32, .f32⟩
  | 104 => ⟨S8x4096x2x32, .f32⟩
  | 105 => ⟨S8x4096x2x32, .f32⟩
  | 106 => ⟨S8x4096x2x32, .f32⟩
  | 107 => ⟨S8x4096x2x32, .f32⟩
  | 108 => ⟨S8x4096x2x32, .f32⟩
  | 109 => ⟨S8x4096x2x32, .f32⟩
  | 110 => ⟨S8x4096x2x32, .f32⟩
  | 111 => ⟨S8x4096x2x32, .f32⟩
  | 112 => ⟨S8x4096x2x32, .f32⟩
  | 113 => ⟨S8x4096x2x32, .f32⟩
  | 114 => ⟨S8x4096x2x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S8x4096x2x4x64, .f32⟩
  | 123 => ⟨S8x4096x4x2x64, .f32⟩
  | 124 => ⟨S8x4096x512, .f32⟩
  | 125 => ⟨S8x4096x512, .f32⟩
  | 126 => ⟨S8x4096x512, .f32⟩
  | 127 => ⟨S8x4096x512, .bf16⟩
  | _ => ⟨S8x4096x1024, .f32⟩

abbrev hbmTy0_2 (i : Nat) : BufTy := match i % 128 with
  | 0 => ⟨S8x4096x128, .f32⟩
  | 1 => ⟨S8x4096x128, .bf16⟩
  | 2 => ⟨S8x4096x128, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_11 : Ref sig .tc := ⟨.hbm, 121, rfl⟩
abbrev main_v92 : Ref sig .tc := ⟨.hbm, 122, rfl⟩
abbrev main_v93 : Ref sig .tc := ⟨.hbm, 123, rfl⟩
abbrev main_cst_12 : Ref sig .tc := ⟨.hbm, 124, rfl⟩
abbrev main_v94 : Ref sig .tc := ⟨.hbm, 125, rfl⟩
abbrev main_v95 : Ref sig .tc := ⟨.hbm, 126, rfl⟩
abbrev main_cst_13 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_14 : Ref sig .tc := ⟨.hbm, 157, rfl⟩
abbrev main_v125 : Ref sig .tc := ⟨.hbm, 158, rfl⟩
abbrev main_cst_15 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_cst_16 : Ref sig .tc := ⟨.hbm, 167, rfl⟩
abbrev main_v133 : Ref sig .tc := ⟨.hbm, 168, rfl⟩
abbrev main_cst_17 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_18 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_cst_19 : Ref sig .tc := ⟨.hbm, 188, rfl⟩
abbrev main_v151 : Ref sig .tc := ⟨.hbm, 189, rfl⟩
abbrev main_v152 : Ref sig .tc := ⟨.hbm, 190, rfl⟩
abbrev main_cst_20 : Ref sig .tc := ⟨.hbm, 191, rfl⟩
abbrev main_v153 : Ref sig .tc := ⟨.hbm, 192, rfl⟩
abbrev main_v154 : Ref sig .tc := ⟨.hbm, 193, rfl⟩
abbrev main_cst_21 : Ref sig .tc := ⟨.hbm, 194, rfl⟩
abbrev main_v155 : Ref sig .tc := ⟨.hbm, 195, rfl⟩
abbrev main_v156 : Ref sig .tc := ⟨.hbm, 196, rfl⟩
abbrev main_cst_22 : Ref sig .tc := ⟨.hbm, 197, rfl⟩
abbrev main_v157 : Ref sig .tc := ⟨.hbm, 198, rfl⟩
abbrev main_v158 : Ref sig .tc := ⟨.hbm, 199, rfl⟩
abbrev main_cst_23 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_cst_24 : Ref sig .tc := ⟨.hbm, 243, rfl⟩
abbrev main_v201 : Ref sig .tc := ⟨.hbm, 244, rfl⟩
abbrev main_cst_25 : Ref sig .tc := ⟨.hbm, 245, rfl⟩
abbrev main_v202 : Ref sig .tc := ⟨.hbm, 246, rfl⟩
abbrev main_v203 : Ref sig .tc := ⟨.hbm, 247, rfl⟩
abbrev main_cst_26 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩

abbrev nD : Nat := 1
abbrev τ : Topo := Topo.v7x

variable {F : FTy → Type} [FloatOps F]
-- ==== Kernel2.lean ====
abbrev S8x4096x512 : Shape := ⟨3, ![8, 4096, 512]⟩
abbrev S8x4096x1024 : Shape := ⟨3, ![8, 4096, 1024]⟩
abbrev S8x6144 : Shape := ⟨2, ![8, 6144]⟩
abbrev S1x512 : Shape := ⟨2, ![1, 512]⟩
abbrev S1x1024x1024 : Shape := ⟨3, ![1, 1024, 1024]⟩
abbrev S512 : Shape := ⟨1, ![512]⟩
abbrev S8x6x1024 : Shape := ⟨3, ![8, 6, 1024]⟩
abbrev S1024x1024 : Shape := ⟨2, ![1024, 1024]⟩
abbrev S_ : Shape := ⟨0, ![]⟩
abbrev S512x1 : Shape := ⟨2, ![512, 1]⟩
abbrev S512x1024 : Shape := ⟨2, ![512, 1024]⟩
abbrev S1024x32768 : Shape := ⟨2, ![1024, 32768]⟩
abbrev S1x512x512 : Shape := ⟨3, ![1, 512, 512]⟩
abbrev S1x512x1024 : Shape := ⟨3, ![1, 512, 1024]⟩
abbrev S1x6x1024 : Shape := ⟨3, ![1, 6, 1024]⟩
abbrev S1024x512 : Shape := ⟨2, ![1024, 512]⟩
abbrev S512x512 : Shape := ⟨2, ![512, 512]⟩
abbrev S1x1x1024 : Shape := ⟨3, ![1, 1, 1024]⟩
abbrev S1x1024 : Shape := ⟨2, ![1, 1024]⟩

abbrev nBuf : Space → Nat
  | .hbm => 33
  | .vmem => 15
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x6144, .f32⟩
  | .hbm, ⟨4, _⟩ => ⟨S1x512, .f32⟩
  | .hbm, ⟨5, _⟩ => ⟨S1x512, .f32⟩
  | .hbm, ⟨6, _⟩ => ⟨S1x1024x1024, .f32⟩
  | .hbm, ⟨7, _⟩ => ⟨S512, .i32⟩
  | .hbm, ⟨8, _⟩ => ⟨S512, .i1⟩
  | .hbm, ⟨9, _⟩ => ⟨S512, .i1⟩
  | .hbm, ⟨10, _⟩ => ⟨S8x6x1024, .f32⟩
  | .hbm, ⟨11, _⟩ => ⟨S1024x1024, .f32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S512x1, .i32⟩
  | .hbm, ⟨17, _⟩ => ⟨S512x1024, .f32⟩
  | .hbm, ⟨18, _⟩ => ⟨S512x1024, .f32⟩
  | .hbm, ⟨19, _⟩ => ⟨S1024x1024, .f32⟩
  | .hbm, ⟨20, _⟩ => ⟨S1024x1024, .bf16⟩
  | .hbm, ⟨21, _⟩ => ⟨S512, .f32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S8x4096x1024, .f32⟩
  | .hbm, ⟨32, _⟩ => ⟨S1024x32768, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1024x512, .bf16⟩
  | .local _ .vmem, ⟨14, _⟩ => ⟨S1024x512, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v0 : Ref sig .tc := ⟨.hbm, 10, rfl⟩
abbrev main_v1 : Ref sig .tc := ⟨.hbm, 11, rfl⟩
abbrev main_c_2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![c0_i32.toNat, v1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x4096x512 : Shape := ⟨3, ![8, 4096, 512]⟩
abbrev S8x4096x1024 : Shape := ⟨3, ![8, 4096, 1024]⟩
abbrev S8x6144 : Shape := ⟨2, ![8, 6144]⟩
abbrev S1x512 : Shape := ⟨2, ![1, 512]⟩
abbrev S1x1024x1024 : Shape := ⟨3, ![1, 1024, 1024]⟩
abbrev S8x1024 : Shape := ⟨2, ![8, 1024]⟩
abbrev S8x4096x4x2x64 : Shape := ⟨5, ![8, 4096, 4, 2, 64]⟩
abbrev S8x4096x2x4x64 : Shape := ⟨5, ![8, 4096, 2, 4, 64]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S8x1x1024 : Shape := ⟨3, ![8, 1, 1024]⟩
abbrev S1024x1024 : Shape := ⟨2, ![1024, 1024]⟩
abbrev S32768x1024 : Shape := ⟨2, ![32768, 1024]⟩
abbrev S1024x32768 : Shape := ⟨2, ![1024, 32768]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x6144, .f32⟩
  | .hbm, ⟨4, _⟩ => ⟨S1x512, .f32⟩
  | .hbm, ⟨5, _⟩ => ⟨S1x512, .f32⟩
  | .hbm, ⟨6, _⟩ => ⟨S1x1024x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x4096x4x2x64, .f32⟩
  | .hbm, ⟨14, _⟩ => ⟨S8x4096x2x4x64, .f32⟩
  | .hbm, ⟨15, _⟩ => ⟨S8x4096x512, .f32⟩
  | .hbm, ⟨16, _⟩ => ⟨S512, .f32⟩
  | .hbm, ⟨17, _⟩ => ⟨S8x4096x512, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x512, .f32⟩
  | .hbm, ⟨29, _⟩ => ⟨S8x4096x512, .f32⟩
  | .hbm, ⟨30, _⟩ => ⟨S1x1x512, .f32⟩
  | .hbm, ⟨31, _⟩ => ⟨S8x4096x512, .f32⟩
  | .hbm, ⟨32, _⟩ => ⟨S8x4096x512, .f32⟩
  | .hbm, ⟨33, _⟩ => ⟨S512, .f32⟩
  | .hbm, ⟨34, _⟩ => ⟨S8x4096x512, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x512, .f32⟩
  | .hbm, ⟨46, _⟩ => ⟨S8x4096x512, .f32⟩
  | .hbm, ⟨47, _⟩ => ⟨S1x1x512, .f32⟩
  | .hbm, ⟨48, _⟩ => ⟨S8x4096x512, .f32⟩
  | .hbm, ⟨49, _⟩ => ⟨S8x4096x512, .f32⟩
  | .hbm, ⟨50, _⟩ => ⟨S8x4096x1024, .f32⟩
  | .hbm, ⟨51, _⟩ => ⟨S8x1x1024, .f32⟩
  | .hbm, ⟨52, _⟩ => ⟨S1024x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1, .f32⟩
  | .hbm, ⟨68, _⟩ => ⟨S8x4096x1024, .f32⟩
  | .hbm, ⟨69, _⟩ => ⟨S8x4096x1024, .f32⟩
  | .hbm, ⟨70, _⟩ => ⟨S8x1x1024, .f32⟩
  | .hbm, ⟨71, _⟩ => ⟨S_, .f32⟩
  | .hbm, ⟨72, _⟩ => ⟨S8x1x1024, .f32⟩
  | .hbm, ⟨73, _⟩ => ⟨S8x1x1024, .f32⟩
  | .hbm, ⟨74, _⟩ => ⟨S8x4096x1024, .f32⟩
  | .hbm, ⟨75, _⟩ => ⟨S8x4096x1024, .f32⟩
  | .hbm, ⟨76, _⟩ => ⟨S8x1x1024, .f32⟩
  | .hbm, ⟨77, _⟩ => ⟨S8x4096x1024, .f32⟩
  | .hbm, ⟨78, _⟩ => ⟨S8x4096x1024, .f32⟩
  | .hbm, ⟨79, _⟩ => ⟨S32768x1024, .f32⟩
  | .hbm, ⟨80, _⟩ => ⟨S1024x32768, .f32⟩
  | .hbm, ⟨81, _⟩ => ⟨S1024x32768, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Kernel3.lean ====
abbrev S8x4096x512 : Shape := ⟨3, ![8, 4096, 512]⟩
abbrev S8x4096x128 : Shape := ⟨3, ![8, 4096, 128]⟩
abbrev S1x8 : Shape := ⟨2, ![1, 8]⟩
abbrev S8 : Shape := ⟨1, ![8]⟩
abbrev S_ : Shape := ⟨0, ![]⟩
abbrev S8x1 : Shape := ⟨2, ![8, 1]⟩
abbrev S1x256x512 : Shape := ⟨3, ![1, 256, 512]⟩
abbrev S1x128x128 : Shape := ⟨3, ![1, 128, 128]⟩
abbrev S1x256x128 : Shape := ⟨3, ![1, 256, 128]⟩
abbrev S128x128 : Shape := ⟨2, ![128, 128]⟩
abbrev S256x128 : Shape := ⟨2, ![256, 128]⟩
abbrev S512x128 : Shape := ⟨2, ![512, 128]⟩
abbrev S256x512 : Shape := ⟨2, ![256, 512]⟩
abbrev S1x128 : Shape := ⟨2, ![1, 128]⟩
abbrev S1 : Shape := ⟨1, ![1]⟩
abbrev S256 : Shape := ⟨1, ![256]⟩
abbrev S256x1 : Shape := ⟨2, ![256, 1]⟩

abbrev nBuf : Space → Nat
  | .hbm => 14
  | .vmem => 16
  | .smem => 1
  | _ => 0

abbrev bufTy : (tb : Table) → Fin (tcTables nBuf tb) → BufTy
  | .hbm, ⟨0, _⟩ => ⟨S8x4096x512, .bf16⟩
  | .hbm, ⟨1, _⟩ => ⟨S8x4096x128, .bf16⟩
  | .hbm, ⟨2, _⟩ => ⟨S8x4096x128, .bf16⟩
  | .hbm, ⟨3, _⟩ => ⟨S1x8, .f32⟩
  | .hbm, ⟨4, _⟩ => ⟨S8, .i32⟩
  | .hbm, ⟨5, _⟩ => ⟨S8, .i1⟩
  | .hbm, ⟨6, _⟩ => ⟨S8, .f32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S8, .i32⟩
  | .hbm, ⟨11, _⟩ => ⟨S8x1, .i32⟩
  | .hbm, ⟨12, _⟩ => ⟨S8, .f32⟩
  | .hbm, ⟨13, _⟩ => ⟨S8x4096x512, .f32⟩
  | .local _ .vmem, ⟨0, _⟩ => ⟨S1x256x512, .bf16⟩
  | .local _ .vmem, ⟨1, _⟩ => ⟨S1x256x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x256x512, .f32⟩
  | .local _ .vmem, ⟨15, _⟩ => ⟨S1x256x512, .f32⟩
  | .local _ .smem, ⟨0, _⟩ => ⟨S8, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel3Ideal.lean ====
variable {F : FTy → Type} [FloatOps F] [Named F]
def κ : String → Option EReal := fun
  | "log2e" => some (((Real.log 2)⁻¹ : ℝ) : EReal)
  | "mask" => some ⊥
  | _ => none
-- ==== Reference3Ideal.lean ====
abbrev S8x4096x512 : Shape := ⟨3, ![8, 4096, 512]⟩
abbrev S8x4096x128 : Shape := ⟨3, ![8, 4096, 128]⟩
abbrev S1x8 : Shape := ⟨2, ![1, 8]⟩
abbrev S8x4096x4x2x64 : Shape := ⟨5, ![8, 4096, 4, 2, 64]⟩
abbrev S8x4096x2x64 : Shape := ⟨4, ![8, 4096, 2, 64]⟩
abbrev S8x2x4096x4096x4 : Shape := ⟨5, ![8, 2, 4096, 4096, 4]⟩
abbrev S8x4x2x4096x4096 : Shape := ⟨5, ![8, 4, 2, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x1x4096x4096 : Shape := ⟨5, ![1, 1, 1, 4096, 4096]⟩
abbrev S8 : Shape := ⟨1, ![8]⟩
abbrev S2x4 : Shape := ⟨2, ![2, 4]⟩
abbrev S4x2 : Shape := ⟨2, ![4, 2]⟩
abbrev S1x4x2x1x1 : Shape := ⟨5, ![1, 4, 2, 1, 1]⟩
abbrev S8x4x2x4096x1 : Shape := ⟨5, ![8, 4, 2, 4096, 1]⟩
abbrev S8x4x2x4096x4097 : Shape := ⟨5, ![8, 4, 2, 4096, 4097]⟩
abbrev S8x4x2x4096 : Shape := ⟨4, ![8, 4, 2, 4096]⟩
abbrev S8x2x64x4x4096 : Shape := ⟨5, ![8, 2, 64, 4, 4096]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x128, .bf16⟩
  | .hbm, ⟨2, _⟩ => ⟨S8x4096x128, .bf16⟩
  | .hbm, ⟨3, _⟩ => ⟨S1x8, .f32⟩
  | .hbm, ⟨4, _⟩ => ⟨S8x4096x512, .f32⟩
  | .hbm, ⟨5, _⟩ => ⟨S8x4096x4x2x64, .f32⟩
  | .hbm, ⟨6, _⟩ => ⟨S8x4096x128, .f32⟩
  | .hbm, ⟨7, _⟩ => ⟨S8x4096x2x64, .f32⟩
  | .hbm, ⟨8, _⟩ => ⟨S8x4096x128, .f32⟩
  | .hbm, ⟨9, _⟩ => ⟨S8x4096x2x64, .f32⟩
  | .hbm, ⟨10, _⟩ => ⟨S8x2x4096x4096x4, .f32⟩
  | .hbm, ⟨11, _⟩ => ⟨S8x4x2x4096x4096, .f32⟩
  | .hbm, ⟨12, _⟩ => ⟨S_, .f32⟩
  | .hbm, ⟨13, _⟩ => ⟨S_, .f32⟩
  | .hbm, ⟨14, _⟩ => ⟨S8x4x2x4096x4096, .f32⟩
  | .hbm, ⟨15, _⟩ => ⟨S8x4x2x4096x4096, .f32⟩
  | .hbm, ⟨16, _⟩ => ⟨S4096, .i32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S_, .i32⟩
  | .hbm, ⟨25, _⟩ => ⟨S4096x4096, .i32⟩
  | .hbm, ⟨26, _⟩ => ⟨S4096x4096, .i1⟩
  | .hbm, ⟨27, _⟩ => ⟨S1x1x1x4096x4096, .i1⟩
  | .hbm, ⟨28, _⟩ => ⟨S_, .f32⟩
  | .hbm, ⟨29, _⟩ => ⟨S_, .f32⟩
  | .hbm, ⟨30, _⟩ => ⟨S8x4x2x4096x4096, .i1⟩
  | .hbm, ⟨31, _⟩ => ⟨S8x4x2x4096x4096, .f32⟩
  | .hbm, ⟨32, _⟩ => ⟨S8x4x2x4096x4096, .f32⟩
  | .hbm, ⟨33, _⟩ => ⟨S8, .f32⟩
  | .hbm, ⟨34, _⟩ => ⟨S2x4, .f32⟩
  | .hbm, ⟨35, _⟩ => ⟨S4x2, .f32⟩
  | .hbm, ⟨36, _⟩ => ⟨S1x4x2x1x1, .f32⟩
  | .hbm, ⟨37, _⟩ => ⟨S8x4x2x4096x1, .f32⟩
  | .hbm, ⟨38, _⟩ => ⟨S8x4x2x4096x4097, .f32⟩
  | .hbm, ⟨39, _⟩ => ⟨S_, .f32⟩
  | .hbm, ⟨40, _⟩ => ⟨S8x4x2x4096, .f32⟩
  | .hbm, ⟨41, _⟩ => ⟨S_, .f32⟩
  | .hbm, ⟨42, _⟩ => ⟨S8x4x2x4096, .f32⟩
  | .hbm, ⟨43, _⟩ => ⟨S8x4x2x4096, .f32⟩
  | .hbm, ⟨44, _⟩ => ⟨S8x4x2x4096x1, .f32⟩
  | .hbm, ⟨45, _⟩ => ⟨S8x4x2x4096x4097, .f32⟩
  | .hbm, ⟨46, _⟩ => ⟨S8x4x2x4096x4097, .f32⟩
  | .hbm, ⟨47, _⟩ => ⟨S8x4x2x4096x4097, .f32⟩
  | .hbm, ⟨48, _⟩ => ⟨S_, .f32⟩
  | .hbm, ⟨49, _⟩ => ⟨S8x4x2x4096, .f32⟩
  | .hbm, ⟨50, _⟩ => ⟨S8x4x2x4096x1, .f32⟩
  | .hbm, ⟨51, _⟩ => ⟨S8x4x2x4096x4097, .f32⟩
  | .hbm, ⟨52, _⟩ => ⟨S8x4x2x4096x4097, .f32⟩
  | .hbm, ⟨53, _⟩ => ⟨S8x4x2x4096x4096, .f32⟩
  | .hbm, ⟨54, _⟩ => ⟨S8x2x64x4x4096, .f32⟩
  | .hbm, ⟨55, _⟩ => ⟨S8x4096x4x2x64, .f32⟩
  | .hbm, ⟨56, _⟩ => ⟨S8x4096x512, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Proof.MlaPay.lean ====
/-
  The attention kernel's vector code read at an index, over the extended reals: the scores of a query row against the
  4096 keys, the base-two exponentials of the scores less their maximum, and the sums of those weighted by a lane of the
  values.
-/
module

public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.Proof

open Idealize.ShloMosaic Cert.KernelIdeal Cert.KernelIdeal.Gen

/-- The score of a query row against key `k`: the sum over the 128 lanes. -/
def rowScore (q : Fin 128 → EReal) (key : Fin 4096 → Fin 128 → EReal) (k : Fin 4096) : EReal :=
  ∑ l : Fin 128, q l * key k l

/-- The unnormalized weight of key `k`. -/
def rowWeight (q : Fin 128 → EReal) (key : Fin 4096 → Fin 128 → EReal) (k : Fin 4096) : EReal :=
  Ideal.exp2 (rowScore q key k - Finset.univ.fold max ⊥ (rowScore q key))

/-- The weights' sum against the values of one lane. -/
def rowSum (q : Fin 128 → EReal) (key : Fin 4096 → Fin 128 → EReal) (w : Fin 4096 → EReal) : EReal :=
  ∑ k : Fin 4096, rowWeight q key k * w k

theorem negInf_bits : Ideal.ofBits .f32 0xFF800000#32 = ⊥ := by
  norm_num [Ideal.ofBits, Ideal.ieee]
  rw [if_pos (by decide), if_pos (by decide)]

theorem pay7_apply (q : Vec Ideal S1x256x128 .bf16) (key : Vec Ideal S1x4096x128 .bf16) (r : Fin 256) (k : Fin 4096) :
    k2_pay7 (F := Ideal) q key (ix2 r k)
      = rowWeight (fun l => q (ix3 0 r l)) (fun k l => key (ix3 0 k l)) k := by
  unfold k2_pay7
  pointwise [rowWeight, rowScore, negInf_bits]
  rfl

theorem pay3_apply (q : Vec Ideal S1x256x128 .bf16) (key w : Vec Ideal S1x4096x128 .bf16) (r : Fin 256) (l : Fin 128) :
    k2_pay3 (F := Ideal) q key w (ix2 r l)
      = rowSum (fun l => q (ix3 0 r l)) (fun k l => key (ix3 0 k l)) (fun k => w (ix3 0 k l)) := by
  unfold k2_pay3
  pointwise [rowSum, rowWeight, rowScore, negInf_bits]
  rfl

/-- The mask of the lanes below 64 selects by the lane. -/
theorem select_lane {α : Type} (l : Fin 128) (x y : α) :
    Scalar.select (IntOp.cmpi CmpIPredicate.slt (BitVec.ofNat 32 l.val) 64#32) x y = if l.val < 64 then x else y := by
  have h : ∀ l : Fin 128, IntOp.cmpi CmpIPredicate.slt (BitVec.ofNat 32 l.val) 64#32
      = if l.val < 64 then 1#1 else 0#1 := by decide +kernel
  rw [h l]
  split <;> rfl

theorem pay5_apply (a b : FVec Ideal S256x128 .f32) (r : Fin 256) (l : Fin 128) :
    k2_pay5 (F := Ideal) k2_pay2 a b 64#32 (ix3 0 r l)
      = if h : l.val < 64 then Ideal.div (a (ix2 r l)) (a (ix2 r ⟨l.val + 64, by omega⟩))
        else Ideal.div (b (ix2 r ⟨l.val - 64, by omega⟩)) (b (ix2 r l)) := by
  unfold k2_pay5 k2_pay2
  pointwise
  rw [select_lane]
  split
  · have e : (l.val + 128 - 64) % 128 = l.val + 64 := by omega
    simp only [e]
  · have e : (l.val + 128 - 64) % 128 = l.val - 64 := by omega
    simp only [e]

theorem pay1_apply (a : FVec Ideal S256x128 .f32) (p : FVec Ideal S256x4096 .bf16) (w : Vec Ideal S1x4096x128 .bf16)
    (r : Fin 256) (l : Fin 128) :
    k2_pay1 (F := Ideal) k2_pay2 a p w (ix3 0 r l)
      = if h : l.val < 64 then Ideal.div (a (ix2 r l)) (a (ix2 r ⟨l.val + 64, by omega⟩))
        else Ideal.div (∑ k : Fin 4096, p (ix2 r k) * w (ix3 0 k ⟨l.val - 64, by omega⟩))
          (∑ k : Fin 4096, p (ix2 r k) * w (ix3 0 k l)) := by
  unfold k2_pay1 k2_pay2
  pointwise
  rw [select_lane]
  split
  · have e : (l.val + 128 - 64) % 128 = l.val + 64 := by omega
    simp only [e]
  · have e : (l.val + 128 - 64) % 128 = l.val - 64 := by omega
    simp only [e]

end Cert.Proof
-- ==== Proof.Mla.lean ====
/-
  The attention kernel's result array: at batch `b`, position `s` and column `n`, the weighted sum of head `n / 64`'s
  values in lane `n % 64`, divided by the same weights' sum against the lane 64 further on.
-/
module

public import proofs.«01_k».proof.Proof.MlaPay
public import proofs.«01_k».proof.Proof.Gen.KernelIdeal.Frame
public import Idealize.ShloMosaic.Lib.Pipeline.ValueKit.Geometry
public import Idealize.ShloMosaic.Lib.Pipeline.ValueKit.Acc

@[expose] public section

set_option maxRecDepth 16384

noncomputable section

namespace Cert.Proof

open Idealize.ShloMosaic Idealize.SL.Sem Cert.KernelIdeal Cert.KernelIdeal.Gen Idealize.ShloMosaic.TcCoe
open Idealize.ShloMosaic.Pipeline (Dat Cfg Window)

/-- The attention's quotient from one query row and one head's keys and values, with `d` a column of the head. -/
def headOut (q : Fin 128 → EReal) (key w : Fin 4096 → Fin 128 → EReal) (d : ℕ) (hd : d < 64) : EReal :=
  Ideal.div (rowSum q key fun k => w k ⟨d, by omega⟩) (rowSum q key fun k => w k ⟨64 + d, by omega⟩)

/-- The result array from the arrays of queries, keys and values. -/
def mlaOut (Q K W : S8x4096x1024.Idx → EReal) (b : Fin 8) (s : Fin 4096) (n : Fin 512) : EReal :=
  headOut (fun l => Q (ix3 b s ⟨n.val / 64 * 128 + l.val, by omega⟩))
    (fun k l => K (ix3 b k ⟨n.val / 64 * 128 + l.val, by omega⟩))
    (fun k l => W (ix3 b k ⟨n.val / 64 * 128 + l.val, by omega⟩)) (n.val % 64) (by omega)

/-- A block of the result, from the blocks of queries, keys and values. -/
def mlaBlock (x0 : Vec Ideal S1x256x512 .bf16) (x1 x2 : Vec Ideal S1x4096x512 .bf16) (r : Fin 256) (y : Fin 256) : EReal :=
  headOut (fun l => x0 (ix3 0 r ⟨y.val / 64 * 128 + l.val, by omega⟩))
    (fun k l => x1 (ix3 0 k ⟨y.val / 64 * 128 + l.val, by omega⟩))
    (fun k l => x2 (ix3 0 k ⟨y.val / 64 * 128 + l.val, by omega⟩)) (y.val % 64) (by omega)

theorem out2_3_apply (q : Vec Ideal S1x256x512 .bf16) (k w : Vec Ideal S1x4096x512 .bf16) (j : S1x256x256.Idx) :
    out2_3 (F := Ideal) q k w j = mlaBlock q k w (j 1) (j 2) := by
  unfold out2_3 k2_pay8
  refine View.canon_apply_of_pieces (Val := Elt Ideal) (fun j => mlaBlock q k w (j 1) (j 2)) _ ?_ j (cover2_3 _ _ j)
  intro p hp x
  simp only [List.mem_cons, List.not_mem_nil, or_false] at hp
  rcases hp with rfl | rfl
  · idx_vars x
    obtain rfl : x0 = 0 := Subsingleton.elim _ _
    rw [show r2_9.emb (ix3 0 x1 x2) 1 = x1 from Fin.ext (by simp [ValueKit.rect_emb_unit_val]),
      show r2_9.emb (ix3 0 x1 x2) 2 = (⟨128 + x2.val, by omega⟩ : Fin 256) from Fin.ext (by simp [ValueKit.rect_emb_unit_val])]
    refine (pay1_apply _ _ _ x1 x2).trans ?_
    unfold mlaBlock headOut
    split
    · refine congrArg₂ Ideal.div ((pay3_apply _ _ _ x1 _).trans ?_) ((pay3_apply _ _ _ x1 _).trans ?_)
      all_goals
        pointwise
        have e₁ : (128 + x2.val) / 64 * 128 = 256 := by omega
        have e₂ : (128 + x2.val) % 64 = x2.val := by omega
        simp only [e₁, e₂, Nat.add_comm x2.val 64, Nat.zero_add]
    · refine congrArg₂ Ideal.div (Finset.sum_congr rfl fun k _ => ?_) (Finset.sum_congr rfl fun k _ => ?_)
      all_goals
        rw [pay7_apply]
        pointwise
        have e₁ : (128 + x2.val) / 64 * 128 = 384 := by omega
        have e₂ : (128 + x2.val) % 64 = x2.val - 64 := by omega
        have e₃ : 64 + (x2.val - 64) = x2.val := by omega
        simp only [e₁, e₂, e₃, Nat.zero_add]
  · idx_vars x
    obtain rfl : x0 = 0 := Subsingleton.elim _ _
    rw [show r2_4.emb (ix3 0 x1 x2) 1 = x1 from Fin.ext (by simp [ValueKit.rect_emb_unit_val]),
      show r2_4.emb (ix3 0 x1 x2) 2 = (⟨0 + x2.val, by omega⟩ : Fin 256) from Fin.ext (by simp [ValueKit.rect_emb_unit_val])]
    refine (pay5_apply _ _ x1 x2).trans ?_
    unfold mlaBlock headOut
    split
    · refine congrArg₂ Ideal.div ((pay3_apply _ _ _ x1 _).trans ?_) ((pay3_apply _ _ _ x1 _).trans ?_)
      all_goals
        pointwise
        have e₁ : x2.val / 64 * 128 = 0 := by omega
        have e₂ : x2.val % 64 = x2.val := by omega
        simp only [e₁, e₂, Nat.add_comm x2.val 64, Nat.zero_add]
    · refine congrArg₂ Ideal.div ((pay3_apply _ _ _ x1 _).trans ?_) ((pay3_apply _ _ _ x1 _).trans ?_)
      all_goals
        pointwise
        have e₁ : x2.val / 64 * 128 = 128 := by omega
        have e₂ : x2.val % 64 = x2.val - 64 := by omega
        have e₃ : 64 + (x2.val - 64) = x2.val := by omega
        simp only [e₁, e₂, e₃, Nat.zero_add]

theorem idx2_0 : ∀ t : Fin cfg2.N, win2_0.index t = ![(grid2.coords t 0).val, (grid2.coords t 2).val, (grid2.coords t 1).val] :=
  (by decide +kernel : ∀ t : Fin grid2.N, _)

theorem idx2_1 : ∀ t : Fin cfg2.N, win2_1.index t = ![(grid2.coords t 0).val, 0, (grid2.coords t 1).val] :=
  (by decide +kernel : ∀ t : Fin grid2.N, _)

theorem idx2_2 : ∀ t : Fin cfg2.N, win2_2.index t = ![(grid2.coords t 0).val, 0, (grid2.coords t 1).val] :=
  (by decide +kernel : ∀ t : Fin grid2.N, _)

theorem idx2_3 : ∀ t : Fin cfg2.N, win2_3.index t = ![(grid2.coords t 0).val, (grid2.coords t 2).val, (grid2.coords t 1).val] :=
  (by decide +kernel : ∀ t : Fin grid2.N, _)

theorem covers2_3 : (cfg2.win 3).Covers := by decide +kernel

set_option maxHeartbeats 1000000 in
/-- The result array after the attention kernel, from the arrays its windows hold at entry. -/
theorem mla_arr (V : (c : Dev nD) → (b : Ref sig .tc) → Buf (Elt Ideal) ((c : Thread nD τ).loc b)) (c : Dev nD) :
    (dat2 V c).arrAt 3 cfg2.N
      = fun i : S8x4096x512.Idx => mlaOut (V c main_v83_3) (V c main_v83_4) (V c main_v83_5) (i 0) (i 1) (i 2) := by
  refine (dat2 V c).arrAt_eq_of_covers 3 _ covers2_3 fun t hf y => ?_
  blk_simp
  rw [after2_3, out2_3_apply]
  unfold mlaBlock mlaOut
  have hm : ((win2_3.blk t).view.emb y 2 : ℕ) % 64 = (y 2 : ℕ) % 64 := by
    blk_simp [idx2_3]
    omega
  simp only [hm]
  congr 1
  · funext l
    blk_ext [iblk2, idx2_0, idx2_3]
  · funext k l
    blk_ext [iblk2, idx2_1, idx2_3]
  · funext k l
    blk_ext [iblk2, idx2_2, idx2_3]

end Cert.Proof
-- ==== Proof.InPay.lean ====
/-
  The input projection's vector code read at an index, over the extended reals: the normalized and modulated row, its
  product with the projection matrix, the normalized latents and their up-projections, the rotary step on a tile of 128
  lanes, and the lanes of ones beside the values.
-/
module

public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.Proof

open Idealize.ShloMosaic Cert.KernelIdeal Cert.KernelIdeal.Gen

/-- The term added to a mean square before its inverse square root. -/
def epsE : EReal := Ideal.ofBits .f32 0x358637BD#32

/-- A row divided by its root mean square; `cnt` is the row's length. -/
def rms {n : ℕ} (cnt : EReal) (x : Fin n → EReal) (l : Fin n) : EReal :=
  x l * Ideal.rsqrt (Ideal.div (∑ k, x k * x k) cnt + epsE)

/-- The modulated normalized row. -/
def modRow (x sh sc : Fin 1024 → EReal) (l : Fin 1024) : EReal :=
  rms (Ideal.ofBits .f32 0x44800000#32) x l * (1 + sc l) + sh l

/-- The rotary step on a tile of 128 lanes, from the tile's rows of the two tables. -/
def ropeLane (v c s : Fin 128 → EReal) (l : Fin 128) : EReal :=
  v l * c l + (if 64 ≤ l.val ∧ l.val < 80 then v ⟨(l.val + 128 - 112) % 128, by omega⟩
    else v ⟨(l.val + 128 - 16) % 128, by omega⟩) * s l

/-- Tile `h` of a row of 1024 lanes. -/
def tile (v : Fin 1024 → EReal) (h : Fin 8) (l : Fin 128) : EReal := v ⟨h.val * 128 + l.val, by omega⟩

/-- The lane numbers of a tile. -/
abbrev lanes : IVec S1x128 32 := iota .tc S1x128 32 [1] iota_S1x128_d1_w32

/-- The mask of the lanes from 64 to 79 selects by the lane. -/
theorem select_mid {α : Type} (l : Fin 128) (x y : α) :
    Scalar.select (IntOp.andi (IntOp.cmpi CmpIPredicate.sge (BitVec.ofNat 32 l.val) 64#32)
      (IntOp.cmpi CmpIPredicate.slt (BitVec.ofNat 32 l.val) 80#32)) x y = if 64 ≤ l.val ∧ l.val < 80 then x else y := by
  have h : ∀ l : Fin 128, IntOp.andi (IntOp.cmpi CmpIPredicate.sge (BitVec.ofNat 32 l.val) 64#32)
      (IntOp.cmpi CmpIPredicate.slt (BitVec.ofNat 32 l.val) 80#32)
      = if 64 ≤ l.val ∧ l.val < 80 then 1#1 else 0#1 := by decide +kernel
  rw [h l]
  split <;> rfl

/-- The indicator of the lanes from 64 on, as a number. -/
theorem lane_one (n : ℕ) (hn : n < 128) :
    (FloatOps.sitofp FTy.f32 (BitVec.setWidth 32 (IntOp.cmpi CmpIPredicate.sge (BitVec.ofNat 32 n) 64#32)) : Ideal .f32)
      = (if 64 ≤ n then 1 else 0 : EReal) := by
  have h : ∀ l : Fin 128, BitVec.setWidth 32 (IntOp.cmpi CmpIPredicate.sge (BitVec.ofNat 32 l.val) 64#32)
      = if 64 ≤ l.val then 1#32 else 0#32 := by decide +kernel
  rw [h ⟨n, hn⟩]
  show ((((if 64 ≤ n then 1#32 else 0#32 : BitVec 32).toInt : ℝ)) : EReal) = _
  split <;> simp

theorem ada_pay_apply (c : Vec Ideal S8x1024 .f32) (w : Vec Ideal S1024x1024 .f32) (b : Vec Ideal S1x1024 .f32)
    (r : Fin 8) (n : Fin 1024) :
    k0_pay1 (F := Ideal) c w b (ix2 r n)
      = (∑ l : Fin 1024, (c (ix2 r l) * Ideal.logistic (c (ix2 r l))) * w (ix2 l n)) + b (ix2 0 n) := by
  unfold k0_pay1
  pointwise

theorem proj_pay_apply (x : Vec Ideal S1x512x1024 .f32) (sh sc : Vec Ideal S1x1x1024 .f32)
    (w : Vec Ideal S1024x1280 .bf16) (r : Fin 512) (n : Fin 1280) :
    k1_pay5 (F := Ideal) x sh sc w (ix2 r n)
      = ∑ l : Fin 1024, modRow (fun l => x (ix3 0 r l)) (fun l => sh (ix3 0 0 l)) (fun l => sc (ix3 0 0 l)) l * w (ix2 l n) := by
  unfold k1_pay5
  pointwise [modRow, rms, epsE]

theorem qup_pay_apply (p : FVec Ideal S512x1280 .f32) (g : Vec Ideal S1x256 .f32) (w : Vec Ideal S256x1024 .bf16)
    (r : Fin 512) (n : Fin 1024) :
    k1_pay21 (F := Ideal) p g w (ix2 r n)
      = ∑ l : Fin 256, (rms (Ideal.ofBits .f32 0x43800000#32) (fun l : Fin 256 => p (ix2 r ⟨768 + l.val, by omega⟩)) l
          * g (ix2 0 l)) * w (ix2 l n) := by
  unfold k1_pay21
  pointwise [rms, epsE]

theorem kup_pay_apply (p : FVec Ideal S512x1280 .f32) (g : Vec Ideal S1x128 .f32) (w : Vec Ideal S128x1024 .bf16)
    (r : Fin 512) (n : Fin 1024) :
    k1_pay25 (F := Ideal) (k1_pay22 p) (k1_pay23 p) g w (ix2 r n)
      = ∑ l : Fin 128, (rms (Ideal.ofBits .f32 0x43000000#32) (fun l : Fin 128 => p (ix2 r ⟨1024 + l.val, by omega⟩)) l
          * g (ix2 0 l)) * w (ix2 l n) := by
  unfold k1_pay25 k1_pay24 k1_pay23 k1_pay22
  pointwise [rms, epsE]

theorem vup_pay_apply (p : FVec Ideal S512x1280 .f32) (g : Vec Ideal S1x128 .f32) (w : Vec Ideal S128x1024 .bf16)
    (r : Fin 512) (n : Fin 1024) :
    k1_pay26 (F := Ideal) (k1_pay22 p) (k1_pay23 p) g w (ix2 r n)
      = ∑ l : Fin 128, (rms (Ideal.ofBits .f32 0x43000000#32) (fun l : Fin 128 => p (ix2 r ⟨1024 + l.val, by omega⟩)) l
          * g (ix2 0 l)) * w (ix2 l n) := by
  unfold k1_pay26 k1_pay24 k1_pay23 k1_pay22
  pointwise [rms, epsE]

theorem kr_pay_apply (p : FVec Ideal S512x1280 .f32) (c s : FVec Ideal S512x128 .f32) (r : Fin 512) (l : Fin 128) :
    k1_pay34 (F := Ideal) p c s (k1_pay20 lanes) (ix2 r l)
      = ropeLane (fun l => p (ix2 r ⟨1152 + (l.val + 128 - 64) % 128, by omega⟩)) (fun l => c (ix2 r l))
          (fun l => s (ix2 r l)) l := by
  unfold k1_pay34 k1_pay20 lanes
  pointwise [ropeLane]
  rw [select_mid]

/-- A lane of a tile of the queries, as stored. -/
def qLane (q : FVec Ideal S512x1024 .f32) (c s : FVec Ideal S512x128 .f32) (r : Fin 512) (h : Fin 8) (l : Fin 128) : EReal :=
  ropeLane (tile (fun n => q (ix2 r n)) h) (fun l => c (ix2 r l)) (fun l => s (ix2 r l)) l
    * Named.named (F := Ideal) (φ := .f32) κ "mla_scale" 0x3E16C740#32

/-- The eight stored tiles of the queries. -/
theorem q_pay_apply (q : FVec Ideal S512x1024 .f32) (c s : FVec Ideal S512x128 .f32) (m : IVec S1x128 1)
    (hm : m = k1_pay20 lanes) (r : Fin 512) (l : Fin 128) :
    k1_pay35 (F := Ideal) c s m q (ix3 0 r l) = qLane q c s r 0 l ∧
    k1_pay38 (F := Ideal) c s m q (ix3 0 r l) = qLane q c s r 1 l ∧
    k1_pay40 (F := Ideal) c s m q (ix3 0 r l) = qLane q c s r 2 l ∧
    k1_pay43 (F := Ideal) c s m q (ix3 0 r l) = qLane q c s r 3 l ∧
    k1_pay46 (F := Ideal) (k1_pay45 c s m q) (ix3 0 r l) = qLane q c s r 4 l ∧
    k1_pay48 (F := Ideal) c s m q (ix3 0 r l) = qLane q c s r 5 l ∧
    k1_pay1 (F := Ideal) (k1_pay50 c s m q) (ix3 0 r l) = qLane q c s r 6 l ∧
    k1_pay3 (F := Ideal) c s m q (ix3 0 r l) = qLane q c s r 7 l := by
  subst hm
  refine ⟨?_, ?_, ?_, ?_, ?_, ?_, ?_, ?_⟩
  all_goals
    unfold_payloads
    unfold lanes
    pointwise [qLane, ropeLane, tile]
    rw [select_mid]

/-- The eight stored tiles of the keys. -/
theorem k_pay_apply (k : FVec Ideal S512x1024 .f32) (p : FVec Ideal S512x1280 .f32) (c s : FVec Ideal S512x128 .f32)
    (r : Fin 512) (l : Fin 128) :
    k1_pay37 (F := Ideal) (k1_pay36 p c s (k1_pay20 lanes) k) (ix3 0 r l) = tile (fun n => k (ix2 r n)) 0 l + k1_pay34 (F := Ideal) p c s (k1_pay20 lanes) (ix2 r l) ∧
    k1_pay39 (F := Ideal) k (k1_pay34 p c s (k1_pay20 lanes)) (ix3 0 r l) = tile (fun n => k (ix2 r n)) 1 l + k1_pay34 (F := Ideal) p c s (k1_pay20 lanes) (ix2 r l) ∧
    k1_pay42 (F := Ideal) (k1_pay34 p c s (k1_pay20 lanes)) (k1_pay41 k) (ix3 0 r l) = tile (fun n => k (ix2 r n)) 2 l + k1_pay34 (F := Ideal) p c s (k1_pay20 lanes) (ix2 r l) ∧
    k1_pay44 (F := Ideal) k (k1_pay34 p c s (k1_pay20 lanes)) (ix3 0 r l) = tile (fun n => k (ix2 r n)) 3 l + k1_pay34 (F := Ideal) p c s (k1_pay20 lanes) (ix2 r l) ∧
    k1_pay47 (F := Ideal) k (k1_pay34 p c s (k1_pay20 lanes)) (ix3 0 r l) = tile (fun n => k (ix2 r n)) 4 l + k1_pay34 (F := Ideal) p c s (k1_pay20 lanes) (ix2 r l) ∧
    k1_pay49 (F := Ideal) k (k1_pay34 p c s (k1_pay20 lanes)) (ix3 0 r l) = tile (fun n => k (ix2 r n)) 5 l + k1_pay34 (F := Ideal) p c s (k1_pay20 lanes) (ix2 r l) ∧
    k1_pay2 (F := Ideal) k (k1_pay34 p c s (k1_pay20 lanes)) (ix3 0 r l) = tile (fun n => k (ix2 r n)) 6 l + k1_pay34 (F := Ideal) p c s (k1_pay20 lanes) (ix2 r l) ∧
    k1_pay4 (F := Ideal) k (k1_pay34 p c s (k1_pay20 lanes)) (ix3 0 r l) = tile (fun n => k (ix2 r n)) 7 l + k1_pay34 (F := Ideal) p c s (k1_pay20 lanes) (ix2 r l) := by
  refine ⟨?_, ?_, ?_, ?_, ?_, ?_, ?_, ?_⟩
  · unfold k1_pay37 k1_pay36
    pointwise [tile]
  all_goals
    generalize k1_pay34 (F := Ideal) p c s (k1_pay20 lanes) = e
    unfold_payloads
    pointwise [tile]

theorem v_pay_apply (v : FVec Ideal S512x1024 .f32) (r : Fin 512) (n : Fin 1024) :
    k1_pay33 (F := Ideal) lanes v (k1_pay27 lanes) (k1_pay28 lanes) (k1_pay29 lanes) (k1_pay30 lanes)
        (k1_pay31 lanes) (k1_pay32 lanes) 64#32 (ix3 0 r n)
      = v (ix2 r n) + if 64 ≤ n.val % 128 then 1 else 0 := by
  unfold k1_pay33 k1_pay27 k1_pay28 k1_pay29 k1_pay30 k1_pay31 k1_pay32 lanes
  pointwise
  congr 1
  have hn := n.isLt
  split_ifs with h₁ h₂ h₃ h₄ h₅ h₆ h₇ h₈
  all_goals
    rw [lane_one _ (by omega)]
    first | rw [if_pos (by omega)] | rw [if_neg (by omega)]

end Cert.Proof
-- ==== Proof.Ada.lean ====
/-
  The modulation kernel's result array: the gated condition times the weight matrix, plus the bias.
-/
module

public import proofs.«01_k».proof.Proof.InPay
public import proofs.«01_k».proof.Proof.Gen.KernelIdeal.Frame
public import Idealize.ShloMosaic.Lib.Pipeline.ValueKit.Geometry
public import Idealize.ShloMosaic.Lib.Pipeline.ValueKit.Acc

@[expose] public section

set_option maxRecDepth 16384

noncomputable section

namespace Cert.Proof

open Idealize.ShloMosaic Idealize.SL.Sem Cert.KernelIdeal Cert.KernelIdeal.Gen Idealize.ShloMosaic.TcCoe
open Idealize.ShloMosaic.Pipeline (Dat Cfg Window)

/-- The modulation row of a condition row: column `n` of the gated row times the matrix, plus the bias. -/
def adaCol (c : Fin 1024 → EReal) (w : Fin 1024 → EReal) (b : EReal) : EReal :=
  (∑ l : Fin 1024, (c l * Ideal.logistic (c l)) * w l) + b

theorem out0_3_apply (x0 : Vec Ideal S8x1024 .f32) (x1 : Vec Ideal S1024x1024 .f32) (x2 : Vec Ideal S1x1024 .f32)
    (j : S8x1024.Idx) :
    out0_3 (F := Ideal) x0 x1 x2 j = adaCol (fun l => x0 (ix2 (j 0) l)) (fun l => x1 (ix2 l (j 1))) (x2 (ix2 0 (j 1))) := by
  frame_out
  idx_vars j
  refine (ada_pay_apply _ _ _ _ _).trans ?_
  pointwise [adaCol]

theorem idx0_0 : ∀ t : Fin cfg0.N, win0_0.index t = ![0, 0] := (by decide +kernel : ∀ t : Fin grid0.N, _)
theorem idx0_1 : ∀ t : Fin cfg0.N, win0_1.index t = ![0, (grid0.coords t 0).val] :=
  (by decide +kernel : ∀ t : Fin grid0.N, _)
theorem idx0_2 : ∀ t : Fin cfg0.N, win0_2.index t = ![0, (grid0.coords t 0).val] :=
  (by decide +kernel : ∀ t : Fin grid0.N, _)
theorem idx0_3 : ∀ t : Fin cfg0.N, win0_3.index t = ![0, (grid0.coords t 0).val] :=
  (by decide +kernel : ∀ t : Fin grid0.N, _)

set_option maxHeartbeats 2000000 in
theorem ada_arr (V : (c : Dev nD) → (b : Ref sig .tc) → Buf (Elt Ideal) ((c : Thread nD τ).loc b)) (c : Dev nD) :
    (dat0 V c).arrAt 3 cfg0.N
      = fun i : S8x6144.Idx => adaCol (fun l => V c main_arg1 (ix2 (i 0) l)) (fun l => V c main_v49 (ix2 l (i 1)))
          (V c main_v51 (ix2 0 (i 1))) := by
  refine (dat0 V c).arrAt_eq_of_covers 3 _ (by decide +kernel) fun t hf y => ?_
  blk_simp
  rw [after0_3, out0_3_apply]
  congr 1
  · funext l
    blk_ext [iblk0, idx0_0, idx0_3]
  · funext l
    blk_ext [iblk0, idx0_1, idx0_3]
  · blk_ext [iblk0, idx0_2, idx0_3]

end Cert.Proof
-- ==== Proof.Inproj.lean ====
/-
  The input projection's result arrays for the latent attention: the queries, the keys and the values with their lanes of
  ones, row by row, from the arrays the kernel reads.
-/
module

public import proofs.«01_k».proof.Proof.InPay
public import proofs.«01_k».proof.Proof.Gen.KernelIdeal.Frame
public import Idealize.ShloMosaic.Lib.Pipeline.ValueKit.Geometry
public import Idealize.ShloMosaic.Lib.Pipeline.ValueKit.Acc

@[expose] public section

set_option maxRecDepth 16384

noncomputable section

namespace Cert.Proof

open Idealize.ShloMosaic Idealize.SL.Sem Cert.KernelIdeal Cert.KernelIdeal.Gen Idealize.ShloMosaic.TcCoe
open Idealize.ShloMosaic.Pipeline (Dat Cfg Window)

/-- A row of the projection. -/
def projRow (x sh sc : Fin 1024 → EReal) (win : Fin 1024 → Fin 1280 → EReal) (n : Fin 1280) : EReal :=
  ∑ l : Fin 1024, modRow x sh sc l * win l n

/-- The up-projected queries of a row of the projection. -/
def qupRow (p : Fin 1280 → EReal) (g : Fin 256 → EReal) (w : Fin 256 → Fin 1024 → EReal) (n : Fin 1024) : EReal :=
  ∑ l : Fin 256, (rms (Ideal.ofBits .f32 0x43800000#32) (fun l : Fin 256 => p ⟨768 + l.val, by omega⟩) l * g l) * w l n

/-- The up-projected keys or values of a row of the projection. -/
def kupRow (p : Fin 1280 → EReal) (g : Fin 128 → EReal) (w : Fin 128 → Fin 1024 → EReal) (n : Fin 1024) : EReal :=
  ∑ l : Fin 128, (rms (Ideal.ofBits .f32 0x43000000#32) (fun l : Fin 128 => p ⟨1024 + l.val, by omega⟩) l * g l) * w l n

/-- The keys' rotary lanes of a row of the projection. -/
def krRow (p : Fin 1280 → EReal) (c s : Fin 128 → EReal) (l : Fin 128) : EReal :=
  ropeLane (fun l => p ⟨1152 + (l.val + 128 - 64) % 128, by omega⟩) c s l

/-- A row of the stored queries. -/
def qmRow (p : Fin 1280 → EReal) (g : Fin 256 → EReal) (w : Fin 256 → Fin 1024 → EReal) (c s : Fin 128 → EReal)
    (n : Fin 1024) : EReal :=
  ropeLane (tile (qupRow p g w) ⟨n.val / 128, by omega⟩) c s ⟨n.val % 128, by omega⟩
    * Named.named (F := Ideal) (φ := .f32) κ "mla_scale" 0x3E16C740#32

/-- A row of the stored keys. -/
def kmRow (p : Fin 1280 → EReal) (g : Fin 128 → EReal) (w : Fin 128 → Fin 1024 → EReal) (c s : Fin 128 → EReal)
    (n : Fin 1024) : EReal :=
  kupRow p g w n + krRow p c s ⟨n.val % 128, by omega⟩

/-- A row of the stored values. -/
def vmRow (p : Fin 1280 → EReal) (g : Fin 128 → EReal) (w : Fin 128 → Fin 1024 → EReal) (n : Fin 1024) : EReal :=
  kupRow p g w n + if 64 ≤ n.val % 128 then 1 else 0

section Block

variable (u0 : Vec Ideal S1x512x1024 .f32) (u1 : Vec Ideal S1x6x1024 .f32) (u2 : Vec Ideal S1024x1280 .bf16)
  (u3 : Vec Ideal S1x256 .f32) (u4 : Vec Ideal S256x1024 .bf16) (u5 : Vec Ideal S1x128 .f32)
  (u6 u7 : Vec Ideal S128x1024 .bf16) (u8 u9 u10 u11 : Vec Ideal S512x128 .f32)

/-- Row `r` of the projection, from the input blocks. -/
abbrev blockProj (r : Fin 512) : Fin 1280 → EReal :=
  projRow (fun l => u0 (ix3 0 r l)) (fun l => u1 (ix3 0 0 l)) (fun l => u1 (ix3 0 1 l)) fun l n => u2 (ix2 l n)

theorem pay52_apply (r : Fin 512) (n : Fin 1280) :
    k1_pay52 (F := Ideal) u0 u1 u2 u3 u4 u5 u6 u7 u8 u9 u10 u11 (ix2 r n) = blockProj u0 u1 u2 r n := by
  unfold k1_pay52
  refine (proj_pay_apply _ _ _ _ _ _).trans ?_
  unfold blockProj projRow
  pointwise

theorem pay57_apply (r : Fin 512) (l : Fin 128) :
    k1_pay57 (F := Ideal) u0 u1 u2 u3 u4 u5 u6 u7 u8 u9 u10 u11 (ix2 r l) = u10 (ix2 r l) := by
  unfold k1_pay57 k1_pay18
  pointwise

theorem pay58_apply (r : Fin 512) (l : Fin 128) :
    k1_pay58 (F := Ideal) u0 u1 u2 u3 u4 u5 u6 u7 u8 u9 u10 u11 (ix2 r l) = u11 (ix2 r l) := by
  unfold k1_pay58 k1_pay19
  pointwise

theorem pay60_apply (r : Fin 512) (n : Fin 1024) :
    k1_pay60 (F := Ideal) u0 u1 u2 u3 u4 u5 u6 u7 u8 u9 u10 u11 (ix2 r n)
      = qupRow (blockProj u0 u1 u2 r) (fun l => u3 (ix2 0 l)) (fun l n => u4 (ix2 l n)) n := by
  unfold k1_pay60
  refine (qup_pay_apply _ _ _ _ _).trans ?_
  simp only [pay52_apply]
  unfold qupRow
  pointwise

theorem pay63_apply (r : Fin 512) (n : Fin 1024) :
    k1_pay63 (F := Ideal) u0 u1 u2 u3 u4 u5 u6 u7 u8 u9 u10 u11 (ix2 r n)
      = kupRow (blockProj u0 u1 u2 r) (fun l => u5 (ix2 0 l)) (fun l n => u6 (ix2 l n)) n := by
  unfold k1_pay63 k1_pay61 k1_pay62
  refine (kup_pay_apply _ _ _ _ _).trans ?_
  simp only [pay52_apply]
  unfold kupRow
  pointwise

theorem pay64_apply (r : Fin 512) (l : Fin 128) :
    k1_pay34 (F := Ideal) (k1_pay52 u0 u1 u2 u3 u4 u5 u6 u7 u8 u9 u10 u11) (k1_pay57 u0 u1 u2 u3 u4 u5 u6 u7 u8 u9 u10 u11)
        (k1_pay58 u0 u1 u2 u3 u4 u5 u6 u7 u8 u9 u10 u11) (k1_pay20 lanes) (ix2 r l)
      = krRow (blockProj u0 u1 u2 r) (fun l => u10 (ix2 r l)) (fun l => u11 (ix2 r l)) l := by
  refine (kr_pay_apply _ _ _ _ _).trans ?_
  simp only [pay52_apply, pay57_apply, pay58_apply]
  rfl

theorem out1_17_apply (j : S1x512x1024.Idx) :
    out1_17 (F := Ideal) u0 u1 u2 u3 u4 u5 u6 u7 u8 u9 u10 u11 j
      = vmRow (blockProj u0 u1 u2 (j 1)) (fun l => u5 (ix2 0 l)) (fun l n => u7 (ix2 l n)) (j 2) := by
  frame_out
  idx_vars j
  obtain rfl : j0 = 0 := Subsingleton.elim _ _
  refine (v_pay_apply _ j1 j2).trans ?_
  unfold k1_pay61 k1_pay62
  rw [vup_pay_apply]
  simp only [pay52_apply]
  rfl

theorem out1_15_apply (j : S1x512x1024.Idx) :
    out1_15 (F := Ideal) u0 u1 u2 u3 u4 u5 u6 u7 u8 u9 u10 u11 j
      = qmRow (blockProj u0 u1 u2 (j 1)) (fun l => u3 (ix2 0 l)) (fun l n => u4 (ix2 l n)) (fun l => u10 (ix2 (j 1) l))
          (fun l => u11 (ix2 (j 1) l)) (j 2) := by
  unfold out1_15
  refine View.canon_apply_of_pieces (Val := Elt Ideal) (fun j => qmRow (blockProj u0 u1 u2 (j 1)) (fun l => u3 (ix2 0 l))
    (fun l n => u4 (ix2 l n)) (fun l => u10 (ix2 (j 1) l)) (fun l => u11 (ix2 (j 1) l)) (j 2)) _ ?_ j
    (cover1_15 _ _ _ _ _ _ _ _ j)
  have key : ∀ (r : Fin 512) (l : Fin 128) (h : Fin 8) (i₁ : Fin 512) (i₂ : Fin 1024), i₁.val = r.val →
      i₂.val = h.val * 128 + l.val →
      qLane (k1_pay60 (F := Ideal) u0 u1 u2 u3 u4 u5 u6 u7 u8 u9 u10 u11) (k1_pay57 u0 u1 u2 u3 u4 u5 u6 u7 u8 u9 u10 u11)
        (k1_pay58 u0 u1 u2 u3 u4 u5 u6 u7 u8 u9 u10 u11) r h l
      = qmRow (blockProj u0 u1 u2 i₁) (fun l => u3 (ix2 0 l)) (fun l n => u4 (ix2 l n)) (fun l => u10 (ix2 i₁ l))
          (fun l => u11 (ix2 i₁ l)) i₂ := by
    intro r l h i₁ i₂ h₁ h₂
    obtain rfl : i₁ = r := Fin.ext h₁
    unfold qLane qmRow
    simp only [pay60_apply, pay57_apply, pay58_apply]
    rw [show (⟨i₂.val / 128, by omega⟩ : Fin 8) = h from Fin.ext (by show i₂.val / 128 = h.val; omega),
      show (⟨i₂.val % 128, by omega⟩ : Fin 128) = l from Fin.ext (by show i₂.val % 128 = l.val; omega)]
  have pieces := fun r l => q_pay_apply (k1_pay60 (F := Ideal) u0 u1 u2 u3 u4 u5 u6 u7 u8 u9 u10 u11)
    (k1_pay57 u0 u1 u2 u3 u4 u5 u6 u7 u8 u9 u10 u11) (k1_pay58 u0 u1 u2 u3 u4 u5 u6 u7 u8 u9 u10 u11)
    (k1_pay59 (F := Ideal) u0 u1 u2 u3 u4 u5 u6 u7 u8 u9 u10 u11) rfl r l
  intro p hp x
  simp only [List.mem_cons, List.not_mem_nil, or_false] at hp
  rcases hp with rfl | rfl | rfl | rfl | rfl | rfl | rfl | rfl
  all_goals
    idx_vars x
    obtain rfl : x0 = 0 := Subsingleton.elim _ _
    obtain ⟨q0, q1, q2, q3, q4, q5, q6, q7⟩ := pieces x1 x2
    first
    | (with_reducible refine q0.trans ?_); refine key x1 x2 0 _ _ ?_ ?_
    | (with_reducible refine q1.trans ?_); refine key x1 x2 1 _ _ ?_ ?_
    | (with_reducible refine q2.trans ?_); refine key x1 x2 2 _ _ ?_ ?_
    | (with_reducible refine q3.trans ?_); refine key x1 x2 3 _ _ ?_ ?_
    | (with_reducible refine q4.trans ?_); refine key x1 x2 4 _ _ ?_ ?_
    | (with_reducible refine q5.trans ?_); refine key x1 x2 5 _ _ ?_ ?_
    | (with_reducible refine q6.trans ?_); refine key x1 x2 6 _ _ ?_ ?_
    | (with_reducible refine q7.trans ?_); refine key x1 x2 7 _ _ ?_ ?_
    all_goals simp [ValueKit.rect_emb_unit_val]

theorem out1_16_apply (j : S1x512x1024.Idx) :
    out1_16 (F := Ideal) u0 u1 u2 u3 u4 u5 u6 u7 u8 u9 u10 u11 j
      = kmRow (blockProj u0 u1 u2 (j 1)) (fun l => u5 (ix2 0 l)) (fun l n => u6 (ix2 l n)) (fun l => u10 (ix2 (j 1) l))
          (fun l => u11 (ix2 (j 1) l)) (j 2) := by
  unfold out1_16 k1_pay64 k1_pay59 k1_pay51
  refine View.canon_apply_of_pieces (Val := Elt Ideal) (fun j => kmRow (blockProj u0 u1 u2 (j 1)) (fun l => u5 (ix2 0 l))
    (fun l n => u6 (ix2 l n)) (fun l => u10 (ix2 (j 1) l)) (fun l => u11 (ix2 (j 1) l)) (j 2)) _ ?_ j
    (cover1_16 _ _ _ _ _ _ _ _ j)
  have key : ∀ (r : Fin 512) (l : Fin 128) (h : Fin 8) (i₁ : Fin 512) (i₂ : Fin 1024), i₁.val = r.val →
      i₂.val = h.val * 128 + l.val →
      tile (fun n => k1_pay63 (F := Ideal) u0 u1 u2 u3 u4 u5 u6 u7 u8 u9 u10 u11 (ix2 r n)) h l
        + k1_pay34 (F := Ideal) (k1_pay52 u0 u1 u2 u3 u4 u5 u6 u7 u8 u9 u10 u11) (k1_pay57 u0 u1 u2 u3 u4 u5 u6 u7 u8 u9 u10 u11) (k1_pay58 u0 u1 u2 u3 u4 u5 u6 u7 u8 u9 u10 u11) (k1_pay20 lanes) (ix2 r l)
      = kmRow (blockProj u0 u1 u2 i₁) (fun l => u5 (ix2 0 l)) (fun l n => u6 (ix2 l n)) (fun l => u10 (ix2 i₁ l))
          (fun l => u11 (ix2 i₁ l)) i₂ := by
    intro r l h i₁ i₂ h₁ h₂
    obtain rfl : i₁ = r := Fin.ext h₁
    unfold kmRow tile
    simp only [pay63_apply, pay64_apply]
    rw [show (⟨h.val * 128 + l.val, by omega⟩ : Fin 1024) = i₂ from Fin.ext h₂.symm,
      show (⟨i₂.val % 128, by omega⟩ : Fin 128) = l from Fin.ext (by show i₂.val % 128 = l.val; omega)]
  have pieces := fun r l => k_pay_apply (k1_pay63 (F := Ideal) u0 u1 u2 u3 u4 u5 u6 u7 u8 u9 u10 u11) (k1_pay52 (F := Ideal) u0 u1 u2 u3 u4 u5 u6 u7 u8 u9 u10 u11)
    (k1_pay57 u0 u1 u2 u3 u4 u5 u6 u7 u8 u9 u10 u11) (k1_pay58 u0 u1 u2 u3 u4 u5 u6 u7 u8 u9 u10 u11) r l
  intro p hp x
  simp only [List.mem_cons, List.not_mem_nil, or_false] at hp
  rcases hp with rfl | rfl | rfl | rfl | rfl | rfl | rfl | rfl
  all_goals
    idx_vars x
    obtain rfl : x0 = 0 := Subsingleton.elim _ _
    obtain ⟨q0, q1, q2, q3, q4, q5, q6, q7⟩ := pieces x1 x2
    first
    | (with_reducible refine q0.trans ?_); refine key x1 x2 0 _ _ ?_ ?_
    | (with_reducible refine q1.trans ?_); refine key x1 x2 1 _ _ ?_ ?_
    | (with_reducible refine q2.trans ?_); refine key x1 x2 2 _ _ ?_ ?_
    | (with_reducible refine q3.trans ?_); refine key x1 x2 3 _ _ ?_ ?_
    | (with_reducible refine q4.trans ?_); refine key x1 x2 4 _ _ ?_ ?_
    | (with_reducible refine q5.trans ?_); refine key x1 x2 5 _ _ ?_ ?_
    | (with_reducible refine q6.trans ?_); refine key x1 x2 6 _ _ ?_ ?_
    | (with_reducible refine q7.trans ?_); refine key x1 x2 7 _ _ ?_ ?_
    all_goals simp [ValueKit.rect_emb_unit_val]

end Block

end Cert.Proof
-- ==== Proof.InprojArr.lean ====
/-
  The input projection's result arrays for the latent attention, whole: each row from the arrays the kernel reads.
-/
module

public import proofs.«01_k».proof.Proof.Inproj

@[expose] public section

set_option maxRecDepth 16384

noncomputable section

namespace Cert.Proof

open Idealize.ShloMosaic Idealize.SL.Sem Cert.KernelIdeal Cert.KernelIdeal.Gen Idealize.ShloMosaic.TcCoe
open Idealize.ShloMosaic.Pipeline (Dat Cfg Window)

/-! ## The blocks' places -/

theorem idx1_0 : ∀ t : Fin cfg1.N, win1_0.index t = ![(grid1.coords t 1).val, (grid1.coords t 0).val, 0] :=
  (by decide +kernel : ∀ t : Fin grid1.N, _)
theorem idx1_1 : ∀ t : Fin cfg1.N, win1_1.index t = ![(grid1.coords t 1).val, 0, 0] :=
  (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![0, 0] := (by decide +kernel : ∀ t : Fin grid1.N, _)
theorem idx1_6 : ∀ t : Fin cfg1.N, win1_6.index t = ![0, 0] := (by decide +kernel : ∀ t : Fin grid1.N, _)
theorem idx1_7 : ∀ t : Fin cfg1.N, win1_7.index t = ![0, 0] := (by decide +kernel : ∀ t : Fin grid1.N, _)
theorem idx1_10 : ∀ t : Fin cfg1.N, win1_10.index t = ![(grid1.coords t 0).val, 0] :=
  (by decide +kernel : ∀ t : Fin grid1.N, _)
theorem idx1_11 : ∀ t : Fin cfg1.N, win1_11.index t = ![(grid1.coords t 0).val, 0] :=
  (by decide +kernel : ∀ t : Fin grid1.N, _)
theorem idx1_15 : ∀ t : Fin cfg1.N, win1_15.index t = ![(grid1.coords t 1).val, (grid1.coords t 0).val, 0] :=
  (by decide +kernel : ∀ t : Fin grid1.N, _)
theorem idx1_16 : ∀ t : Fin cfg1.N, win1_16.index t = ![(grid1.coords t 1).val, (grid1.coords t 0).val, 0] :=
  (by decide +kernel : ∀ t : Fin grid1.N, _)
theorem idx1_17 : ∀ t : Fin cfg1.N, win1_17.index t = ![(grid1.coords t 1).val, (grid1.coords t 0).val, 0] :=
  (by decide +kernel : ∀ t : Fin grid1.N, _)

variable (V : (c : Dev nD) → (b : Ref sig .tc) → Buf (Elt Ideal) ((c : Thread nD τ).loc b)) (c : Dev nD)

/-- The batch and the position of row `r` of point `t`'s blocks. -/
def ptB (t : Fin cfg1.N) : Fin 8 := grid1.coords t 1
def ptS (t : Fin cfg1.N) (r : Fin 512) : Fin 4096 :=
  ⟨(grid1.coords t 0).val * 512 + r.val, by have : (grid1.coords t 0).val < 8 := (grid1.coords t 0).isLt; omega⟩

set_option maxHeartbeats 1000000 in
theorem iblk1_0_apply (t : Fin cfg1.N) (r : Fin 512) (l : Fin 1024) :
    iblk1 V c 0 t (ix3 0 r l) = V c main_arg0 (ix3 (ptB t) (ptS t r) l) := by
  unfold ptB ptS
  blk_ext [iblk1, idx1_0]

set_option maxHeartbeats 1000000 in
theorem iblk1_1_apply (t : Fin cfg1.N) (k : Fin 6) (l : Fin 1024) :
    iblk1 V c 1 t (ix3 0 k l) = V c main_v53 (ix3 (ptB t) k l) := by
  unfold ptB
  blk_ext [iblk1, idx1_1]

set_option maxHeartbeats 1000000 in
theorem iblk1_2_apply (t : Fin cfg1.N) (l : Fin 1024) (n : Fin 1280) :
    iblk1 V c 2 t (ix2 l n) = V c main_v63 (ix2 l n) := by
  blk_ext [iblk1, idx1_2]

set_option maxHeartbeats 1000000 in
theorem iblk1_3_apply (t : Fin cfg1.N) (l : Fin 256) : iblk1 V c 3 t (ix2 0 l) = V c main_v80 (ix2 0 l) := by
  blk_ext [iblk1, idx1_3]

set_option maxHeartbeats 1000000 in
theorem iblk1_4_apply (t : Fin cfg1.N) (l : Fin 256) (n : Fin 1024) :
    iblk1 V c 4 t (ix2 l n) = V c main_v68 (ix2 l n) := by
  blk_ext [iblk1, idx1_4]

set_option maxHeartbeats 1000000 in
theorem iblk1_5_apply (t : Fin cfg1.N) (l : Fin 128) : iblk1 V c 5 t (ix2 0 l) = V c main_v82 (ix2 0 l) := by
  blk_ext [iblk1, idx1_5]

set_option maxHeartbeats 1000000 in
theorem iblk1_6_apply (t : Fin cfg1.N) (l : Fin 128) (n : Fin 1024) :
    iblk1 V c 6 t (ix2 l n) = V c main_v74 (ix2 l n) := by
  blk_ext [iblk1, idx1_6]

set_option maxHeartbeats 1000000 in
theorem iblk1_7_apply (t : Fin cfg1.N) (l : Fin 128) (n : Fin 1024) :
    iblk1 V c 7 t (ix2 l n) = V c main_v78 (ix2 l n) := by
  blk_ext [iblk1, idx1_7]

set_option maxHeartbeats 1000000 in
theorem iblk1_10_apply (t : Fin cfg1.N) (r : Fin 512) (l : Fin 128) :
    iblk1 V c 10 t (ix2 r l) = V c main_v42 (ix2 (ptS t r) l) := by
  unfold ptS
  blk_ext [iblk1, idx1_10]

set_option maxHeartbeats 1000000 in
theorem iblk1_11_apply (t : Fin cfg1.N) (r : Fin 512) (l : Fin 128) :
    iblk1 V c 11 t (ix2 r l) = V c main_v48 (ix2 (ptS t r) l) := by
  unfold ptS
  blk_ext [iblk1, idx1_11]

/-! ## The arrays -/

/-- A row of the projection, from the arrays. -/
abbrev arrProj (b : Fin 8) (s : Fin 4096) : Fin 1280 → EReal :=
  projRow (fun l => V c main_arg0 (ix3 b s l)) (fun l => V c main_v53 (ix3 b 0 l)) (fun l => V c main_v53 (ix3 b 1 l))
    fun l n => V c main_v63 (ix2 l n)

theorem blockProj_eq (t : Fin cfg1.N) (r : Fin 512) :
    blockProj (iblk1 V c 0 t) (iblk1 V c 1 t) (iblk1 V c 2 t) r = arrProj V c (ptB t) (ptS t r) := by
  unfold blockProj arrProj
  simp only [iblk1_0_apply, iblk1_1_apply, iblk1_2_apply]

theorem congr₃ {α β γ δ : Type} (f : α → β → γ → δ) {a a' : α} {b b' : β} {c c' : γ} (h₁ : a = a') (h₂ : b = b')
    (h₃ : c = c') : f a b c = f a' b' c' := by
  subst h₁ h₂ h₃
  rfl

/-- The stored queries, from the arrays. -/
def qArr (b : Fin 8) (s : Fin 4096) (n : Fin 1024) : EReal :=
  qmRow (arrProj V c b s) (fun l => V c main_v80 (ix2 0 l)) (fun l n => V c main_v68 (ix2 l n))
    (fun l => V c main_v42 (ix2 s l)) (fun l => V c main_v48 (ix2 s l)) n

theorem q_block (t : Fin cfg1.N) (r : Fin 512) (n : Fin 1024) :
    qmRow (blockProj (iblk1 V c 0 t) (iblk1 V c 1 t) (iblk1 V c 2 t) r) (fun l => iblk1 V c 3 t (ix2 0 l))
        (fun l n => iblk1 V c 4 t (ix2 l n)) (fun l => iblk1 V c 10 t (ix2 r l)) (fun l => iblk1 V c 11 t (ix2 r l)) n
      = qArr V c (ptB t) (ptS t r) n := by
  unfold qArr
  simp only [blockProj_eq, iblk1_3_apply, iblk1_4_apply, iblk1_10_apply, iblk1_11_apply]

set_option maxHeartbeats 1000000 in
theorem q_arr : (dat1 V c).arrAt 15 cfg1.N = fun i : S8x4096x1024.Idx => qArr V c (i 0) (i 1) (i 2) := by
  refine (dat1 V c).arrAt_eq_of_covers 15 _ (by decide +kernel) fun t hf y => ?_
  blk_simp
  rw [after1_15, out1_15_apply]
  refine (q_block V c t (y 1) (y 2)).trans ?_
  have y0 : (y 0 : ℕ) = 0 := by have h : (y 0 : ℕ) < 1 := (y 0).isLt; omega
  refine congr₃ _ (Fin.ext ?_) (Fin.ext ?_) (Fin.ext ?_)
  · unfold ptB
    blk_simp [idx1_15, y0]
  · unfold ptS
    blk_simp [idx1_15]
  · blk_simp [idx1_15]

/-- The stored keys, from the arrays. -/
def kArr (b : Fin 8) (s : Fin 4096) (n : Fin 1024) : EReal :=
  kmRow (arrProj V c b s) (fun l => V c main_v82 (ix2 0 l)) (fun l n => V c main_v74 (ix2 l n))
    (fun l => V c main_v42 (ix2 s l)) (fun l => V c main_v48 (ix2 s l)) n

theorem k_block (t : Fin cfg1.N) (r : Fin 512) (n : Fin 1024) :
    kmRow (blockProj (iblk1 V c 0 t) (iblk1 V c 1 t) (iblk1 V c 2 t) r) (fun l => iblk1 V c 5 t (ix2 0 l))
        (fun l n => iblk1 V c 6 t (ix2 l n)) (fun l => iblk1 V c 10 t (ix2 r l)) (fun l => iblk1 V c 11 t (ix2 r l)) n
      = kArr V c (ptB t) (ptS t r) n := by
  unfold kArr
  simp only [blockProj_eq, iblk1_5_apply, iblk1_6_apply, iblk1_10_apply, iblk1_11_apply]

set_option maxHeartbeats 1000000 in
theorem k_arr : (dat1 V c).arrAt 16 cfg1.N = fun i : S8x4096x1024.Idx => kArr V c (i 0) (i 1) (i 2) := by
  refine (dat1 V c).arrAt_eq_of_covers 16 _ (by decide +kernel) fun t hf y => ?_
  blk_simp
  rw [after1_16, out1_16_apply]
  refine (k_block V c t (y 1) (y 2)).trans ?_
  have y0 : (y 0 : ℕ) = 0 := by have h : (y 0 : ℕ) < 1 := (y 0).isLt; omega
  refine congr₃ _ (Fin.ext ?_) (Fin.ext ?_) (Fin.ext ?_)
  · unfold ptB
    blk_simp [idx1_16, y0]
  · unfold ptS
    blk_simp [idx1_16]
  · blk_simp [idx1_16]

/-- The stored values, from the arrays. -/
def vArr (b : Fin 8) (s : Fin 4096) (n : Fin 1024) : EReal :=
  vmRow (arrProj V c b s) (fun l => V c main_v82 (ix2 0 l)) (fun l n => V c main_v78 (ix2 l n)) n

theorem v_block (t : Fin cfg1.N) (r : Fin 512) (n : Fin 1024) :
    vmRow (blockProj (iblk1 V c 0 t) (iblk1 V c 1 t) (iblk1 V c 2 t) r) (fun l => iblk1 V c 5 t (ix2 0 l))
        (fun l n => iblk1 V c 7 t (ix2 l n)) n
      = vArr V c (ptB t) (ptS t r) n := by
  unfold vArr
  simp only [blockProj_eq, iblk1_5_apply, iblk1_7_apply]

set_option maxHeartbeats 1000000 in
theorem v_arr : (dat1 V c).arrAt 17 cfg1.N = fun i : S8x4096x1024.Idx => vArr V c (i 0) (i 1) (i 2) := by
  refine (dat1 V c).arrAt_eq_of_covers 17 _ (by decide +kernel) fun t hf y => ?_
  blk_simp
  rw [after1_17, out1_17_apply]
  refine (v_block V c t (y 1) (y 2)).trans ?_
  have y0 : (y 0 : ℕ) = 0 := by have h : (y 0 : ℕ) < 1 := (y 0).isLt; omega
  refine congr₃ _ (Fin.ext ?_) (Fin.ext ?_) (Fin.ext ?_)
  · unfold ptB
    blk_simp [idx1_17, y0]
  · unfold ptS
    blk_simp [idx1_17]
  · blk_simp [idx1_17]

end Cert.Proof
-- ==== Proof.HostReads.lean ====
/-
  What the host lines before and between the kernels leave in the buffers the kernels read, at an index.
-/
module

public import proofs.«01_k».proof.Proof.Gen.KernelIdeal.Launch
public import Idealize.ShloMosaic.Lib.Pointwise
public import Idealize.ShloMosaic.Lib.StableHlo.ReadAt
public import Idealize.ShloMosaic.Lib.Pipeline.Value

@[expose] public section

set_option maxRecDepth 16384

noncomputable section

namespace Cert.Proof

open Idealize.ShloMosaic Idealize.SL.Sem Cert.KernelIdeal Cert.KernelIdeal.Gen Idealize.ShloMosaic.TcCoe

/-- The rotary angle of position `s` and frequency `j`. -/
def angle (s j : ℕ) : EReal :=
  (FloatOps.sitofp .f32 (BitVec.ofNat 32 s) : Ideal .f32)
    * Ideal.div 1 (Ideal.pow (Ideal.ofBits .f32 0x461C4000#32)
        (Ideal.div (Ideal.ofBits .f32 0x40000000#32 * (FloatOps.sitofp .f32 (BitVec.ofNat 32 j) : Ideal .f32))
          (Ideal.ofBits .f32 0x42000000#32)))

/-- The cosine table's lane. -/
def cosLane (s l : ℕ) : EReal :=
  if l < 64 then 1 else if l < 80 then Ideal.cos (angle s (l - 64)) else if l < 96 then Ideal.cos (angle s (l - 80)) else 1

/-- The sine table's lane. -/
def sinLane (s l : ℕ) : EReal :=
  if l < 64 then 0 else if l < 80 then -Ideal.sin (angle s (l - 64)) else if l < 96 then Ideal.sin (angle s (l - 80)) else 0

variable (V : Valuation τ sig (Elt Ideal))

theorem read_v53 (b : Fin 8) (k : Fin 6) (l : Fin 1024) :
    StableHlo.after hostOps1 V (Proc.devRef .tc main_v53) (ix3 b k l)
      = V (Proc.devRef .tc main_v52) (ix2 b ⟨k.val * 1024 + l.val, by omega⟩) := by
  unfold hostOps1
  after_reads_at

theorem read_v80 (l : Fin 256) :
    StableHlo.after hostOps1_6 V (Proc.devRef .tc main_v80) (ix2 0 l) = V (Proc.devRef .tc main_arg5) (ix2 0 l) := by
  unfold hostOps1_6
  after_reads_at

theorem read_v82 (l : Fin 128) :
    StableHlo.after hostOps1_6 V (Proc.devRef .tc main_v82) (ix2 0 l) = V (Proc.devRef .tc main_arg7) (ix2 0 l) := by
  unfold hostOps1_6
  after_reads_at

theorem read_v49 (l : Fin 1024) (n : Fin 6144) :
    StableHlo.after hostOps0 V (Proc.devRef .tc main_v49) (ix2 l n) = V (Proc.devRef .tc main_arg2) (ix3 0 l n) := by
  unfold hostOps0
  after_reads_at

theorem read_v63 (l : Fin 1024) (n : Fin 1280) (h₁ : 512 ≤ n.val) :
    (StableHlo.after hostOps1 V (Proc.devRef .tc main_v63) (ix2 l n) : EReal)
      = if h : n.val < 1184 then (V (Proc.devRef .tc main_arg4) (ix3 0 l ⟨n.val, by omega⟩) : EReal) else (0 : EReal) := by
  unfold hostOps1
  after_reads_at
  rw [dif_neg (by omega)]
  by_cases h₂ : n.val - 512 < 672
  · rw [dif_pos h₂, dif_pos (by omega)]
    after_reads_at
    have e : 512 + (n.val - 512) = n.val := by omega
    simp only [e]
  · rw [dif_neg h₂, dif_neg (by omega)]
    after_reads_at

theorem read_v51 (n : Fin 6144) :
    StableHlo.after hostOps0 V (Proc.devRef .tc main_v51) (ix2 0 n) = V (Proc.devRef .tc main_arg3) (ix2 0 n) := by
  unfold hostOps0
  after_reads_at

set_option maxHeartbeats 2000000 in
theorem read_v42 (s : Fin 4096) (l : Fin 128) :
    (StableHlo.after hostOps0 V (Proc.devRef .tc main_v42) (ix2 s l) : EReal) = cosLane s.val l.val := by
  unfold hostOps0 cosLane
  after_reads_at
  by_cases h₁ : l.val < 64
  · rw [dif_pos h₁, if_pos h₁]
    after_reads_at
  rw [dif_neg h₁, if_neg h₁]
  by_cases h₂ : l.val < 80
  · rw [dif_pos (by omega), if_pos h₂]
    after_reads_at
    rfl
  rw [dif_neg (by omega), if_neg h₂]
  by_cases h₃ : l.val < 96
  · rw [dif_pos (by omega), if_pos h₃]
    after_reads_at
    rw [Nat.sub_sub]
    rfl
  rw [dif_neg (by omega), if_neg h₃]
  after_reads_at

set_option maxHeartbeats 2000000 in
theorem read_v48 (s : Fin 4096) (l : Fin 128) :
    (StableHlo.after hostOps0 V (Proc.devRef .tc main_v48) (ix2 s l) : EReal) = sinLane s.val l.val := by
  unfold hostOps0 sinLane
  after_reads_at
  by_cases h₁ : l.val < 64
  · rw [dif_pos h₁, if_pos h₁]
    after_reads_at
  rw [dif_neg h₁, if_neg h₁]
  by_cases h₂ : l.val < 80
  · rw [dif_pos (by omega), if_pos h₂]
    after_reads_at
    rfl
  rw [dif_neg (by omega), if_neg h₂]
  by_cases h₃ : l.val < 96
  · rw [dif_pos (by omega), if_pos h₃]
    after_reads_at
    rw [Nat.sub_sub]
    rfl
  rw [dif_neg (by omega), if_neg h₃]
  after_reads_at

end Cert.Proof
-- ==== Proof.Pads.lean ====
/-
  The three padded weights, as the host lines before the second kernel leave them, at an index.
-/
module

public import proofs.«01_k».proof.Proof.HostReads

@[expose] public section

set_option maxRecDepth 16384

noncomputable section

namespace Cert.Proof

open Idealize.ShloMosaic Idealize.SL.Sem Cert.KernelIdeal Cert.KernelIdeal.Gen Idealize.ShloMosaic.TcCoe

variable (V : Valuation τ sig (Elt Ideal))

theorem read_v65 (l : Fin 256) (h : Fin 8) (d : Fin 96) :
    StableHlo.after hostOps1 V (Proc.devRef .tc main_v65) (ix3 l h d)
      = V (Proc.devRef .tc main_arg6) (ix3 0 l ⟨h.val * 96 + d.val, by omega⟩) := by
  unfold hostOps1
  after_reads_at

theorem read_c16 : StableHlo.after hostOps1 V (Proc.devRef .tc main_c_16) ix0 = 0#32 := by
  unfold hostOps1
  after_reads_at

/-- A rank-zero array has one index. -/
theorem first_eq : Shape.Idx.first h_S_ = ix0 := funext fun a => a.elim0

theorem read_v66 (l : Fin 256) (h : Fin 8) (d : Fin 128) :
    (StableHlo.after hostOps1_1 V (Proc.devRef .tc main_v66) (ix3 l h d) : EReal)
      = if hd : d.val < 96 then (V (Proc.devRef .tc main_v65) (ix3 l h ⟨d.val, hd⟩) : EReal)
        else (FloatOps.sitofp .f32 (V (Proc.devRef .tc main_c_16) ix0 : BitVec 32) : Ideal .f32) := by
  unfold hostOps1_1
  after_reads_at
  rw [first_eq]

theorem read_v68 (l : Fin 256) (n : Fin 1024) :
    StableHlo.after hostOps1_2 V (Proc.devRef .tc main_v68) (ix2 l n)
      = V (Proc.devRef .tc main_v66) (ix3 l ⟨n.val / 128, by omega⟩ ⟨n.val % 128, by omega⟩) := by
  unfold hostOps1_2
  after_reads_at

theorem read_v70 (l : Fin 128) (h : Fin 8) (d : Fin 128) :
    StableHlo.after hostOps1_2 V (Proc.devRef .tc main_v70) (ix3 l h d)
      = V (Proc.devRef .tc main_arg8) (ix3 0 l ⟨h.val * 128 + d.val, by omega⟩) := by
  unfold hostOps1_2
  after_reads_at

theorem read_v71 (l : Fin 128) (h : Fin 8) (d : Fin 64) :
    StableHlo.after hostOps1_2 V (Proc.devRef .tc main_v71) (ix3 l h d)
      = V (Proc.devRef .tc main_arg8) (ix3 0 l ⟨h.val * 128 + d.val, by omega⟩) := by
  unfold hostOps1_2
  after_reads_at

theorem read_c17 : StableHlo.after hostOps1_2 V (Proc.devRef .tc main_c_17) ix0 = 0#32 := by
  unfold hostOps1_2
  after_reads_at

theorem read_v72 (l : Fin 128) (h : Fin 8) (d : Fin 128) :
    (StableHlo.after hostOps1_3 V (Proc.devRef .tc main_v72) (ix3 l h d) : EReal)
      = if hd : d.val < 64 then (V (Proc.devRef .tc main_v71) (ix3 l h ⟨d.val, hd⟩) : EReal)
        else (FloatOps.sitofp .f32 (V (Proc.devRef .tc main_c_17) ix0 : BitVec 32) : Ideal .f32) := by
  unfold hostOps1_3
  after_reads_at
  rw [first_eq]

theorem read_v74 (l : Fin 128) (n : Fin 1024) :
    StableHlo.after hostOps1_4 V (Proc.devRef .tc main_v74) (ix2 l n)
      = V (Proc.devRef .tc main_v72) (ix3 l ⟨n.val / 128, by omega⟩ ⟨n.val % 128, by omega⟩) := by
  unfold hostOps1_4
  after_reads_at

theorem read_v75 (l : Fin 128) (h : Fin 8) (d : Fin 64) :
    StableHlo.after hostOps1_4 V (Proc.devRef .tc main_v75) (ix3 l h d)
      = V (Proc.devRef .tc main_v70) (ix3 l h ⟨64 + d.val, by omega⟩) := by
  unfold hostOps1_4
  after_reads_at

theorem read_c18 : StableHlo.after hostOps1_4 V (Proc.devRef .tc main_c_18) ix0 = 0#32 := by
  unfold hostOps1_4
  after_reads_at

theorem read_v76 (l : Fin 128) (h : Fin 8) (d : Fin 128) :
    (StableHlo.after hostOps1_5 V (Proc.devRef .tc main_v76) (ix3 l h d) : EReal)
      = if hd : d.val < 64 then (V (Proc.devRef .tc main_v75) (ix3 l h ⟨d.val, hd⟩) : EReal)
        else (FloatOps.sitofp .f32 (V (Proc.devRef .tc main_c_18) ix0 : BitVec 32) : Ideal .f32) := by
  unfold hostOps1_5
  after_reads_at
  rw [first_eq]

theorem read_v78 (l : Fin 128) (n : Fin 1024) :
    StableHlo.after hostOps1_6 V (Proc.devRef .tc main_v78) (ix2 l n)
      = V (Proc.devRef .tc main_v76) (ix3 l ⟨n.val / 128, by omega⟩ ⟨n.val % 128, by omega⟩) := by
  unfold hostOps1_6
  after_reads_at

theorem sitofp_zero : (FloatOps.sitofp .f32 (0#32 : BitVec 32) : Ideal .f32) = (0 : EReal) := by
  simp [FloatOps.sitofp]

end Cert.Proof
-- ==== Proof.Rows.lean ====
/-
  The layer's rows up to the attention, as functions of the nine arguments.
-/
module

public import proofs.«01_k».proof.Proof.Ada
public import proofs.«01_k».proof.Proof.Inproj

@[expose] public section

noncomputable section

namespace Cert.Proof

open Idealize.ShloMosaic

/-- The nine arguments, as plain functions of their indices. -/
structure Args where
  /-- The layer's input. -/
  x : Fin 8 → Fin 4096 → Fin 1024 → EReal
  /-- The conditioning vector. -/
  c : Fin 8 → Fin 1024 → EReal
  /-- The modulation's weight. -/
  wAda : Fin 1024 → Fin 6144 → EReal
  /-- The modulation's bias. -/
  bAda : Fin 6144 → EReal
  /-- The input projection's weight. -/
  wIn : Fin 1024 → Fin 1184 → EReal
  /-- The gain of the query latent's norm. -/
  qn : Fin 256 → EReal
  /-- The query up-projection's weight. -/
  wQ : Fin 256 → Fin 768 → EReal
  /-- The gain of the key-value latent's norm. -/
  kn : Fin 128 → EReal
  /-- The key-value up-projection's weight. -/
  wKv : Fin 128 → Fin 1024 → EReal

namespace Args

variable (A : Args)

/-- The modulation's column `n`. -/
def mod (b : Fin 8) (n : Fin 6144) : EReal := adaCol (A.c b) (fun l => A.wAda l n) (A.bAda n)

/-- The modulated row. -/
def h (b : Fin 8) (s : Fin 4096) : Fin 1024 → EReal :=
  modRow (A.x b s) (fun l => A.mod b ⟨l.val, by omega⟩) fun l => A.mod b ⟨1024 + l.val, by omega⟩

/-- The projected row. -/
def proj (b : Fin 8) (s : Fin 4096) (n : Fin 1184) : EReal := ∑ l, A.h b s l * A.wIn l n

/-- The query latent, normalized. -/
def ql (b : Fin 8) (s : Fin 4096) (l : Fin 256) : EReal :=
  rms (Ideal.ofBits .f32 0x43800000#32) (fun l : Fin 256 => A.proj b s ⟨768 + l.val, by omega⟩) l * A.qn l

/-- The key-value latent, normalized. -/
def kl (b : Fin 8) (s : Fin 4096) (l : Fin 128) : EReal :=
  rms (Ideal.ofBits .f32 0x43000000#32) (fun l : Fin 128 => A.proj b s ⟨1024 + l.val, by omega⟩) l * A.kn l

/-- The queries, before rotation. -/
def q (b : Fin 8) (s : Fin 4096) (n : Fin 768) : EReal := ∑ l, A.ql b s l * A.wQ l n

/-- The keys and values, before rotation. -/
def kv (b : Fin 8) (s : Fin 4096) (n : Fin 1024) : EReal := ∑ l, A.kl b s l * A.wKv l n

end Args

end Cert.Proof
-- ==== Proof.Chain.lean ====
/-
  The kernel's result buffer as a function of the nine arguments: the three kernels' arrays and the host lines between them,
  put one after the other.
-/
module

public import proofs.«01_k».proof.Proof.Gen.KernelIdeal.Frame
public import proofs.«01_k».proof.Proof.Mla
public import proofs.«01_k».proof.Proof.Ada
public import proofs.«01_k».proof.Proof.InprojArr
public import proofs.«01_k».proof.Proof.Pads
public import proofs.«01_k».proof.Proof.Rows

@[expose] public section

set_option maxRecDepth 16384

noncomputable section

namespace Cert.Proof

open Idealize.ShloMosaic Idealize.SL.Sem Cert.KernelIdeal Cert.KernelIdeal.Gen Idealize.ShloMosaic.TcCoe

variable (m : (ℓ : Loc nD τ sig) → Buf (Elt Ideal) ℓ) (ρ : Dev nD → PrngReg) (c : Dev nD)

/-- The arguments a launch memory holds. -/
def argsOf : Args where
  x b s l := m ((c : Thread nD τ).loc main_arg0) (ix3 b s l)
  c b l := m ((c : Thread nD τ).loc main_arg1) (ix2 b l)
  wAda l n := m ((c : Thread nD τ).loc main_arg2) (ix3 0 l n)
  bAda n := m ((c : Thread nD τ).loc main_arg3) (ix2 0 n)
  wIn l n := m ((c : Thread nD τ).loc main_arg4) (ix3 0 l n)
  qn l := m ((c : Thread nD τ).loc main_arg5) (ix2 0 l)
  wQ l n := m ((c : Thread nD τ).loc main_arg6) (ix3 0 l n)
  kn l := m ((c : Thread nD τ).loc main_arg7) (ix2 0 l)
  wKv l n := m ((c : Thread nD τ).loc main_arg8) (ix3 0 l n)

theorem w9_x (b : Fin 8) (s : Fin 4096) (l : Fin 1024) :
    V9 m ρ c main_arg0 (ix3 b s l) = (argsOf m c).x b s l :=
  congrFun (W9_args m ρ c main_arg0 (by decide)) _

theorem w2_mod (b : Fin 8) (n : Fin 6144) :
    W2 m ρ c (Proc.devRef .tc main_v52) (ix2 b n) = (argsOf m c).mod b n := by
  refine (congrFun ((W2_arr m ρ c 3).trans (ada_arr (V1 m ρ) c)) (ix2 b n)).trans ?_
  have h₁ : ∀ l, V1 m ρ c main_arg1 (ix2 b l) = (argsOf m c).c b l := fun l =>
    congrFun (W1_args m ρ c main_arg1 (by decide)) _
  have h₂ : ∀ l, V1 m ρ c main_v49 (ix2 l n) = (argsOf m c).wAda l n := fun l => read_v49 (W0 m ρ c) l n
  have h₃ : V1 m ρ c main_v51 (ix2 0 n) = (argsOf m c).bAda n := read_v51 (W0 m ρ c) n
  show adaCol (fun l => V1 m ρ c main_arg1 (ix2 b l)) (fun l => V1 m ρ c main_v49 (ix2 l n)) (V1 m ρ c main_v51 (ix2 0 n)) = _
  simp only [h₁, h₂, h₃]
  rfl

/-- What the stretches after the third boundary leave alone. -/
theorem w9_of_w3 (r : Ref sig .tc) (h₁ : r ∉ hostOps1_1_W) (h₂ : r ∉ hostOps1_2_W) (h₃ : r ∉ hostOps1_3_W)
    (h₄ : r ∉ hostOps1_4_W) (h₅ : r ∉ hostOps1_5_W) (h₆ : r ∉ hostOps1_6_W) :
    W9 m ρ c (Proc.devRef .tc r) = W3 m ρ c (Proc.devRef .tc r) :=
  (W9_of m ρ c r h₆).trans <| (W8_of m ρ c r h₅).trans <| (W7_of m ρ c r h₄).trans <| (W6_of m ρ c r h₃).trans <|
    (W5_of m ρ c r h₂).trans (W4_of m ρ c r h₁)

theorem w9_mod (b : Fin 8) (k : Fin 6) (l : Fin 1024) :
    V9 m ρ c main_v53 (ix3 b k l) = (argsOf m c).mod b ⟨k.val * 1024 + l.val, by omega⟩ :=
  (congrFun (w9_of_w3 m ρ c main_v53 (by decide) (by decide) (by decide) (by decide) (by decide) (by decide)) _).trans <|
    (read_v53 (W2 m ρ c) b k l).trans (w2_mod m ρ c b _)

theorem w9_win (l : Fin 1024) (n : Fin 1280) (hn : 512 ≤ n.val) :
    (V9 m ρ c main_v63 (ix2 l n) : EReal) = if h : n.val < 1184 then (argsOf m c).wIn l ⟨n.val, h⟩ else (0 : EReal) := by
  refine (congrFun (w9_of_w3 m ρ c main_v63 (by decide) (by decide) (by decide) (by decide) (by decide) (by decide)) _).trans ?_
  refine (read_v63 (W2 m ρ c) l n hn).trans ?_
  rw [W2_args m ρ c main_arg4 (by decide)]
  rfl

theorem w9_of_w1 (r : Ref sig .tc) (hr : ∀ w : Fin cfg0.W, Pipeline.arrRef spec0 w = r → (cfg0.win w).isOut = false)
    (h₀ : r ∉ hostOps1_W) (h₁ : r ∉ hostOps1_1_W) (h₂ : r ∉ hostOps1_2_W) (h₃ : r ∉ hostOps1_3_W)
    (h₄ : r ∉ hostOps1_4_W) (h₅ : r ∉ hostOps1_5_W) (h₆ : r ∉ hostOps1_6_W) :
    W9 m ρ c (Proc.devRef .tc r) = W1 m ρ c (Proc.devRef .tc r) :=
  (w9_of_w3 m ρ c r h₁ h₂ h₃ h₄ h₅ h₆).trans <| (W3_of m ρ c r h₀).trans (W2_of m ρ c r hr)

theorem w9_cos (s : Fin 4096) (l : Fin 128) : (V9 m ρ c main_v42 (ix2 s l) : EReal) = cosLane s.val l.val :=
  (congrFun (w9_of_w1 m ρ c main_v42 (by decide) (by decide) (by decide) (by decide) (by decide) (by decide) (by decide)
    (by decide)) _).trans (read_v42 (W0 m ρ c) s l)

theorem w9_sin (s : Fin 4096) (l : Fin 128) : (V9 m ρ c main_v48 (ix2 s l) : EReal) = sinLane s.val l.val :=
  (congrFun (w9_of_w1 m ρ c main_v48 (by decide) (by decide) (by decide) (by decide) (by decide) (by decide) (by decide)
    (by decide)) _).trans (read_v48 (W0 m ρ c) s l)

theorem w9_qn (l : Fin 256) : V9 m ρ c main_v80 (ix2 0 l) = (argsOf m c).qn l :=
  (read_v80 (W8 m ρ c) l).trans (congrFun (W8_args m ρ c main_arg5 (by decide)) _)

theorem w9_kn (l : Fin 128) : V9 m ρ c main_v82 (ix2 0 l) = (argsOf m c).kn l :=
  (read_v82 (W8 m ρ c) l).trans (congrFun (W8_args m ρ c main_arg7 (by decide)) _)

theorem w9_wq (l : Fin 256) (n : Fin 1024) :
    (V9 m ρ c main_v68 (ix2 l n) : EReal)
      = if h : n.val % 128 < 96 then (argsOf m c).wQ l ⟨n.val / 128 * 96 + n.val % 128, by omega⟩ else (0 : EReal) := by
  refine (congrFun ((W9_of m ρ c main_v68 (by decide)).trans <| (W8_of m ρ c main_v68 (by decide)).trans <|
    (W7_of m ρ c main_v68 (by decide)).trans (W6_of m ρ c main_v68 (by decide))) _).trans ?_
  refine (read_v68 (W4 m ρ c) l n).trans ((read_v66 (W3 m ρ c) l _ _).trans ?_)
  refine dite_congr rfl (fun h => ?_) fun h => ?_
  · exact (read_v65 (W2 m ρ c) l _ _).trans (congrFun (W2_args m ρ c main_arg6 (by decide)) _)
  · rw [show W3 m ρ c (Proc.devRef .tc main_c_16) ix0 = 0#32 from read_c16 (W2 m ρ c)]
    exact sitofp_zero

theorem w9_wk (l : Fin 128) (n : Fin 1024) :
    (V9 m ρ c main_v74 (ix2 l n) : EReal)
      = if h : n.val % 128 < 64 then (argsOf m c).wKv l n else (0 : EReal) := by
  refine (congrFun ((W9_of m ρ c main_v74 (by decide)).trans (W8_of m ρ c main_v74 (by decide))) _).trans ?_
  refine (read_v74 (W6 m ρ c) l n).trans ((read_v72 (W5 m ρ c) l _ _).trans ?_)
  refine dite_congr rfl (fun h => ?_) fun h => ?_
  · refine (read_v71 (W4 m ρ c) l _ _).trans ((congrFun (W4_args m ρ c main_arg8 (by decide)) _).trans ?_)
    exact congrArg ((argsOf m c).wKv l) (Fin.ext (by show n.val / 128 * 128 + n.val % 128 = n.val; omega))
  · rw [show W5 m ρ c (Proc.devRef .tc main_c_17) ix0 = 0#32 from read_c17 (W4 m ρ c)]
    exact sitofp_zero

theorem w9_wv (l : Fin 128) (n : Fin 1024) :
    (V9 m ρ c main_v78 (ix2 l n) : EReal)
      = if h : n.val % 128 < 64 then (argsOf m c).wKv l ⟨n.val / 128 * 128 + (64 + n.val % 128), by omega⟩ else (0 : EReal) := by
  refine (read_v78 (W8 m ρ c) l n).trans ((read_v76 (W7 m ρ c) l _ _).trans ?_)
  refine dite_congr rfl (fun h => ?_) fun h => ?_
  · refine (read_v75 (W6 m ρ c) l _ _).trans ?_
    refine (congrFun (W6_of m ρ c main_v70 (by decide)) _).trans ?_
    exact (read_v70 (W4 m ρ c) l _ _).trans (congrFun (W4_args m ρ c main_arg8 (by decide)) _)
  · rw [show W7 m ρ c (Proc.devRef .tc main_c_18) ix0 = 0#32 from read_c18 (W6 m ρ c)]
    exact sitofp_zero

/-- The result buffer's entry, from the three arrays the second kernel leaves. -/
theorem w11_ob (b : Fin 8) (s : Fin 4096) (n : Fin 512) :
    (W11 m ρ c (Proc.devRef .tc main_v84) (ix3 b s n) : EReal)
      = mlaOut (fun i => qArr (V9 m ρ) c (i 0) (i 1) (i 2)) (fun i => kArr (V9 m ρ) c (i 0) (i 1) (i 2))
          (fun i => vArr (V9 m ρ) c (i 0) (i 1) (i 2)) b s n := by
  refine (congrFun ((W11_arr m ρ c 3).trans (mla_arr (V10 m ρ) c)) (ix3 b s n)).trans ?_
  have h₁ : V10 m ρ c main_v83_3 = _ := (W10_arr m ρ c 15).trans (q_arr (V9 m ρ) c)
  have h₂ : V10 m ρ c main_v83_4 = _ := (W10_arr m ρ c 16).trans (k_arr (V9 m ρ) c)
  have h₃ : V10 m ρ c main_v83_5 = _ := (W10_arr m ρ c 17).trans (v_arr (V9 m ρ) c)
  show mlaOut (V10 m ρ c main_v83_3) (V10 m ρ c main_v83_4) (V10 m ρ c main_v83_5) b s n = _
  rw [h₁, h₂, h₃]

end Cert.Proof
-- ==== Proof.Ref1.lean ====
/-
  The reference's arrays up to the latents, at an index, as the layer's rows.
-/
module

public import proofs.«01_k».proof.Proof.Gen.ReferenceIdeal.Read
public import Idealize.ShloMosaic.Lib.Pointwise
public import proofs.«01_k».proof.Proof.Rows
public import proofs.«01_k».proof.Proof.HostReads

@[expose] public section

set_option maxRecDepth 16384

noncomputable section

namespace Cert.Proof

open Cert.ReferenceIdeal Cert.ReferenceIdeal.Gen Cert.ReferenceIdeal.Read Idealize.ShloMosaic Idealize.ShloMosaic.TcCoe

variable (x0 : (⟨S8x4096x1024, .f32⟩ : BufTy).Contents (Elt Ideal)) (x1 : (⟨S8x1024, .f32⟩ : BufTy).Contents (Elt Ideal))
  (x2 : (⟨S1x1024x6144, .f32⟩ : BufTy).Contents (Elt Ideal)) (x3 : (⟨S1x6144, .f32⟩ : BufTy).Contents (Elt Ideal))
  (x4 : (⟨S1x1024x1184, .f32⟩ : BufTy).Contents (Elt Ideal)) (x5 : (⟨S1x256, .f32⟩ : BufTy).Contents (Elt Ideal))
  (x6 : (⟨S1x256x768, .f32⟩ : BufTy).Contents (Elt Ideal)) (x7 : (⟨S1x128, .f32⟩ : BufTy).Contents (Elt Ideal))
  (x8 : (⟨S1x128x1024, .f32⟩ : BufTy).Contents (Elt Ideal))

/-- The reference's arguments as plain functions. -/
def refArgs : Args where
  x b s l := x0 (ix3 b s l)
  c b l := x1 (ix2 b l)
  wAda l n := x2 (ix3 0 l n)
  bAda n := x3 (ix2 0 n)
  wIn l n := x4 (ix3 0 l n)
  qn l := x5 (ix2 0 l)
  wQ l n := x6 (ix3 0 l n)
  kn l := x7 (ix2 0 l)
  wKv l n := x8 (ix3 0 l n)

theorem r_v0 (b : Fin 8) (l : Fin 1024) :
    val_main_v0 (F := Ideal) x1 (ix2 b l) = x1 (ix2 b l) * Ideal.logistic (x1 (ix2 b l)) := by
  unfold val_main_v0 val_main_call0_v5 val_main_call0_v4 val_main_call0_v3 val_main_call0_v2 val_main_call0_v1
    val_main_call0_v0 val_main_call0_cst val_main_call0_cst_0
  pointwise
  rfl

theorem r_v6 (b : Fin 8) (n : Fin 6144) :
    val_main_v6 (F := Ideal) x1 x2 x3 (ix2 b n) = (refArgs x0 x1 x2 x3 x4 x5 x6 x7 x8).mod b n := by
  unfold val_main_v6 val_main_v5 val_main_v4 val_main_v3 val_main_v2 val_main_v1
  pointwise [r_v0, Args.mod, adaCol, refArgs]

theorem r_v30 (b : Fin 8) (s : Fin 4096) (l : Fin 1024) :
    val_main_v30 (F := Ideal) x0 x1 x2 x3 (ix3 b s l) = (refArgs x0 x1 x2 x3 x4 x5 x6 x7 x8).h b s l := by
  unfold val_main_v30 val_main_v29 val_main_v28 val_main_v27 val_main_v26 val_main_v25 val_main_v24 val_main_v23 val_main_v22
    val_main_v21 val_main_v20 val_main_v19 val_main_v18 val_main_v17 val_main_v16 val_main_v15 val_main_v14 val_main_v13
    val_main_v8 val_main_v7 val_main_cst val_main_cst_0 val_main_cst_1 val_main_cst_2
  pointwise [r_v6 x0 x1 x2 x3 x4 x5 x6 x7 x8, Args.h, modRow, rms, epsE]
  rfl

theorem r_v32 (b : Fin 8) (s : Fin 4096) (n : Fin 1184) :
    val_main_v32 (F := Ideal) x0 x1 x2 x3 x4 (ix3 b s n) = (refArgs x0 x1 x2 x3 x4 x5 x6 x7 x8).proj b s n := by
  unfold val_main_v32 val_main_v31
  pointwise [r_v30 x0 x1 x2 x3 x4 x5 x6 x7 x8, Args.proj]
  rfl

theorem r_v71 (b : Fin 8) (s : Fin 4096) (l : Fin 256) :
    val_main_v71 (F := Ideal) x0 x1 x2 x3 x4 x5 (ix3 b s l) = (refArgs x0 x1 x2 x3 x4 x5 x6 x7 x8).ql b s l := by
  unfold val_main_v71 val_main_v70 val_main_v69 val_main_v68 val_main_v67 val_main_v66 val_main_v65 val_main_v64 val_main_v63
    val_main_v62 val_main_v61 val_main_v60 val_main_v59 val_main_v36 val_main_v33 val_main_cst_8 val_main_cst_9 val_main_cst_10
  pointwise [r_v32 x0 x1 x2 x3 x4 x5 x6 x7 x8, Args.ql, rms, epsE]
  rfl

theorem r_v103 (b : Fin 8) (s : Fin 4096) (l : Fin 128) :
    val_main_v103 (F := Ideal) x0 x1 x2 x3 x4 x7 (ix3 b s l) = (refArgs x0 x1 x2 x3 x4 x5 x6 x7 x8).kl b s l := by
  unfold val_main_v103 val_main_v102 val_main_v101 val_main_v100 val_main_v99 val_main_v98 val_main_v97 val_main_v96 val_main_v95
    val_main_v94 val_main_v93 val_main_v92 val_main_v91 val_main_v38 val_main_v34 val_main_cst_11 val_main_cst_12 val_main_cst_13
  pointwise [r_v32 x0 x1 x2 x3 x4 x5 x6 x7 x8, Args.kl, rms, epsE]
  rfl

theorem r_v72 (b : Fin 8) (s : Fin 4096) (n : Fin 768) :
    val_main_v72 (F := Ideal) x0 x1 x2 x3 x4 x5 x6 (ix3 b s n) = (refArgs x0 x1 x2 x3 x4 x5 x6 x7 x8).q b s n := by
  unfold val_main_v72 val_main_v37
  pointwise [r_v71 x0 x1 x2 x3 x4 x5 x6 x7 x8, Args.q]
  rfl

theorem r_v104 (b : Fin 8) (s : Fin 4096) (n : Fin 1024) :
    val_main_v104 (F := Ideal) x0 x1 x2 x3 x4 x7 x8 (ix3 b s n) = (refArgs x0 x1 x2 x3 x4 x5 x6 x7 x8).kv b s n := by
  unfold val_main_v104 val_main_v39
  pointwise [r_v103 x0 x1 x2 x3 x4 x5 x6 x7 x8, Args.kv]
  rfl

theorem r_v57 (s : Fin 4096) (j : Fin 16) : val_main_v57 (F := Ideal) (ix2 s j) = Ideal.cos (angle s.val j.val) := by
  unfold val_main_v57 val_main_v56 val_main_v55 val_main_v54 val_main_v53 val_main_v52 val_main_v51 val_main_v50 val_main_v49
    val_main_v48 val_main_v47 val_main_v46 val_main_v45 val_main_v44 val_main_v43 val_main_v42 val_main_v41 val_main_v40
    val_main_cst_3 val_main_cst_4 val_main_cst_5 val_main_cst_6 val_main_cst_7
  pointwise [angle]

theorem r_v58 (s : Fin 4096) (j : Fin 16) : val_main_v58 (F := Ideal) (ix2 s j) = Ideal.sin (angle s.val j.val) := by
  unfold val_main_v58 val_main_v56 val_main_v55 val_main_v54 val_main_v53 val_main_v52 val_main_v51 val_main_v50 val_main_v49
    val_main_v48 val_main_v47 val_main_v46 val_main_v45 val_main_v44 val_main_v43 val_main_v42 val_main_v41 val_main_v40
    val_main_cst_3 val_main_cst_4 val_main_cst_5 val_main_cst_6 val_main_cst_7
  pointwise [angle]

end Cert.Proof
-- ==== Proof.Ref2.lean ====
/-
  The reference's rotated parts, scores and result, at an index, as the layer's rows.
-/
module

public import proofs.«01_k».proof.Proof.Ref1
public import proofs.«01_k».proof.Proof.MlaPay

@[expose] public section

set_option maxRecDepth 16384

noncomputable section

namespace Cert.Proof

open Cert.ReferenceIdeal Cert.ReferenceIdeal.Gen Cert.ReferenceIdeal.Read Idealize.ShloMosaic Idealize.ShloMosaic.TcCoe

/-- The rotation of 32 lanes at position `s`: the first half turned against the second. -/
def rope2 (v : Fin 32 → EReal) (s : ℕ) (i : Fin 32) : EReal :=
  if h : i.val < 16 then v ⟨i.val, by omega⟩ * Ideal.cos (angle s i.val) - v ⟨16 + i.val, by omega⟩ * Ideal.sin (angle s i.val)
  else v ⟨16 + (i.val - 16), by omega⟩ * Ideal.cos (angle s (i.val - 16)) + v ⟨i.val - 16, by omega⟩ * Ideal.sin (angle s (i.val - 16))

namespace Args

variable (A : Args)

/-- The rotated part of head `h`'s query. -/
def qr (b : Fin 8) (s : Fin 4096) (h : Fin 8) : Fin 32 → EReal :=
  rope2 (fun i => A.q b s ⟨h.val * 96 + (64 + i.val), by omega⟩) s.val

/-- The rotated key, shared by the heads. -/
def kr (b : Fin 8) (s : Fin 4096) : Fin 32 → EReal := rope2 (fun i => A.proj b s ⟨1152 + i.val, by omega⟩) s.val

/-- The score of query `s` against key `k` in head `h`. -/
def score (b : Fin 8) (h : Fin 8) (s k : Fin 4096) : EReal :=
  ((∑ d : Fin 64, A.q b s ⟨h.val * 96 + d.val, by omega⟩ * A.kv b k ⟨h.val * 128 + d.val, by omega⟩)
      + ∑ i : Fin 32, A.kr b k i * A.qr b s h i)
    * Ideal.div 1 (Ideal.sqrt (Ideal.ofBits .f32 0x42C00000#32))

/-- The value row `k` of head `h` at lane `d`. -/
def val (b : Fin 8) (h : Fin 8) (k : Fin 4096) (d : Fin 64) : EReal := A.kv b k ⟨h.val * 128 + (64 + d.val), by omega⟩

/-- The attention's output: the values weighted by the scores' softmax. -/
def out (b : Fin 8) (s : Fin 4096) (h : Fin 8) (d : Fin 64) : EReal :=
  ∑ k, A.val b h k d
    * Ideal.div (Ideal.exp (A.score b h s k - max ⊥ (Finset.univ.fold max ⊥ (A.score b h s))))
        (∑ k', Ideal.exp (A.score b h s k' - max ⊥ (Finset.univ.fold max ⊥ (A.score b h s))))

end Args

variable (x0 : (⟨S8x4096x1024, .f32⟩ : BufTy).Contents (Elt Ideal)) (x1 : (⟨S8x1024, .f32⟩ : BufTy).Contents (Elt Ideal))
  (x2 : (⟨S1x1024x6144, .f32⟩ : BufTy).Contents (Elt Ideal)) (x3 : (⟨S1x6144, .f32⟩ : BufTy).Contents (Elt Ideal))
  (x4 : (⟨S1x1024x1184, .f32⟩ : BufTy).Contents (Elt Ideal)) (x5 : (⟨S1x256, .f32⟩ : BufTy).Contents (Elt Ideal))
  (x6 : (⟨S1x256x768, .f32⟩ : BufTy).Contents (Elt Ideal)) (x7 : (⟨S1x128, .f32⟩ : BufTy).Contents (Elt Ideal))
  (x8 : (⟨S1x128x1024, .f32⟩ : BufTy).Contents (Elt Ideal))

theorem r_v73 (b : Fin 8) (s : Fin 4096) (h : Fin 8) (d : Fin 96) :
    val_main_v73 (F := Ideal) x0 x1 x2 x3 x4 x5 x6 (ix4 b s h d)
      = (refArgs x0 x1 x2 x3 x4 x5 x6 x7 x8).q b s ⟨h.val * 96 + d.val, by omega⟩ := by
  unfold val_main_v73
  pointwise [r_v72 x0 x1 x2 x3 x4 x5 x6 x7 x8]

theorem r_v105 (b : Fin 8) (s : Fin 4096) (h : Fin 8) (d : Fin 128) :
    val_main_v105 (F := Ideal) x0 x1 x2 x3 x4 x7 x8 (ix4 b s h d)
      = (refArgs x0 x1 x2 x3 x4 x5 x6 x7 x8).kv b s ⟨h.val * 128 + d.val, by omega⟩ := by
  unfold val_main_v105
  pointwise [r_v104 x0 x1 x2 x3 x4 x5 x6 x7 x8]

theorem r_v90 (b : Fin 8) (s : Fin 4096) (h : Fin 8) (i : Fin 32) :
    val_main_v90 (F := Ideal) x0 x1 x2 x3 x4 x5 x6 (ix4 b s h i) = (refArgs x0 x1 x2 x3 x4 x5 x6 x7 x8).qr b s h i := by
  unfold val_main_v90 val_main_v89 val_main_v88 val_main_v87 val_main_v86 val_main_v85 val_main_v84 val_main_v83 val_main_v82
    val_main_v81 val_main_v80 val_main_v79 val_main_v78 val_main_v77 val_main_v76 val_main_v75
  pointwise [r_v73 x0 x1 x2 x3 x4 x5 x6 x7 x8, r_v57, r_v58, Args.qr, rope2]

theorem r_v124 (b : Fin 8) (s : Fin 4096) (i : Fin 32) :
    val_main_v124 (F := Ideal) x0 x1 x2 x3 x4 (ix3 b s i) = (refArgs x0 x1 x2 x3 x4 x5 x6 x7 x8).kr b s i := by
  unfold val_main_v124 val_main_v123 val_main_v122 val_main_v121 val_main_v120 val_main_v119 val_main_v118 val_main_v117
    val_main_v116 val_main_v115 val_main_v114 val_main_v113 val_main_v112 val_main_v111 val_main_v110 val_main_v109 val_main_v108
    val_main_v35
  pointwise [r_v32 x0 x1 x2 x3 x4 x5 x6 x7 x8, r_v57, r_v58, Args.kr, rope2]

theorem r_v132 (b h : Fin 8) (s k : Fin 4096) :
    val_main_v132 (F := Ideal) x0 x1 x2 x3 x4 x5 x6 x7 x8 (ix4 b h s k)
      = (refArgs x0 x1 x2 x3 x4 x5 x6 x7 x8).score b h s k := by
  unfold val_main_v132 val_main_v131 val_main_v130 val_main_v129 val_main_v128 val_main_v127 val_main_v126 val_main_v125
    val_main_v106 val_main_v74 val_main_cst_14 val_main_cst_15
  pointwise [r_v73 x0 x1 x2 x3 x4 x5 x6 x7 x8, r_v105 x0 x1 x2 x3 x4 x5 x6 x7 x8, r_v90 x0 x1 x2 x3 x4 x5 x6 x7 x8,
    r_v124 x0 x1 x2 x3 x4 x5 x6 x7 x8, Args.score]

/-- A maximum over the last of four axes, at an index: the fold of `max` over that axis's coordinates. -/
theorem max_last {n0 n1 n2 n3 : ℕ} {u : Shape} (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (hu : 0 < u.numel)
    (y : (⟨4, ![n0, n1, n2, n3]⟩ : Shape).Idx → Ideal .f32) (init : u.Idx → Ideal .f32) (b : Fin n0) (c : Fin n1) (d : Fin n2) :
    Host.reduce FloatOps.maximumf y init h' hu (ix3 b c d)
      = Finset.univ.fold max (init (Shape.Idx.first hu) : EReal) fun k : Fin n3 => (y (ix4 b c d k) : EReal) := by
  show Host.reduce (max : EReal → EReal → EReal) y init h' hu (ix3 b c d) = _
  rw [Host.reduce_eq_fold, Shape.ReducesTo.drop_eq_drop h' h, h.fold_filter_drop_single]
  refine Finset.fold_congr fun k _ => ?_
  exact congrArg y (funext fun a => Fin.ext (by match a with | ⟨0, _⟩ => rfl | ⟨1, _⟩ => rfl | ⟨2, _⟩ => rfl | ⟨3, _⟩ => rfl))

theorem r_v133 (b h : Fin 8) (s : Fin 4096) :
    val_main_v133 (F := Ideal) x0 x1 x2 x3 x4 x5 x6 x7 x8 (ix3 b h s)
      = Finset.univ.fold max ⊥ ((refArgs x0 x1 x2 x3 x4 x5 x6 x7 x8).score b h s) := by
  unfold val_main_v133
  refine (max_last _ (by decide) _ _ _ b h s).trans ?_
  rw [show val_main_cst_16 (F := Ideal) (Shape.Idx.first h_S_) = (⊥ : EReal) from negInf_bits]
  exact Finset.fold_congr fun k _ => r_v132 x0 x1 x2 x3 x4 x5 x6 x7 x8 b h s k

theorem r_v135 (b h : Fin 8) (s : Fin 4096) :
    val_main_v135 (F := Ideal) x0 x1 x2 x3 x4 x5 x6 x7 x8 (ix3 b h s)
      = max ⊥ (Finset.univ.fold max ⊥ ((refArgs x0 x1 x2 x3 x4 x5 x6 x7 x8).score b h s)) := by
  rw [val_main_v135_apply, r_v133]
  exact congrArg (max · _) negInf_bits

theorem r_v139 (b h : Fin 8) (s k : Fin 4096) :
    val_main_v139 (F := Ideal) x0 x1 x2 x3 x4 x5 x6 x7 x8 (ix4 b h s k)
      = Ideal.exp ((refArgs x0 x1 x2 x3 x4 x5 x6 x7 x8).score b h s k
          - max ⊥ (Finset.univ.fold max ⊥ ((refArgs x0 x1 x2 x3 x4 x5 x6 x7 x8).score b h s))) := by
  unfold val_main_v139 val_main_v138 val_main_v137 val_main_v136
  pointwise [r_v132 x0 x1 x2 x3 x4 x5 x6 x7 x8, r_v135 x0 x1 x2 x3 x4 x5 x6 x7 x8]

theorem r_v145 (b : Fin 8) (s : Fin 4096) (h : Fin 8) (d : Fin 64) :
    val_main_v145 (F := Ideal) x0 x1 x2 x3 x4 x5 x6 x7 x8 (ix4 b s h d)
      = (refArgs x0 x1 x2 x3 x4 x5 x6 x7 x8).out b s h d := by
  unfold val_main_v145 val_main_v144 val_main_v143 val_main_v142 val_main_v141 val_main_v140 val_main_v107 val_main_cst_18
  pointwise [r_v139 x0 x1 x2 x3 x4 x5 x6 x7 x8, r_v105 x0 x1 x2 x3 x4 x5 x6 x7 x8, Args.out, Args.val]

theorem r_v146 (b : Fin 8) (s : Fin 4096) (n : Fin 512) :
    val_main_v146 (F := Ideal) x0 x1 x2 x3 x4 x5 x6 x7 x8 (ix3 b s n)
      = (refArgs x0 x1 x2 x3 x4 x5 x6 x7 x8).out b s ⟨n.val / 64, by omega⟩ ⟨n.val % 64, by omega⟩ := by
  unfold val_main_v146
  pointwise [r_v145 x0 x1 x2 x3 x4 x5 x6 x7 x8]

end Cert.Proof
-- ==== Proof.Lanes.lean ====
/-
  The kernel's arrays of queries, keys and values, lane by lane, as the layer's rows.
-/
module

public import proofs.«01_k».proof.Proof.Chain
public import proofs.«01_k».proof.Proof.Ref2

@[expose] public section

set_option maxRecDepth 16384

noncomputable section

namespace Cert.Proof

open Idealize.ShloMosaic Idealize.SL.Sem Cert.KernelIdeal Cert.KernelIdeal.Gen Idealize.ShloMosaic.TcCoe

theorem mul_of_eq {a b b' : EReal} (h : b = b') : a * b = a * b' := congrArg (a * ·) h

theorem mul_of_zero {a b : EReal} (h : b = 0) : a * b = 0 := by rw [h, mul_zero]

theorem add_of_zero {a b : EReal} (h : b = 0) : a + b = a := by rw [h, add_zero]

/-- The tables leave the lanes outside 64 … 95 as they are and turn those inside. -/
theorem rope_tables (v : Fin 128 → EReal) (s : ℕ) (l : Fin 128) :
    ropeLane v (fun l => cosLane s l.val) (fun l => sinLane s l.val) l
      = if h : 64 ≤ l.val ∧ l.val < 96 then rope2 (fun i => v ⟨64 + i.val, by omega⟩) s ⟨l.val - 64, by omega⟩ else v l := by
  unfold ropeLane cosLane sinLane rope2
  dsimp only
  by_cases h₁ : l.val < 64
  · rw [if_pos h₁, if_pos h₁, dif_neg (by omega), mul_one, mul_zero, add_zero]
  by_cases h₂ : l.val < 80
  · rw [if_neg h₁, if_neg h₁, if_pos h₂, if_pos h₂, dif_pos (by omega), dif_pos (by show l.val - 64 < 16; omega),
      if_pos (by omega), mul_neg, sub_eq_add_neg]
    have e₁ : (⟨64 + (l.val - 64), by omega⟩ : Fin 128) = l := Fin.ext (by show 64 + (l.val - 64) = l.val; omega)
    have e₂ : (⟨64 + (16 + (l.val - 64)), by omega⟩ : Fin 128) = ⟨(l.val + 128 - 112) % 128, by omega⟩ :=
      Fin.ext (by show 64 + (16 + (l.val - 64)) = (l.val + 128 - 112) % 128; omega)
    simp only [e₁, e₂]
  by_cases h₃ : l.val < 96
  · rw [if_neg h₁, if_neg h₁, if_neg h₂, if_neg h₂, if_pos h₃, if_pos h₃, dif_pos (by omega),
      dif_neg (by show ¬ l.val - 64 < 16; omega), if_neg (by omega)]
    have e₁ : (⟨64 + (16 + (l.val - 64 - 16)), by omega⟩ : Fin 128) = l :=
      Fin.ext (by show 64 + (16 + (l.val - 64 - 16)) = l.val; omega)
    have e₂ : (⟨64 + (l.val - 64 - 16), by omega⟩ : Fin 128) = ⟨(l.val + 128 - 16) % 128, by omega⟩ :=
      Fin.ext (by show 64 + (l.val - 64 - 16) = (l.val + 128 - 16) % 128; omega)
    have e₃ : l.val - 64 - 16 = l.val - 80 := by omega
    simp only [e₁, e₂]
    rw [e₃]
  · rw [if_neg h₁, if_neg h₁, if_neg h₂, if_neg h₂, if_neg h₃, if_neg h₃, dif_neg (by omega), mul_one, mul_zero, add_zero]

variable (m : (ℓ : Loc nD τ sig) → Buf (Elt Ideal) ℓ) (ρ : Dev nD → PrngReg) (c : Dev nD)

theorem arrProj_eq (b : Fin 8) (s : Fin 4096) (n : Fin 1280) (hn : 512 ≤ n.val) :
    arrProj (V9 m ρ) c b s n = if h : n.val < 1184 then (argsOf m c).proj b s ⟨n.val, h⟩ else 0 := by
  unfold arrProj projRow
  have e₁ : (fun l => (V9 m ρ c main_arg0 (ix3 b s l) : EReal)) = (argsOf m c).x b s := funext fun l => w9_x m ρ c b s l
  have e₂ : (fun l => (V9 m ρ c main_v53 (ix3 b 0 l) : EReal)) = fun l : Fin 1024 => (argsOf m c).mod b ⟨l.val, by omega⟩ :=
    funext fun l => (w9_mod m ρ c b 0 l).trans (congrArg ((argsOf m c).mod b) (Fin.ext (by show 0 * 1024 + l.val = l.val; omega)))
  have e₃ : (fun l => (V9 m ρ c main_v53 (ix3 b 1 l) : EReal)) = fun l : Fin 1024 => (argsOf m c).mod b ⟨1024 + l.val, by omega⟩ :=
    funext fun l => (w9_mod m ρ c b 1 l).trans
      (congrArg ((argsOf m c).mod b) (Fin.ext (by show 1 * 1024 + l.val = 1024 + l.val; omega)))
  rw [e₁, e₂, e₃]
  by_cases h : n.val < 1184
  · rw [dif_pos h]
    exact Finset.sum_congr rfl fun l _ => mul_of_eq ((w9_win m ρ c l n hn).trans (dif_pos h))
  · rw [dif_neg h]
    exact Finset.sum_eq_zero fun l _ => mul_of_zero ((w9_win m ρ c l n hn).trans (dif_neg h))

theorem qup_eq (b : Fin 8) (s : Fin 4096) (h : Fin 8) (l : Fin 128) :
    tile (qupRow (arrProj (V9 m ρ) c b s) (fun l => V9 m ρ c main_v80 (ix2 0 l)) fun l n => V9 m ρ c main_v68 (ix2 l n)) h l
      = if hl : l.val < 96 then (argsOf m c).q b s ⟨h.val * 96 + l.val, by omega⟩ else 0 := by
  unfold tile qupRow
  have e₁ : (fun l : Fin 256 => arrProj (V9 m ρ) c b s ⟨768 + l.val, by omega⟩)
      = fun l : Fin 256 => (argsOf m c).proj b s ⟨768 + l.val, by omega⟩ := funext fun l =>
    (arrProj_eq m ρ c b s _ (by show 512 ≤ 768 + l.val; omega)).trans (dif_pos (by show 768 + l.val < 1184; omega))
  rw [e₁]
  have e₂ : (h.val * 128 + l.val) % 128 = l.val := by omega
  by_cases hl : l.val < 96
  · rw [dif_pos hl]
    refine Finset.sum_congr rfl fun k _ => ?_
    refine congrArg₂ (· * ·) (mul_of_eq (w9_qn m ρ c k)) ((w9_wq m ρ c k _).trans ((dif_pos ?_).trans ?_))
    · exact lt_of_eq_of_lt e₂ hl
    · exact congrArg ((argsOf m c).wQ k) (Fin.ext (by
        show (h.val * 128 + l.val) / 128 * 96 + (h.val * 128 + l.val) % 128 = h.val * 96 + l.val; omega))
  · rw [dif_neg hl]
    exact Finset.sum_eq_zero fun k _ => mul_of_zero ((w9_wq m ρ c k _).trans (dif_neg fun h' => hl (lt_of_eq_of_lt e₂.symm h')))

theorem kl_eq (b : Fin 8) (s : Fin 4096) (k : Fin 128) :
    rms (Ideal.ofBits .f32 0x43000000#32) (fun l : Fin 128 => arrProj (V9 m ρ) c b s ⟨1024 + l.val, by omega⟩) k
        * (V9 m ρ c main_v82 (ix2 0 k) : EReal)
      = (argsOf m c).kl b s k := by
  have e₁ : (fun l : Fin 128 => arrProj (V9 m ρ) c b s ⟨1024 + l.val, by omega⟩)
      = fun l : Fin 128 => (argsOf m c).proj b s ⟨1024 + l.val, by omega⟩ := funext fun l =>
    (arrProj_eq m ρ c b s _ (by show 512 ≤ 1024 + l.val; omega)).trans (dif_pos (by show 1024 + l.val < 1184; omega))
  rw [e₁]
  exact mul_of_eq (w9_kn m ρ c k)

theorem kup_eq (b : Fin 8) (s : Fin 4096) (n : Fin 1024) :
    kupRow (arrProj (V9 m ρ) c b s) (fun l => V9 m ρ c main_v82 (ix2 0 l)) (fun l n => V9 m ρ c main_v74 (ix2 l n)) n
      = if n.val % 128 < 64 then (argsOf m c).kv b s n else 0 := by
  unfold kupRow
  by_cases hl : n.val % 128 < 64
  · rw [if_pos hl]
    exact Finset.sum_congr rfl fun k _ => congrArg₂ (· * ·) (kl_eq m ρ c b s k) ((w9_wk m ρ c k n).trans (dif_pos hl))
  · rw [if_neg hl]
    exact Finset.sum_eq_zero fun k _ => mul_of_zero ((w9_wk m ρ c k n).trans (dif_neg hl))

theorem vup_eq (b : Fin 8) (s : Fin 4096) (n : Fin 1024) :
    kupRow (arrProj (V9 m ρ) c b s) (fun l => V9 m ρ c main_v82 (ix2 0 l)) (fun l n => V9 m ρ c main_v78 (ix2 l n)) n
      = if h : n.val % 128 < 64 then (argsOf m c).kv b s ⟨n.val / 128 * 128 + (64 + n.val % 128), by omega⟩ else 0 := by
  unfold kupRow
  by_cases hl : n.val % 128 < 64
  · rw [dif_pos hl]
    exact Finset.sum_congr rfl fun k _ => congrArg₂ (· * ·) (kl_eq m ρ c b s k) ((w9_wv m ρ c k n).trans (dif_pos hl))
  · rw [dif_neg hl]
    exact Finset.sum_eq_zero fun k _ => mul_of_zero ((w9_wv m ρ c k n).trans (dif_neg hl))

theorem tables_eq (s : Fin 4096) :
    (fun l => (V9 m ρ c main_v42 (ix2 s l) : EReal)) = (fun l => cosLane s.val l.val)
      ∧ (fun l => (V9 m ρ c main_v48 (ix2 s l) : EReal)) = fun l => sinLane s.val l.val :=
  ⟨funext fun l => w9_cos m ρ c s l, funext fun l => w9_sin m ρ c s l⟩

/-- The scale the kernel folds into the queries. -/
abbrev scaleE : EReal := (((Real.log 2)⁻¹ * (Real.sqrt 96)⁻¹ : ℝ) : EReal)

theorem q_lane (b : Fin 8) (s : Fin 4096) (h : Fin 8) (l : Fin 128) :
    qArr (V9 m ρ) c b s ⟨h.val * 128 + l.val, by omega⟩
      = (if hl : 64 ≤ l.val ∧ l.val < 96 then (argsOf m c).qr b s h ⟨l.val - 64, by omega⟩
          else if hl : l.val < 96 then (argsOf m c).q b s ⟨h.val * 96 + l.val, by omega⟩ else 0) * scaleE := by
  unfold qArr qmRow
  rw [(tables_eq m ρ c s).1, (tables_eq m ρ c s).2]
  have e₁ : (⟨(h.val * 128 + l.val) / 128, by omega⟩ : Fin 8) = h := Fin.ext (by show (h.val * 128 + l.val) / 128 = h.val; omega)
  have e₂ : (⟨(h.val * 128 + l.val) % 128, by omega⟩ : Fin 128) = l := Fin.ext (by show (h.val * 128 + l.val) % 128 = l.val; omega)
  refine congrArg₂ (· * ·) ?_ (IdealRules.named_const.ideal_named_scalar _ _ _ _ rfl)
  show ropeLane (tile _ ⟨(h.val * 128 + l.val) / 128, _⟩) _ _ ⟨(h.val * 128 + l.val) % 128, _⟩ = _
  rw [e₁, e₂, rope_tables]
  refine dite_congr rfl (fun hl => ?_) fun hl => qup_eq m ρ c b s h l
  unfold Args.qr
  refine congrArg (fun v => rope2 v s.val _) (funext fun i => (qup_eq m ρ c b s h _).trans ?_)
  exact dif_pos (by show 64 + i.val < 96; omega)

theorem k_lane (b : Fin 8) (s : Fin 4096) (h : Fin 8) (l : Fin 128) (hl : l.val < 96) :
    kArr (V9 m ρ) c b s ⟨h.val * 128 + l.val, by omega⟩
      = if hl' : 64 ≤ l.val then (argsOf m c).kr b s ⟨l.val - 64, by omega⟩
          else (argsOf m c).kv b s ⟨h.val * 128 + l.val, by omega⟩ := by
  unfold kArr kmRow krRow
  rw [(tables_eq m ρ c s).1, (tables_eq m ρ c s).2, kup_eq, rope_tables]
  have e₂ : (h.val * 128 + l.val) % 128 = l.val := by omega
  simp only [e₂]
  by_cases h₁ : 64 ≤ l.val
  · rw [dif_pos h₁, if_neg (by omega), dif_pos ⟨h₁, hl⟩, zero_add]
    unfold Args.kr
    refine congrArg (fun v => rope2 v s.val _) (funext fun i => (arrProj_eq m ρ c b s _ ?_).trans ((dif_pos ?_).trans ?_))
    · show 512 ≤ 1152 + (64 + i.val + 128 - 64) % 128; omega
    · show 1152 + (64 + i.val + 128 - 64) % 128 < 1184; omega
    · exact congrArg ((argsOf m c).proj b s) (Fin.ext (by show 1152 + (64 + i.val + 128 - 64) % 128 = 1152 + i.val; omega))
  · rw [dif_neg h₁, if_pos (by omega), dif_neg (by omega)]
    refine add_of_zero ((arrProj_eq m ρ c b s _ ?_).trans (dif_neg ?_))
    · show 512 ≤ 1152 + (l.val + 128 - 64) % 128; omega
    · show ¬ 1152 + (l.val + 128 - 64) % 128 < 1184; omega

theorem v_lane (b : Fin 8) (s : Fin 4096) (h : Fin 8) (d : Fin 64) :
    vArr (V9 m ρ) c b s ⟨h.val * 128 + d.val, by omega⟩ = (argsOf m c).val b h s d := by
  unfold vArr vmRow
  rw [vup_eq, dif_pos (by show (h.val * 128 + d.val) % 128 < 64; omega),
    if_neg (by show ¬ 64 ≤ (h.val * 128 + d.val) % 128; omega), add_zero]
  exact congrArg ((argsOf m c).kv b s) (Fin.ext (by
    show (h.val * 128 + d.val) / 128 * 128 + (64 + (h.val * 128 + d.val) % 128) = h.val * 128 + (64 + d.val); omega))

theorem one_lane (b : Fin 8) (s : Fin 4096) (h : Fin 8) (d : Fin 64) :
    vArr (V9 m ρ) c b s ⟨h.val * 128 + (64 + d.val), by omega⟩ = 1 := by
  unfold vArr vmRow
  rw [vup_eq, dif_neg (by show ¬ (h.val * 128 + (64 + d.val)) % 128 < 64; omega),
    if_pos (by show 64 ≤ (h.val * 128 + (64 + d.val)) % 128; omega), zero_add]

end Cert.Proof
-- ==== Proof.Softmax.lean ====
/-
  Plain facts about extended reals: which values are real numbers, and the two ways of writing a softmax-weighted sum.
-/
module

public import Idealize.ShloMosaic.PureOps.Ideal
public import Mathlib.Analysis.SpecialFunctions.Pow.Real

@[expose] public section

noncomputable section

namespace Cert.Proof

open Idealize.ShloMosaic

/-- `x` is a real number. -/
def IsReal (x : EReal) : Prop := ∃ r : ℝ, x = (r : EReal)

namespace IsReal

theorem coe (r : ℝ) : IsReal (r : EReal) := ⟨r, rfl⟩
theorem zero : IsReal 0 := ⟨0, rfl⟩
theorem one : IsReal 1 := ⟨1, rfl⟩
theorem add {x y : EReal} : IsReal x → IsReal y → IsReal (x + y)
  | ⟨a, ha⟩, ⟨b, hb⟩ => ⟨a + b, by rw [ha, hb]; exact (EReal.coe_add a b).symm⟩
theorem mul {x y : EReal} : IsReal x → IsReal y → IsReal (x * y)
  | ⟨a, ha⟩, ⟨b, hb⟩ => ⟨a * b, by rw [ha, hb]; exact (EReal.coe_mul a b).symm⟩
theorem neg {x : EReal} : IsReal x → IsReal (-x)
  | ⟨a, ha⟩ => ⟨-a, by rw [ha]; exact (EReal.coe_neg a).symm⟩
theorem sub {x y : EReal} : IsReal x → IsReal y → IsReal (x - y)
  | ⟨a, ha⟩, ⟨b, hb⟩ => ⟨a - b, by rw [ha, hb]; exact (EReal.coe_sub a b).symm⟩
theorem sum {ι : Type} (s : Finset ι) {f : ι → EReal} (h : ∀ i, IsReal (f i)) : IsReal (∑ i ∈ s, f i) := by
  classical
  induction s using Finset.induction_on with
  | empty => exact ⟨0, rfl⟩
  | insert a s ha ih => rw [Finset.sum_insert ha]; exact (h a).add ih
theorem div {x y : EReal} : IsReal x → IsReal y → y ≠ 0 → IsReal (Ideal.div x y)
  | ⟨a, ha⟩, ⟨b, hb⟩, hy => ⟨a * b⁻¹, by
      unfold Ideal.div; rw [if_neg hy, ha, hb, ← EReal.coe_inv]; exact (EReal.coe_mul a b⁻¹).symm⟩
theorem cos {x : EReal} : IsReal x → IsReal (Ideal.cos x)
  | ⟨a, ha⟩ => ⟨Real.cos a, by rw [ha]; rfl⟩
theorem sin {x : EReal} : IsReal x → IsReal (Ideal.sin x)
  | ⟨a, ha⟩ => ⟨Real.sin a, by rw [ha]; rfl⟩
theorem exp {x : EReal} : IsReal x → IsReal (Ideal.exp x)
  | ⟨a, ha⟩ => ⟨Real.exp a, by rw [ha]; rfl⟩

/-- The inverse square root of a positive real is real. -/
theorem rsqrt {x : EReal} : IsReal x → 0 < x → IsReal (Ideal.rsqrt x)
  | ⟨a, ha⟩, h => by
      subst ha
      have h' : (0 : ℝ) < a := by exact_mod_cast h
      exact ⟨(Real.sqrt a)⁻¹, by rw [Ideal.rsqrt_coe, if_neg (not_lt.2 h'.le), if_neg h'.ne']⟩

/-- A square of a real is not negative. -/
theorem mul_self_nonneg {x : EReal} : IsReal x → 0 ≤ x * x
  | ⟨a, ha⟩ => by rw [ha, ← EReal.coe_mul]; exact_mod_cast _root_.mul_self_nonneg a

end IsReal

/-- An extended real whose absolute value lies below `⊤` is real. -/
theorem isReal_of_abs_lt_top {x : EReal} (h : max x (-x) < ⊤) : IsReal x := by
  induction x with
  | bot => simp at h
  | coe r => exact ⟨r, rfl⟩
  | top => simp at h

/-- The sum of coerced reals is the coerced sum. -/
theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- The greatest of a nonempty finite family of reals is real. -/
theorem fold_max_coe {n : ℕ} (hn : 0 < n) (s : Fin n → ℝ) :
    ∃ M : ℝ, (∀ c : ℝ, 0 < c → Finset.univ.fold max (⊥ : EReal) (fun k => ((s k * c : ℝ) : EReal)) = ((M * c : ℝ) : EReal)) := by
  haveI : Nonempty (Fin n) := ⟨⟨0, hn⟩⟩
  obtain ⟨k₀, -, hk₀⟩ := Finset.exists_max_image (Finset.univ : Finset (Fin n)) s ⟨⟨0, hn⟩, Finset.mem_univ _⟩
  refine ⟨s k₀, fun c hc => le_antisymm ?_ ?_⟩
  · rw [Finset.fold_max_le]
    refine ⟨bot_le, fun k _ => ?_⟩
    exact_mod_cast mul_le_mul_of_nonneg_right (hk₀ k (Finset.mem_univ _)) hc.le
  · rw [Finset.le_fold_max]
    exact Or.inr ⟨k₀, Finset.mem_univ _, le_rfl⟩

/-- Powers of two of scores scaled by `1 / log 2` are exponentials. -/
theorem exp2_scaled (a : ℝ) : Ideal.exp2 ((a * (Real.log 2)⁻¹ : ℝ) : EReal) = ((Real.exp a : ℝ) : EReal) := by
  rw [Ideal.exp2_coe]
  have h2 : Real.log 2 ≠ 0 := (Real.log_pos (by norm_num)).ne'
  refine congrArg _ ?_
  show Real.rpow 2 _ = _
  rw [Real.rpow_eq_pow, Real.rpow_def_of_pos (by norm_num)]
  congr 1
  field_simp

/-- The weighted sum of `v` by powers of two of the scaled scores `t`, divided once by the sum of the powers (taken as a
    weighted sum of ones), is the sum of `v` weighted by the normalized exponentials of the scores `s`. -/
theorem softmax_pair {n : ℕ} (hn : 0 < n) (s t v : Fin n → EReal) (hs : ∀ k, IsReal (s k)) (hv : ∀ k, IsReal (v k))
    (ht : ∀ k, t k = s k * (((Real.log 2)⁻¹ : ℝ) : EReal)) :
    Ideal.div (∑ k, Ideal.exp2 (t k - Finset.univ.fold max ⊥ t) * v k)
        (∑ k, Ideal.exp2 (t k - Finset.univ.fold max ⊥ t) * 1)
      = ∑ k, v k * Ideal.div (Ideal.exp (s k - max ⊥ (Finset.univ.fold max ⊥ s)))
          (∑ k', Ideal.exp (s k' - max ⊥ (Finset.univ.fold max ⊥ s))) := by
  choose sr hsr using hs
  choose vr hvr using hv
  have hlog : (0 : ℝ) < (Real.log 2)⁻¹ := inv_pos.2 (Real.log_pos (by norm_num))
  obtain ⟨M, hM⟩ := fold_max_coe hn sr
  have e1 : Finset.univ.fold max ⊥ s = (M : EReal) := by
    have := hM 1 one_pos
    simp only [mul_one] at this
    rw [← this, show s = fun k => (sr k : EReal) from funext hsr]
  have ht' : t = fun k => ((sr k * (Real.log 2)⁻¹ : ℝ) : EReal) := funext fun k => by rw [ht, hsr, ← EReal.coe_mul]
  have e2 : Finset.univ.fold max ⊥ t = ((M * (Real.log 2)⁻¹ : ℝ) : EReal) := by rw [ht']; exact hM _ hlog
  have e3 : ∀ k, Ideal.exp2 (t k - Finset.univ.fold max ⊥ t) = ((Real.exp (sr k - M) : ℝ) : EReal) := fun k => by
    rw [e2, ht', ← EReal.coe_sub, ← sub_mul, exp2_scaled]
  have e4 : ∀ k, Ideal.exp (s k - max ⊥ (Finset.univ.fold max ⊥ s)) = ((Real.exp (sr k - M) : ℝ) : EReal) := fun k => by
    rw [max_eq_right bot_le, e1, hsr, ← EReal.coe_sub, Ideal.exp_coe]
  simp only [e3, e4, hvr, mul_one, ← EReal.coe_mul, coe_sum]
  have hD : (0 : ℝ) < ∑ k, Real.exp (sr k - M) := Finset.sum_pos (fun k _ => Real.exp_pos _) ⟨⟨0, hn⟩, Finset.mem_univ _⟩
  have hD' : ((∑ k, Real.exp (sr k - M) : ℝ) : EReal) ≠ 0 := by exact_mod_cast hD.ne'
  simp only [Ideal.div, if_neg hD', ← EReal.coe_inv, ← EReal.coe_mul, coe_sum]
  refine congrArg _ ?_
  rw [Finset.sum_mul]
  exact Finset.sum_congr rfl fun k _ => by ring

end Cert.Proof

end
-- ==== Proof.Real.lean ====
/-
  From real arguments every row of the layer is real.
-/
module

public import proofs.«01_k».proof.Proof.Softmax
public import proofs.«01_k».proof.Proof.Ref2

@[expose] public section

noncomputable section

namespace Cert.Proof

open Idealize.ShloMosaic

theorem bits_1024 : Ideal.ofBits .f32 0x44800000#32 = ((1024 : ℝ) : EReal) := by
  simp [Ideal.ofBits, Ideal.ieee, -EReal.coe_mul]; norm_num

theorem bits_256 : Ideal.ofBits .f32 0x43800000#32 = ((256 : ℝ) : EReal) := by
  simp [Ideal.ofBits, Ideal.ieee, -EReal.coe_mul]; norm_num

theorem bits_128 : Ideal.ofBits .f32 0x43000000#32 = ((128 : ℝ) : EReal) := by
  simp [Ideal.ofBits, Ideal.ieee, -EReal.coe_mul]; norm_num

theorem bits_96 : Ideal.ofBits .f32 0x42C00000#32 = ((96 : ℝ) : EReal) := by
  simp [Ideal.ofBits, Ideal.ieee, -EReal.coe_mul]; norm_num

theorem bits_32 : Ideal.ofBits .f32 0x42000000#32 = ((32 : ℝ) : EReal) := by
  simp [Ideal.ofBits, Ideal.ieee, -EReal.coe_mul]; norm_num

theorem bits_2 : Ideal.ofBits .f32 0x40000000#32 = ((2 : ℝ) : EReal) := by
  simp [Ideal.ofBits, Ideal.ieee, -EReal.coe_mul]; norm_num

theorem bits_10000 : Ideal.ofBits .f32 0x461C4000#32 = ((10000 : ℝ) : EReal) := by
  simp [Ideal.ofBits, Ideal.ieee, -EReal.coe_mul]; norm_num

theorem eps_pos : ∃ r : ℝ, 0 < r ∧ epsE = (r : EReal) := by
  refine ⟨_, ?_, show epsE = ((8796093 * 2 ^ (-43 : ℤ) : ℝ) : EReal) from ?_⟩
  · positivity
  · simp [epsE, Ideal.ofBits, Ideal.ieee, -EReal.coe_mul]

theorem IsReal.rms {n : ℕ} {cnt : ℝ} (hc : 0 < cnt) {x : Fin n → EReal} (hx : ∀ l, IsReal (x l)) (l : Fin n) :
    IsReal (rms (cnt : EReal) x l) := by
  obtain ⟨e, he, hE⟩ := eps_pos
  choose y hy using hx
  refine (hy l ▸ IsReal.coe _ : IsReal (x l)).mul (IsReal.rsqrt ?_ ?_)
  · refine (IsReal.div (IsReal.sum _ fun k => ?_) (IsReal.coe _) (by exact_mod_cast hc.ne')).add (hE ▸ IsReal.coe e)
    rw [hy k]
    exact (IsReal.coe _).mul (IsReal.coe _)
  · have h₁ : (∑ k, x k * x k) = ((∑ k, y k * y k : ℝ) : EReal) := by
      rw [← coe_sum]
      exact Finset.sum_congr rfl fun k _ => by rw [hy k, EReal.coe_mul]
    rw [h₁, hE]
    unfold Ideal.div
    rw [if_neg (by exact_mod_cast hc.ne'), ← EReal.coe_inv, ← EReal.coe_mul, ← EReal.coe_add]
    have h₂ : 0 ≤ ∑ k, y k * y k := Finset.sum_nonneg fun k _ => _root_.mul_self_nonneg _
    have h₃ : 0 < (∑ k, y k * y k) * cnt⁻¹ + e := add_pos_of_nonneg_of_pos (mul_nonneg h₂ (inv_nonneg.2 hc.le)) he
    exact_mod_cast h₃

theorem IsReal.sitofp (n : BitVec 32) : IsReal (FloatOps.sitofp .f32 n : Ideal .f32) := ⟨_, rfl⟩

theorem IsReal.angle (s j : ℕ) : IsReal (angle s j) := by
  unfold Cert.Proof.angle
  rw [bits_10000, bits_32, bits_2]
  obtain ⟨t, ht⟩ : IsReal (Ideal.div (((2 : ℝ) : EReal) * (FloatOps.sitofp .f32 (BitVec.ofNat 32 j) : Ideal .f32)) ((32 : ℝ) : EReal)) :=
    IsReal.div ((IsReal.coe _).mul (IsReal.sitofp _)) (IsReal.coe _) (by norm_num)
  rw [ht, Ideal.pow_coe_coe]
  refine (IsReal.sitofp _).mul (IsReal.div IsReal.one (IsReal.coe _) ?_)
  have h : (0 : ℝ) < Real.rpow 10000 t := Real.rpow_pos_of_pos (by norm_num) t
  exact_mod_cast h.ne'

theorem IsReal.logistic {x : EReal} : IsReal x → IsReal (Ideal.logistic x)
  | ⟨a, ha⟩ => ⟨_, by rw [ha]; exact Ideal.logistic_coe a⟩

theorem IsReal.rope2 {v : Fin 32 → EReal} (hv : ∀ i, IsReal (v i)) (s : ℕ) (i : Fin 32) : IsReal (rope2 v s i) := by
  unfold Cert.Proof.rope2
  split_ifs
  · exact ((hv _).mul (IsReal.angle _ _).cos).sub ((hv _).mul (IsReal.angle _ _).sin)
  · exact ((hv _).mul (IsReal.angle _ _).cos).add ((hv _).mul (IsReal.angle _ _).sin)

namespace Args

/-- Every argument is real. -/
structure AllReal (A : Args) : Prop where
  x : ∀ b s l, IsReal (A.x b s l)
  c : ∀ b l, IsReal (A.c b l)
  wAda : ∀ l n, IsReal (A.wAda l n)
  bAda : ∀ n, IsReal (A.bAda n)
  wIn : ∀ l n, IsReal (A.wIn l n)
  qn : ∀ l, IsReal (A.qn l)
  wQ : ∀ l n, IsReal (A.wQ l n)
  kn : ∀ l, IsReal (A.kn l)
  wKv : ∀ l n, IsReal (A.wKv l n)

variable {A : Args} (hA : A.AllReal)
include hA

theorem real_mod (b : Fin 8) (n : Fin 6144) : IsReal (A.mod b n) :=
  (IsReal.sum _ fun l => ((hA.c b l).mul (hA.c b l).logistic).mul (hA.wAda l n)).add (hA.bAda n)

theorem real_h (b : Fin 8) (s : Fin 4096) (l : Fin 1024) : IsReal (A.h b s l) := by
  unfold Args.h modRow
  rw [bits_1024]
  exact ((IsReal.rms (by norm_num) (hA.x b s) l).mul (IsReal.one.add (real_mod hA b _))).add (real_mod hA b _)

theorem real_proj (b : Fin 8) (s : Fin 4096) (n : Fin 1184) : IsReal (A.proj b s n) :=
  IsReal.sum _ fun l => (real_h hA b s l).mul (hA.wIn l n)

theorem real_ql (b : Fin 8) (s : Fin 4096) (l : Fin 256) : IsReal (A.ql b s l) := by
  unfold Args.ql
  rw [bits_256]
  exact (IsReal.rms (by norm_num) (fun _ => real_proj hA b s _) l).mul (hA.qn l)

theorem real_kl (b : Fin 8) (s : Fin 4096) (l : Fin 128) : IsReal (A.kl b s l) := by
  unfold Args.kl
  rw [bits_128]
  exact (IsReal.rms (by norm_num) (fun _ => real_proj hA b s _) l).mul (hA.kn l)

theorem real_q (b : Fin 8) (s : Fin 4096) (n : Fin 768) : IsReal (A.q b s n) :=
  IsReal.sum _ fun l => (real_ql hA b s l).mul (hA.wQ l n)

theorem real_kv (b : Fin 8) (s : Fin 4096) (n : Fin 1024) : IsReal (A.kv b s n) :=
  IsReal.sum _ fun l => (real_kl hA b s l).mul (hA.wKv l n)

theorem real_qr (b : Fin 8) (s : Fin 4096) (h : Fin 8) (i : Fin 32) : IsReal (A.qr b s h i) :=
  IsReal.rope2 (fun _ => real_q hA b s _) _ _

theorem real_kr (b : Fin 8) (s : Fin 4096) (i : Fin 32) : IsReal (A.kr b s i) :=
  IsReal.rope2 (fun _ => real_proj hA b s _) _ _

end Args

/-- The reference's scale. -/
theorem ref_scale : Ideal.div 1 (Ideal.sqrt (Ideal.ofBits .f32 0x42C00000#32)) = (((Real.sqrt 96)⁻¹ : ℝ) : EReal) := by
  have h : Real.sqrt 96 ≠ 0 := (Real.sqrt_pos.2 (by norm_num)).ne'
  rw [bits_96, Ideal.sqrt_coe, if_neg (by norm_num)]
  unfold Ideal.div
  rw [if_neg (by exact_mod_cast h), one_mul, EReal.coe_inv]

/-- The scores with the scale inside the queries are the scores times the scale. -/
theorem scores_scaled (q k : Fin 64 → EReal) (qr kr : Fin 32 → EReal) (hq : ∀ d, IsReal (q d)) (hk : ∀ d, IsReal (k d))
    (hqr : ∀ i, IsReal (qr i)) (hkr : ∀ i, IsReal (kr i)) (a b : ℝ) :
    (∑ d, q d * ((a * b : ℝ) : EReal) * k d) + (∑ i, qr i * ((a * b : ℝ) : EReal) * kr i)
      = ((∑ d, q d * k d) + ∑ i, kr i * qr i) * (b : EReal) * (a : EReal) := by
  choose q' hq using hq
  choose k' hk using hk
  choose qr' hqr using hqr
  choose kr' hkr using hkr
  simp only [hq, hk, hqr, hkr, ← EReal.coe_mul, coe_sum, ← EReal.coe_add]
  refine congrArg _ ?_
  rw [add_mul, add_mul, Finset.sum_mul, Finset.sum_mul, Finset.sum_mul, Finset.sum_mul]
  congr 1 <;> exact Finset.sum_congr rfl fun _ _ => by ring

end Cert.Proof
-- ==== Proof.Match.lean ====
/-
  On real arguments the kernel's attention is the layer's.
-/
module

public import proofs.«01_k».proof.Proof.Lanes
public import proofs.«01_k».proof.Proof.Real

@[expose] public section

set_option maxRecDepth 16384

noncomputable section

namespace Cert.Proof

open Idealize.ShloMosaic Idealize.SL.Sem Cert.KernelIdeal Cert.KernelIdeal.Gen Idealize.ShloMosaic.TcCoe

/-- A sum over the lanes of a head, in its three parts. -/
theorem sum_lanes (f : Fin 128 → EReal) :
    ∑ l, f l = (∑ d : Fin 64, f ⟨d.val, by omega⟩)
      + ((∑ i : Fin 32, f ⟨64 + i.val, by omega⟩) + ∑ i : Fin 32, f ⟨64 + (32 + i.val), by omega⟩) :=
  (Fin.sum_univ_add (a := 64) (b := 64) f).trans
    (congrArg (_ + ·) (Fin.sum_univ_add (a := 32) (b := 32) fun i => f ⟨64 + i.val, by omega⟩))

theorem zero_mul_of {a b : EReal} (h : a = 0) : a * b = 0 := by rw [h, zero_mul]

theorem sum_three {a b c a' b' : EReal} (h₁ : a = a') (h₂ : b = b') (h₃ : c = 0) : a + (b + c) = a' + b' := by
  rw [h₁, h₂, h₃, add_zero]

variable (m : (ℓ : Loc nD τ sig) → Buf (Elt Ideal) ℓ) (ρ : Dev nD → PrngReg) (c : Dev nD)

theorem real_score {A : Args} (hA : A.AllReal) (b : Fin 8) (h : Fin 8) (s k : Fin 4096) : IsReal (A.score b h s k) := by
  unfold Args.score
  rw [ref_scale]
  exact ((IsReal.sum _ fun d => (A.real_q hA b s _).mul (A.real_kv hA b k _)).add
    (IsReal.sum _ fun i => (A.real_kr hA b k i).mul (A.real_qr hA b s h i))).mul (IsReal.coe _)

theorem score_eq (hA : (argsOf m c).AllReal) (b : Fin 8) (h : Fin 8) (s k : Fin 4096) :
    rowScore (fun l => qArr (V9 m ρ) c b s ⟨h.val * 128 + l.val, by omega⟩)
        (fun k l => kArr (V9 m ρ) c b k ⟨h.val * 128 + l.val, by omega⟩) k
      = (argsOf m c).score b h s k * (((Real.log 2)⁻¹ : ℝ) : EReal) := by
  unfold rowScore
  refine (sum_lanes _).trans ?_
  have e₁ : (∑ d : Fin 64, qArr (V9 m ρ) c b s ⟨h.val * 128 + d.val, by omega⟩ * kArr (V9 m ρ) c b k ⟨h.val * 128 + d.val, by omega⟩)
      = ∑ d : Fin 64, (argsOf m c).q b s ⟨h.val * 96 + d.val, by omega⟩ * scaleE
          * (argsOf m c).kv b k ⟨h.val * 128 + d.val, by omega⟩ :=
    Finset.sum_congr rfl fun d _ => congrArg₂ (· * ·)
      ((q_lane m ρ c b s h ⟨d.val, by omega⟩).trans (congrArg (· * scaleE)
        ((dif_neg fun h' => absurd h'.1 (by show ¬ 64 ≤ d.val; omega)).trans (dif_pos (by show d.val < 96; omega)))))
      ((k_lane m ρ c b k h ⟨d.val, by omega⟩ (by show d.val < 96; omega)).trans (dif_neg (by show ¬ 64 ≤ d.val; omega)))
  have e₂ : (∑ i : Fin 32, qArr (V9 m ρ) c b s ⟨h.val * 128 + (64 + i.val), by omega⟩
        * kArr (V9 m ρ) c b k ⟨h.val * 128 + (64 + i.val), by omega⟩)
      = ∑ i : Fin 32, (argsOf m c).qr b s h i * scaleE * (argsOf m c).kr b k i :=
    Finset.sum_congr rfl fun i _ => congrArg₂ (· * ·)
      ((q_lane m ρ c b s h ⟨64 + i.val, by omega⟩).trans (congrArg (· * scaleE)
        ((dif_pos ⟨by show 64 ≤ 64 + i.val; omega, by show 64 + i.val < 96; omega⟩).trans
          (congrArg ((argsOf m c).qr b s h) (Fin.ext (by show 64 + i.val - 64 = i.val; omega))))))
      ((k_lane m ρ c b k h ⟨64 + i.val, by omega⟩ (by show 64 + i.val < 96; omega)).trans
        ((dif_pos (by show 64 ≤ 64 + i.val; omega)).trans
          (congrArg ((argsOf m c).kr b k) (Fin.ext (by show 64 + i.val - 64 = i.val; omega)))))
  have e₃ : (∑ i : Fin 32, qArr (V9 m ρ) c b s ⟨h.val * 128 + (64 + (32 + i.val)), by omega⟩
        * kArr (V9 m ρ) c b k ⟨h.val * 128 + (64 + (32 + i.val)), by omega⟩) = 0 :=
    Finset.sum_eq_zero fun i _ => by
      have h₁ := (q_lane m ρ c b s h ⟨64 + (32 + i.val), by omega⟩).trans (congrArg (· * scaleE)
        ((dif_neg fun h' => absurd h'.2 (by show ¬ 64 + (32 + i.val) < 96; omega)).trans
          (dif_neg (by show ¬ 64 + (32 + i.val) < 96; omega))))
      exact zero_mul_of (h₁.trans (zero_mul _))
  refine (sum_three e₁ e₂ e₃).trans ?_
  unfold Args.score
  rw [ref_scale]
  exact scores_scaled _ _ _ _ (fun _ => Args.real_q hA b s _) (fun _ => Args.real_kv hA b k _)
    (fun _ => Args.real_qr hA b s h _) (fun _ => Args.real_kr hA b k _) _ _

theorem out_eq (hA : (argsOf m c).AllReal) (b : Fin 8) (s : Fin 4096) (n : Fin 512) :
    mlaOut (fun i => qArr (V9 m ρ) c (i 0) (i 1) (i 2)) (fun i => kArr (V9 m ρ) c (i 0) (i 1) (i 2))
        (fun i => vArr (V9 m ρ) c (i 0) (i 1) (i 2)) b s n
      = (argsOf m c).out b s ⟨n.val / 64, by omega⟩ ⟨n.val % 64, by omega⟩ := by
  have h₁ : ∀ k : Fin 4096, vArr (V9 m ρ) c b k ⟨n.val / 64 * 128 + n.val % 64, by omega⟩
      = (argsOf m c).val b ⟨n.val / 64, by omega⟩ k ⟨n.val % 64, by omega⟩ := fun k =>
    v_lane m ρ c b k ⟨n.val / 64, by omega⟩ ⟨n.val % 64, by omega⟩
  have h₂ : ∀ k : Fin 4096, vArr (V9 m ρ) c b k ⟨n.val / 64 * 128 + (64 + n.val % 64), by omega⟩ = 1 := fun k =>
    one_lane m ρ c b k ⟨n.val / 64, by omega⟩ ⟨n.val % 64, by omega⟩
  unfold mlaOut headOut rowSum Args.out
  refine Eq.trans ?_ (softmax_pair (by norm_num) _ _ _ (fun k => real_score hA b ⟨n.val / 64, by omega⟩ s k)
    (fun k => Args.real_kv hA b k _) (score_eq m ρ c hA b ⟨n.val / 64, by omega⟩ s))
  exact congrArg₂ Ideal.div (Finset.sum_congr rfl fun k _ => mul_of_eq (h₁ k)) (Finset.sum_congr rfl fun k _ => mul_of_eq (h₂ k))

end Cert.Proof
-- ==== Proof.Finite.lean ====
/-
  The precondition says that every argument is real.
-/
module

public import proofs.«01_k».proof.Proof.Match
public import proofs.«01_k».proof.Defs
public import proofs.«01_k».proof.Proof.Gen.Pre_finite

@[expose] public section

set_option maxRecDepth 16384

noncomputable section

namespace Cert.Proof

open Idealize.ShloMosaic Idealize.SL.Sem Idealize.ShloMosaic.TcCoe

theorem inf_bits : Ideal.ofBits .f32 0x7F800000#32 = ⊤ := by
  simp [Ideal.ofBits, Ideal.ieee, -EReal.coe_mul]

/-- An array whose absolute values compare below infinity is real. -/
theorem real_of_finite {S : Shape} {x y : FVec Ideal S .f32} (hy : ∀ i, y i = (⊤ : EReal))
    (h : cmpf .olt (Host.absf x) y = fun _ => 1#1) (i : S.Idx) : IsReal (x i) := by
  have h₁ := congrFun h i
  have h₂ : (cmpf .olt (Host.absf x) y) i = BitVec.ofBool (decide (max (x i : EReal) (-(x i)) < y i)) := by
    pointwise
    rfl
  rw [h₂, hy i] at h₁
  by_cases h₃ : max (x i : EReal) (-(x i)) < ⊤
  · exact isReal_of_abs_lt_top h₃
  · rw [decide_eq_false h₃] at h₁
    exact absurd h₁ (by decide)

theorem allReal_of_pre (m : (ℓ : Loc KernelIdeal.nD KernelIdeal.τ KernelIdeal.sig) → Buf (Elt Ideal) ℓ)
    (h : Cert.Pre_KernelIdeal_finite m) (c : Dev KernelIdeal.nD) : (argsOf m c).AllReal := by
  obtain ⟨h₀, h₁, h₂, h₃, h₄, h₅, h₆, h₇, h₈⟩ := h c
  exact {
    x := fun _ _ _ => real_of_finite (fun _ => inf_bits) h₀ _
    c := fun _ _ => real_of_finite (fun _ => inf_bits) h₁ _
    wAda := fun _ _ => real_of_finite (fun _ => inf_bits) h₂ _
    bAda := fun _ => real_of_finite (fun _ => inf_bits) h₃ _
    wIn := fun _ _ => real_of_finite (fun _ => inf_bits) h₄ _
    qn := fun _ => real_of_finite (fun _ => inf_bits) h₅ _
    wQ := fun _ _ => real_of_finite (fun _ => inf_bits) h₆ _
    kn := fun _ => real_of_finite (fun _ => inf_bits) h₇ _
    wKv := fun _ _ => real_of_finite (fun _ => inf_bits) h₈ _ }

end Cert.Proof
-- ==== Proof.Run.lean ====
/-
  The idealized kernel's run: it ends with the last region's array in the result buffer and the arguments as launched.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
-- the launch theorem's implicit arguments are found through plain definitions in a metavariable's type
set_option backward.isDefEq.respectTransparency.types false in
/-- From any memory with zero counters every run ends with the last kernel's array and the input projection's first
    three in the result buffers and every argument as launched. -/
theorem run_ob : θ_run defs (onTc (τ := τ) (main (F := F))) ⟨m, fun _ => 0, ρ⟩ (fun r => ∀ c : Dev nD,
      r.2.mem ((c.tc : Thread nD τ).loc main_v84) = W11 m ρ c (Proc.devRef .tc main_v84)
      ∧ r.2.mem ((c.tc : Thread nD τ).loc main_v83_0) = W11 m ρ c (Proc.devRef .tc main_v83_0)
      ∧ r.2.mem ((c.tc : Thread nD τ).loc main_v83_1) = W11 m ρ c (Proc.devRef .tc main_v83_1)
      ∧ r.2.mem ((c.tc : Thread nD τ).loc main_v83_2) = W11 m ρ c (Proc.devRef .tc main_v83_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨h c _ (mem_uc main_v84 (by decide)), h c _ (mem_uc main_v83_0 (by decide)), h c _ (mem_uc main_v83_1 (by decide)),
       h c _ (mem_uc main_v83_2 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Gen
-- ==== Proof.OutPay.lean ====
/-
  The output projection's block step, read at an index: the mixed row added to the input, and its modulated
  normalization, transposed.
-/
module

public import proofs.«01_k».proof.Proof.Gen.Kernel2Ideal.Frame
public import proofs.«01_k».proof.Proof.InPay
public import Idealize.ShloMosaic.Lib.Pipeline.ValueKit.Geometry
public import Idealize.ShloMosaic.Lib.Pipeline.ValueKit.Acc

@[expose] public section

set_option maxRecDepth 16384

noncomputable section

namespace Cert.Proof.Out

open Idealize.ShloMosaic Cert.Kernel2Ideal Cert.Kernel2Ideal.Gen

/-- The length of a row of one half of the mixed lanes. -/
def halfE : EReal := Ideal.ofBits .f32 0x44000000#32

/-- One lane of the projected mix of two rows of 512 lanes: each row normalized and scaled, against its half of a
    column of the weight. -/
def mixLane (a b ga gb : Fin 512 → EReal) (w : Fin 1024 → EReal) : EReal :=
  (∑ k : Fin 512, (rms halfE a k * ga k) * w ⟨k.val, by omega⟩)
    + ∑ k : Fin 512, (rms halfE b k * gb k) * w ⟨512 + k.val, by omega⟩

/-- The residual row: the input plus the gated projection. -/
def resRow (x g : Fin 1024 → EReal) (a b ga gb : Fin 512 → EReal) (w : Fin 1024 → Fin 1024 → EReal) (n : Fin 1024) :
    EReal :=
  x n + g n * mixLane a b ga gb fun k => w k n

/-! ## The block's residual -/

variable (u0 u1 : Vec Ideal S1x512x512 .f32) (u2 : Vec Ideal S1x512x1024 .f32) (u3 : Vec Ideal S1x6x1024 .f32)
  (u4 u5 : Vec Ideal S1x512 .f32) (u6 : Vec Ideal S1024x1024 .bf16)

/-- Row `r` of the block's residual. -/
def blockRes (r : Fin 512) : Fin 1024 → EReal :=
  resRow (fun n => u2 (ix3 0 r n)) (fun n => u3 (ix3 0 2 n)) (fun k => u0 (ix3 0 r k)) (fun k => u1 (ix3 0 r k))
    (fun k => u4 (ix2 0 k)) (fun k => u5 (ix2 0 k)) fun k n => u6 (ix2 k n)

theorem pay6_apply (r k : Fin 512) :
    k0_pay6 (F := Ideal) u0 u1 u2 u3 u4 u5 u6 (ix2 r k) = rms halfE (fun k => u1 (ix3 0 r k)) k * u5 (ix2 0 k) := by
  unfold k0_pay6 k0_pay1
  pointwise [rms, epsE, halfE]

theorem pay7_apply (r : Fin 512) (n : Fin 1024) :
    k0_pay7 (F := Ideal) u0 u1 u2 u3 u4 u5 u6 (ix2 r n)
      = ∑ k : Fin 512, (rms halfE (fun k => u0 (ix3 0 r k)) k * u4 (ix2 0 k)) * u6 (ix2 ⟨k.val, by omega⟩ n) := by
  unfold k0_pay7 k0_pay2
  pointwise [rms, epsE, halfE]

theorem pay3_apply (p : FVec Ideal S512x512 .bf16) (q : FVec Ideal S512x1024 .f32) (w : Vec Ideal S512x1024 .bf16)
    (x : Vec Ideal S1x512x1024 .f32) (g : Vec Ideal S1x1x1024 .f32) (r : Fin 512) (n : Fin 1024) :
    k0_pay3 (F := Ideal) p q w x g (ix2 r n)
      = x (ix3 0 r n) + g (ix3 0 0 n) * (q (ix2 r n) + ∑ k : Fin 512, p (ix2 r k) * w (ix2 k n)) := by
  unfold k0_pay3
  pointwise

theorem res_pay_apply (r : Fin 512) (n : Fin 1024) :
    k0_pay3 (F := Ideal) (k0_pay6 u0 u1 u2 u3 u4 u5 u6) (k0_pay7 u0 u1 u2 u3 u4 u5 u6) (View.ld u6 r0_3) (View.ld u2 r0_4)
      (View.ld u3 r0_5) (ix2 r n) = blockRes u0 u1 u2 u3 u4 u5 u6 r n := by
  rw [pay3_apply, pay7_apply]
  simp only [pay6_apply]
  unfold blockRes resRow mixLane
  pointwise

theorem pay5_apply (p : FVec Ideal S512x512 .bf16) (q : FVec Ideal S512x1024 .f32) (w : Vec Ideal S512x1024 .bf16)
    (x : Vec Ideal S1x512x1024 .f32) (g sc sh : Vec Ideal S1x1x1024 .f32) (r : Fin 512) (n : Fin 1024) :
    k0_pay5 (F := Ideal) p q w x g sc sh (ix2 n r)
      = modRow (fun n => k0_pay3 (F := Ideal) p q w x g (ix2 r n)) (fun n => sh (ix3 0 0 n)) (fun n => sc (ix3 0 0 n)) n := by
  unfold k0_pay5
  generalize k0_pay3 (F := Ideal) p q w x g = y
  pointwise [modRow, rms, epsE]

/-! ## The block's two results -/

theorem out0_7_apply (j : S1x512x1024.Idx) :
    out0_7 (F := Ideal) u0 u1 u2 u3 u4 u5 u6 j = blockRes u0 u1 u2 u3 u4 u5 u6 (j 1) (j 2) := by
  unfold out0_7
  refine View.canon_apply_of_pieces (Val := Elt Ideal) (fun j => blockRes u0 u1 u2 u3 u4 u5 u6 (j 1) (j 2)) _ ?_ j
    (cover0_7 _ j)
  intro p hp x
  simp only [List.mem_cons, List.not_mem_nil, or_false] at hp
  subst hp
  idx_vars x
  unfold k0_pay4
  pointwise
  refine (res_pay_apply u0 u1 u2 u3 u4 u5 u6 _ _).trans ?_
  rw [show r0_4.emb (ix3 x0 x1 x2) 1 = x1 from Fin.ext (by simp [ValueKit.rect_emb_unit_val]),
    show r0_4.emb (ix3 x0 x1 x2) 2 = x2 from Fin.ext (by simp [ValueKit.rect_emb_unit_val])]

theorem out0_8_apply (j : S1024x512.Idx) :
    out0_8 (F := Ideal) u0 u1 u2 u3 u4 u5 u6 j
      = modRow (blockRes u0 u1 u2 u3 u4 u5 u6 (j 1)) (fun n => u3 (ix3 0 3 n)) (fun n => u3 (ix3 0 4 n)) (j 0) := by
  unfold out0_8
  refine View.canon_apply_of_pieces (Val := Elt Ideal)
    (fun j => modRow (blockRes u0 u1 u2 u3 u4 u5 u6 (j 1)) (fun n => u3 (ix3 0 3 n)) (fun n => u3 (ix3 0 4 n)) (j 0)) _ ?_ j
    (cover0_8 _ j)
  intro p hp x
  simp only [List.mem_cons, List.not_mem_nil, or_false] at hp
  subst hp
  idx_vars x
  refine (pay5_apply _ _ _ _ _ _ _ _ _).trans ?_
  simp only [res_pay_apply]
  rw [show r0_8.emb (ix2 x0 x1) 1 = x1 from Fin.ext (by simp [ValueKit.rect_emb_unit_val]),
    show r0_8.emb (ix2 x0 x1) 0 = x0 from Fin.ext (by simp [ValueKit.rect_emb_unit_val])]
  pointwise

end Cert.Proof.Out
-- ==== Proof.OutHost.lean ====
/-
  The host lines before the output projection: its weight with the first half of the rows, and the first scale, put in the
  order the windowed attention stores its lanes in.
-/
module

public import proofs.«01_k».proof.Proof.Gen.Kernel2Ideal.Frame
public import Idealize.ShloMosaic.Lib.Pointwise
public import Idealize.ShloMosaic.Lib.StableHlo.ReadAt
public import Idealize.ShloMosaic.Lib.Pipeline.Value

@[expose] public section

set_option maxRecDepth 16384

noncomputable section

namespace Cert.Proof.Out

open Idealize.ShloMosaic Idealize.SL.Sem Cert.Kernel2Ideal Cert.Kernel2Ideal.Gen Idealize.ShloMosaic.TcCoe

/-- The place, among the lanes in the heads' own order, of stored lane `k`: heads are stored as 0, 4, 1, 5, 2, 6, 3, 7,
    each of 64 lanes. -/
def laneOf (k : Fin 512) : Fin 512 := ⟨(k.val / 64 % 2 * 4 + k.val / 128) * 64 + k.val % 64, by omega⟩

/-- The table of places the host lines gather by. -/
theorem table_apply (k : Fin 512) : lit0 (Shape.rowMajor S512 (ix1 k)) = BitVec.ofNat 32 (laneOf k).val := by
  revert k
  decide +kernel

/-- The word of a number below 512 reads back as it. -/
theorem word_nat (n : ℕ) (h : n < 512) : (BitVec.ofNat 32 n).toInt.toNat = n := by
  rw [BitVec.toInt_eq_toNat_of_lt (by rw [BitVec.toNat_ofNat]; omega), BitVec.toNat_ofNat]
  omega

section Gathers
variable {α : Type}

theorem siIdx_lane (k : Fin 512) (i) : gather_S512_S512x1_S512_n_0_n_n_0_1_1.siIdx (ix1 k) i = ix2 k 0 := by
  funext b
  refine Fin.ext ?_
  match b with
  | ⟨0, _⟩ => rfl
  | ⟨1, _⟩ => exact Nat.lt_one_iff.mp (Fin.isLt _)

theorem siIdx_row (k : Fin 512) (n : Fin 1024) (i) :
    gather_S1024x1024_S512x1_S512x1024_1_0_n_n_0_1_11024.siIdx (ix2 k n) i = ix2 k 0 := by
  funext b
  refine Fin.ext ?_
  match b with
  | ⟨0, _⟩ => rfl
  | ⟨1, _⟩ => exact Nat.lt_one_iff.mp (Fin.isLt _)

/-- A gather of single elements reads the operand at the index. -/
theorem gather_lane_apply (x : S512.Idx → α) (idx : IVec S512x1 32) (k p : Fin 512)
    (h : idx (ix2 k 0) = BitVec.ofNat 32 p.val) :
    Host.gather gather_S512_S512x1_S512_n_0_n_n_0_1_1 x idx (ix1 k) = x (ix1 p) := by
  unfold Host.gather
  congr 1
  funext a
  obtain rfl : a = 0 := Subsingleton.elim _ _
  refine Fin.ext ?_
  show GatherDims.start _ _ idx 0 + GatherDims.batchCoord _ _ 0 + GatherDims.offCoord _ _ 0 = _
  rw [GatherDims.batchCoord_eq_zero _ _ _ List.not_mem_nil, GatherDims.offCoord_eq_zero _ _ _ (by decide)]
  unfold GatherDims.start
  rw [dif_pos (by decide), siIdx_lane, h, word_nat _ p.isLt]
  exact Nat.min_eq_left (Nat.le_of_lt_succ p.isLt)

/-- A gather of whole rows reads the operand at the row index. -/
theorem gather_row_apply (x : S1024x1024.Idx → α) (idx : IVec S512x1 32) (k p : Fin 512) (n : Fin 1024)
    (h : idx (ix2 k 0) = BitVec.ofNat 32 p.val) :
    Host.gather gather_S1024x1024_S512x1_S512x1024_1_0_n_n_0_1_11024 x idx (ix2 k n) = x (ix2 ⟨p.val, by omega⟩ n) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  obtain rfl | rfl : a = 0 ∨ a = 1 := by
    match a with
    | ⟨0, _⟩ => exact Or.inl rfl
    | ⟨1, _⟩ => exact Or.inr rfl
  · rw [GatherDims.offCoord_eq_zero _ _ _ (by decide)]
    unfold GatherDims.start
    rw [dif_pos (by decide), siIdx_row, h, word_nat _ p.isLt]
    exact Nat.min_eq_left (by have := p.isLt; show p.val ≤ 1023; omega)
  · unfold GatherDims.start GatherDims.offCoord
    rw [dif_neg (by decide), dif_pos (by decide)]
    simp only [Nat.add_zero, Nat.zero_add]
    rfl

end Gathers

/-- The gathers' index is the table's word: the choice against it is by a constant. -/
theorem index_apply (y : IVec S512 32) (k : Fin 512) :
    broadcastInDim S512x1 ![0] bcast_S512_S512x1_0
      (select (constantI S512 1 0#1) y fun i => lit0 (S512.rowMajor i)) (ix2 k 0) = BitVec.ofNat 32 (laneOf k).val := by
  refine Eq.trans ?_ (table_apply k)
  pointwise

variable (m : (ℓ : Loc nD τ sig) → Buf (Elt Ideal) ℓ) (c : Dev nD)

theorem host_mod (b : Fin 8) (k : Fin 6) (n : Fin 1024) :
    V m c main_v0 (ix3 b k n) = m ((c.tc : Thread nD τ).loc main_arg3) (ix2 b ⟨k.val * 1024 + n.val, by omega⟩) := by
  unfold V hostOps0
  after_reads_at

theorem host_gb (k : Fin 512) :
    V m c main_v18 (ix2 0 k) = m ((c.tc : Thread nD τ).loc main_arg5) (ix2 0 k) := by
  unfold V hostOps0
  after_reads_at

theorem host_ga (k : Fin 512) :
    V m c main_v16 (ix2 0 k) = m ((c.tc : Thread nD τ).loc main_arg4) (ix2 0 (laneOf k)) := by
  unfold V hostOps0
  after_reads_at
  exact gather_lane_apply _ _ k (laneOf k) (index_apply _ k)

theorem host_w_lo (k : Fin 512) (n : Fin 1024) :
    V m c main_v9 (ix2 ⟨k.val, by omega⟩ n)
      = m ((c.tc : Thread nD τ).loc main_arg6) (ix3 0 ⟨(laneOf k).val, by omega⟩ n) := by
  unfold V hostOps0
  after_reads_at
  after_reads_at
  exact gather_row_apply _ _ k (laneOf k) n (index_apply _ k)

theorem host_w_hi (k : Fin 512) (n : Fin 1024) :
    V m c main_v9 (ix2 ⟨512 + k.val, by omega⟩ n)
      = m ((c.tc : Thread nD τ).loc main_arg6) (ix3 0 ⟨512 + k.val, by omega⟩ n) := by
  unfold V hostOps0
  after_reads_at
  after_reads_at

end Cert.Proof.Out
-- ==== Proof.OutArr.lean ====
/-
  The output projection's two result arrays, whole, from the arguments.
-/
module

public import proofs.«01_k».proof.Proof.OutPay
public import proofs.«01_k».proof.Proof.OutHost

@[expose] public section

set_option maxRecDepth 16384

noncomputable section

namespace Cert.Proof.Out

open Idealize.ShloMosaic Idealize.SL.Sem Cert.Kernel2Ideal Cert.Kernel2Ideal.Gen Idealize.ShloMosaic.TcCoe
open Idealize.ShloMosaic.Pipeline (Dat Cfg Window)

/-! ## The blocks' places -/

theorem oidx_0 : ∀ t : Fin cfg0.N, win0_0.index t = ![(grid0.coords t 1).val, (grid0.coords t 0).val, 0] :=
  (by decide +kernel : ∀ t : Fin grid0.N, _)
theorem oidx_1 : ∀ t : Fin cfg0.N, win0_1.index t = ![(grid0.coords t 1).val, (grid0.coords t 0).val, 0] :=
  (by decide +kernel : ∀ t : Fin grid0.N, _)
theorem oidx_2 : ∀ t : Fin cfg0.N, win0_2.index t = ![(grid0.coords t 1).val, (grid0.coords t 0).val, 0] :=
  (by decide +kernel : ∀ t : Fin grid0.N, _)
theorem oidx_3 : ∀ t : Fin cfg0.N, win0_3.index t = ![(grid0.coords t 1).val, 0, 0] :=
  (by decide +kernel : ∀ t : Fin grid0.N, _)
theorem oidx_4 : ∀ t : Fin cfg0.N, win0_4.index t = ![0, 0] := (by decide +kernel : ∀ t : Fin grid0.N, _)
theorem oidx_5 : ∀ t : Fin cfg0.N, win0_5.index t = ![0, 0] := (by decide +kernel : ∀ t : Fin grid0.N, _)
theorem oidx_6 : ∀ t : Fin cfg0.N, win0_6.index t = ![0, 0] := (by decide +kernel : ∀ t : Fin grid0.N, _)
theorem oidx_7 : ∀ t : Fin cfg0.N, win0_7.index t = ![(grid0.coords t 1).val, (grid0.coords t 0).val, 0] :=
  (by decide +kernel : ∀ t : Fin grid0.N, _)
theorem oidx_8 : ∀ t : Fin cfg0.N, win0_8.index t = ![0, (grid0.coords t 1).val * 8 + (grid0.coords t 0).val] :=
  (by decide +kernel : ∀ t : Fin grid0.N, _)

variable (m : (ℓ : Loc nD τ sig) → Buf (Elt Ideal) ℓ) (c : Dev nD)

/-- The batch and the position of row `r` of point `t`'s blocks. -/
def outB (t : Fin cfg0.N) : Fin 8 := grid0.coords t 1
def outS (t : Fin cfg0.N) (r : Fin 512) : Fin 4096 :=
  ⟨(grid0.coords t 0).val * 512 + r.val, by have : (grid0.coords t 0).val < 8 := (grid0.coords t 0).isLt; omega⟩

set_option maxHeartbeats 1000000 in
theorem oblk_0_apply (t : Fin cfg0.N) (r k : Fin 512) :
    iblk m c 0 t (ix3 0 r k) = m ((c.tc : Thread nD τ).loc main_arg0) (ix3 (outB t) (outS t r) k) := by
  refine Eq.trans ?_ (congrFun (V_main_arg0 m c) _)
  unfold outB outS
  blk_ext [iblk, oidx_0]

set_option maxHeartbeats 1000000 in
theorem oblk_1_apply (t : Fin cfg0.N) (r k : Fin 512) :
    iblk m c 1 t (ix3 0 r k) = m ((c.tc : Thread nD τ).loc main_arg1) (ix3 (outB t) (outS t r) k) := by
  refine Eq.trans ?_ (congrFun (V_main_arg1 m c) _)
  unfold outB outS
  blk_ext [iblk, oidx_1]

set_option maxHeartbeats 1000000 in
theorem oblk_2_apply (t : Fin cfg0.N) (r : Fin 512) (n : Fin 1024) :
    iblk m c 2 t (ix3 0 r n) = m ((c.tc : Thread nD τ).loc main_arg2) (ix3 (outB t) (outS t r) n) := by
  refine Eq.trans ?_ (congrFun (V_main_arg2 m c) _)
  unfold outB outS
  blk_ext [iblk, oidx_2]

set_option maxHeartbeats 1000000 in
theorem oblk_3_apply (t : Fin cfg0.N) (k : Fin 6) (n : Fin 1024) :
    iblk m c 3 t (ix3 0 k n)
      = m ((c.tc : Thread nD τ).loc main_arg3) (ix2 (outB t) ⟨k.val * 1024 + n.val, by omega⟩) := by
  refine Eq.trans ?_ (host_mod m c (outB t) k n)
  unfold outB
  blk_ext [iblk, oidx_3]

set_option maxHeartbeats 1000000 in
theorem oblk_4_apply (t : Fin cfg0.N) (k : Fin 512) :
    iblk m c 4 t (ix2 0 k) = m ((c.tc : Thread nD τ).loc main_arg4) (ix2 0 (laneOf k)) := by
  refine Eq.trans ?_ (host_ga m c k)
  blk_ext [iblk, oidx_4]

set_option maxHeartbeats 1000000 in
theorem oblk_5_apply (t : Fin cfg0.N) (k : Fin 512) :
    iblk m c 5 t (ix2 0 k) = m ((c.tc : Thread nD τ).loc main_arg5) (ix2 0 k) := by
  refine Eq.trans ?_ (host_gb m c k)
  blk_ext [iblk, oidx_5]

/-- The projection's weight as the kernel reads it: the first half of the rows in the stored order. -/
def outW (k n : Fin 1024) : EReal := V m c main_v9 (ix2 k n)

set_option maxHeartbeats 1000000 in
theorem oblk_6_apply (t : Fin cfg0.N) (k n : Fin 1024) : iblk m c 6 t (ix2 k n) = outW m c k n := by
  unfold outW
  blk_ext [iblk, oidx_6]

/-! ## The arrays -/

/-- Lane `n` of chunk `k` of the modulation of batch `b`. -/
def modAt (k : Fin 6) (b : Fin 8) (n : Fin 1024) : EReal :=
  m ((c.tc : Thread nD τ).loc main_arg3) (ix2 b ⟨k.val * 1024 + n.val, by omega⟩)

/-- The residual row of batch `b` at position `s`. -/
def arrRes (b : Fin 8) (s : Fin 4096) : Fin 1024 → EReal :=
  resRow (fun n => m ((c.tc : Thread nD τ).loc main_arg2) (ix3 b s n)) (modAt m c 2 b)
    (fun k => m ((c.tc : Thread nD τ).loc main_arg0) (ix3 b s k))
    (fun k => m ((c.tc : Thread nD τ).loc main_arg1) (ix3 b s k))
    (fun k => m ((c.tc : Thread nD τ).loc main_arg4) (ix2 0 (laneOf k)))
    (fun k => m ((c.tc : Thread nD τ).loc main_arg5) (ix2 0 k)) (outW m c)

theorem blockRes_eq (t : Fin cfg0.N) (r : Fin 512) :
    blockRes (iblk m c 0 t) (iblk m c 1 t) (iblk m c 2 t) (iblk m c 3 t) (iblk m c 4 t) (iblk m c 5 t) (iblk m c 6 t) r
      = arrRes m c (outB t) (outS t r) := by
  unfold blockRes arrRes modAt
  simp only [oblk_0_apply, oblk_1_apply, oblk_2_apply, oblk_3_apply, oblk_4_apply, oblk_5_apply, oblk_6_apply]

set_option maxHeartbeats 1000000 in
theorem res_arr : (dats m 0 c).arrAt 7 cfg0.N = fun i : S8x4096x1024.Idx => arrRes m c (i 0) (i 1) (i 2) := by
  refine (dats m 0 c).arrAt_eq_of_covers 7 _ (by decide +kernel) fun t hf y => ?_
  blk_simp
  rw [after0_7, out0_7_apply]
  refine (congrFun (blockRes_eq m c t (y 1)) (y 2)).trans ?_
  have y0 : (y 0 : ℕ) = 0 := by have h : (y 0 : ℕ) < 1 := (y 0).isLt; omega
  have e : ∀ (b b' : Fin 8) (s s' : Fin 4096) (n n' : Fin 1024), b = b' → s = s' → n = n' →
      arrRes m c b s n = arrRes m c b' s' n' := by
    rintro b _ s _ n _ rfl rfl rfl
    rfl
  refine e _ _ _ _ _ _ (Fin.ext ?_) (Fin.ext ?_) (Fin.ext ?_)
  · unfold outB
    blk_simp [oidx_7, y0]
  · unfold outS
    blk_simp [oidx_7]
  · blk_simp [oidx_7]

/-- The second result's lane `n` of batch `b` at position `s`. -/
def arrMod (b : Fin 8) (s : Fin 4096) : Fin 1024 → EReal :=
  modRow (arrRes m c b s) (modAt m c 3 b) (modAt m c 4 b)

theorem mod_block (t : Fin cfg0.N) (r : Fin 512) (n : Fin 1024) :
    modRow (blockRes (iblk m c 0 t) (iblk m c 1 t) (iblk m c 2 t) (iblk m c 3 t) (iblk m c 4 t) (iblk m c 5 t)
        (iblk m c 6 t) r) (fun n => iblk m c 3 t (ix3 0 3 n)) (fun n => iblk m c 3 t (ix3 0 4 n)) n
      = arrMod m c (outB t) (outS t r) n := by
  rw [blockRes_eq]
  unfold arrMod modAt
  simp only [oblk_3_apply]

set_option maxHeartbeats 1000000 in
theorem mod_arr : (dats m 0 c).arrAt 8 cfg0.N = fun i : S1024x32768.Idx =>
    arrMod m c ⟨(i 1).val / 4096, by have : (i 1).val < 32768 := (i 1).isLt; omega⟩ ⟨(i 1).val % 4096, by omega⟩ (i 0) := by
  refine (dats m 0 c).arrAt_eq_of_covers 8 _ (by decide +kernel) fun t hf y => ?_
  blk_simp
  rw [after0_8, out0_8_apply]
  refine (mod_block m c t (y 1) (y 0)).trans ?_
  have e : ∀ (b b' : Fin 8) (s s' : Fin 4096) (n n' : Fin 1024), b = b' → s = s' → n = n' →
      arrMod m c b s n = arrMod m c b' s' n' := by
    rintro b _ s _ n _ rfl rfl rfl
    rfl
  have h1 : (y 1 : ℕ) < 512 := (y 1).isLt
  have hi : (grid0.coords t 0).val < 8 := (grid0.coords t 0).isLt
  refine e (outB t) _ (outS t (y 1)) _ (y 0) _ (Fin.ext ?_) (Fin.ext ?_) (Fin.ext ?_)
  · unfold outB
    blk_simp [oidx_8]
    show (grid0.coords t 1).val = (((grid0.coords t 1).val * 8 + (grid0.coords t 0).val) * 512 + (y 1).val) / 4096
    omega
  · unfold outS
    blk_simp [oidx_8]
    show (grid0.coords t 0).val * 512 + (y 1).val
      = (((grid0.coords t 1).val * 8 + (grid0.coords t 0).val) * 512 + (y 1).val) % 4096
    omega
  · blk_simp [oidx_8]

end Cert.Proof.Out
-- ==== Proof.OutRef.lean ====
/-
  The output projection's reference, read at an index.
-/
module

public import proofs.«01_k».proof.Proof.Gen.Reference2Ideal.Read
public import Idealize.ShloMosaic.Lib.Pointwise
public import proofs.«01_k».proof.Proof.OutPay

@[expose] public section

set_option maxRecDepth 16384

noncomputable section

namespace Cert.Proof.Out

open Cert.Reference2Ideal Cert.Reference2Ideal.Gen Cert.Reference2Ideal.Read Idealize.ShloMosaic Idealize.ShloMosaic.TcCoe

/-- Where lane `k`, counted in the heads' own order, is stored: heads are stored as 0, 4, 1, 5, 2, 6, 3, 7. -/
def storedOf (k : Fin 512) : Fin 512 := ⟨(k.val / 64 % 4 * 2 + k.val / 256) * 64 + k.val % 64, by omega⟩

variable (x0 x1 : (⟨S8x4096x512, .f32⟩ : BufTy).Contents (Elt Ideal))
  (x2 : (⟨S8x4096x1024, .f32⟩ : BufTy).Contents (Elt Ideal)) (x3 : (⟨S8x6144, .f32⟩ : BufTy).Contents (Elt Ideal))
  (x4 x5 : (⟨S1x512, .f32⟩ : BufTy).Contents (Elt Ideal)) (x6 : (⟨S1x1024x1024, .f32⟩ : BufTy).Contents (Elt Ideal))

theorem o_v8 (b : Fin 8) (s : Fin 4096) (k : Fin 512) :
    val_main_v8 (F := Ideal) x0 (ix3 b s k) = x0 (ix3 b s (storedOf k)) := by
  unfold val_main_v8 val_main_v7 val_main_v6
  pointwise [storedOf]
  exact congrArg (fun k => x0 (ix3 b s k)) (Fin.ext (by show k.val / 64 % 4 * 128 + k.val / 256 * 64 + k.val % 64 = (k.val / 64 % 4 * 2 + k.val / 256) * 64 + k.val % 64; omega))

theorem o_v22 (b : Fin 8) (s : Fin 4096) (k : Fin 512) :
    val_main_v22 (F := Ideal) x0 x4 (ix3 b s k)
      = rms halfE (fun k => x0 (ix3 b s (storedOf k))) k * x4 (ix2 0 k) := by
  unfold val_main_v22 val_main_v21 val_main_v20 val_main_v19 val_main_v18 val_main_v17 val_main_v16 val_main_v15
    val_main_v14 val_main_v13 val_main_v12 val_main_v11 val_main_v10 val_main_v9 val_main_cst val_main_cst_0 val_main_cst_1
  pointwise [o_v8, rms, epsE, halfE]

theorem o_v36 (b : Fin 8) (s : Fin 4096) (k : Fin 512) :
    val_main_v36 (F := Ideal) x1 x5 (ix3 b s k) = rms halfE (fun k => x1 (ix3 b s k)) k * x5 (ix2 0 k) := by
  unfold val_main_v36 val_main_v35 val_main_v34 val_main_v33 val_main_v32 val_main_v31 val_main_v30 val_main_v29
    val_main_v28 val_main_v27 val_main_v26 val_main_v25 val_main_v24 val_main_v23 val_main_cst_2 val_main_cst_3
    val_main_cst_4
  pointwise [rms, epsE, halfE]

/-- The reference's residual row. -/
def refRes (b : Fin 8) (s : Fin 4096) : Fin 1024 → EReal :=
  resRow (fun n => x2 (ix3 b s n)) (fun n => x3 (ix2 b ⟨2 * 1024 + n.val, by omega⟩))
    (fun k => x0 (ix3 b s (storedOf k))) (fun k => x1 (ix3 b s k)) (fun k => x4 (ix2 0 k)) (fun k => x5 (ix2 0 k))
    fun k n => x6 (ix3 0 k n)

theorem o_v40 (b : Fin 8) (s : Fin 4096) (n : Fin 1024) :
    val_main_v40 (F := Ideal) x0 x1 x4 x5 x6 (ix3 b s n)
      = mixLane (fun k => x0 (ix3 b s (storedOf k))) (fun k => x1 (ix3 b s k)) (fun k => x4 (ix2 0 k))
          (fun k => x5 (ix2 0 k)) fun k => x6 (ix3 0 k n) := by
  unfold val_main_v40 val_main_v39 val_main_v37
  pointwise [o_v22, o_v36, mixLane]

theorem o_v43 (b : Fin 8) (s : Fin 4096) (n : Fin 1024) :
    val_main_v43 (F := Ideal) x0 x1 x2 x3 x4 x5 x6 (ix3 b s n) = refRes x0 x1 x2 x3 x4 x5 x6 b s n := by
  unfold val_main_v43 val_main_v42 val_main_v41 val_main_v38 val_main_v2
  pointwise [o_v40, refRes, resRow]

theorem o_v61 (b : Fin 8) (s : Fin 4096) (n : Fin 1024) :
    val_main_v61 (F := Ideal) x0 x1 x2 x3 x4 x5 x6 (ix3 b s n)
      = modRow (refRes x0 x1 x2 x3 x4 x5 x6 b s) (fun n => x3 (ix2 b ⟨3 * 1024 + n.val, by omega⟩))
          (fun n => x3 (ix2 b ⟨4 * 1024 + n.val, by omega⟩)) n := by
  unfold val_main_v61 val_main_v60 val_main_v59 val_main_v58 val_main_v57 val_main_v56 val_main_v55 val_main_v54
    val_main_v53 val_main_v52 val_main_v51 val_main_v50 val_main_v49 val_main_v48 val_main_v47 val_main_v46 val_main_v45
    val_main_v44 val_main_v3 val_main_v4 val_main_cst_5 val_main_cst_6 val_main_cst_7 val_main_cst_8
  pointwise [o_v43, modRow, rms, epsE]

theorem o_v64 (n : Fin 1024) (j : Fin 32768) :
    val_main_v64 (F := Ideal) x0 x1 x2 x3 x4 x5 x6 (ix2 n j)
      = modRow (refRes x0 x1 x2 x3 x4 x5 x6 ⟨j.val / 4096, by omega⟩ ⟨j.val % 4096, by omega⟩)
          (fun n => x3 (ix2 ⟨j.val / 4096, by omega⟩ ⟨3 * 1024 + n.val, by omega⟩))
          (fun n => x3 (ix2 ⟨j.val / 4096, by omega⟩ ⟨4 * 1024 + n.val, by omega⟩)) n := by
  refine Eq.trans ?_ (o_v61 x0 x1 x2 x3 x4 x5 x6 ⟨j.val / 4096, by omega⟩ ⟨j.val % 4096, by omega⟩ n)
  unfold val_main_v64 val_main_v63 val_main_v62
  pointwise

end Cert.Proof.Out
-- ==== Proof.OutMatch.lean ====
/-
  The output projection: the kernel's two arrays are the reference's. The kernel sums the first half of the mixed lanes in
  the order they are stored, the reference in the heads' own order.
-/
module

public import proofs.«01_k».proof.Proof.OutArr
public import proofs.«01_k».proof.Proof.OutRef

@[expose] public section

set_option maxRecDepth 16384

noncomputable section

namespace Cert.Proof.Out

open Idealize.ShloMosaic Idealize.SL.Sem Idealize.ShloMosaic.TcCoe

theorem stored_lane : ∀ k : Fin 512, storedOf (laneOf k) = k := by decide +kernel

theorem lane_stored : ∀ k : Fin 512, laneOf (storedOf k) = k := by decide +kernel

/-- The two orders of the lanes undo each other. -/
def laneEquiv : Fin 512 ≃ Fin 512 where
  toFun := laneOf
  invFun := storedOf
  left_inv := stored_lane
  right_inv := lane_stored

/-- A row's normalization does not depend on the order of its lanes. -/
theorem rms_reorder (cnt : EReal) (a : Fin 512 → EReal) (k : Fin 512) :
    rms cnt (fun k => a (storedOf k)) (laneOf k) = rms cnt a k := by
  have h : (∑ j, a (storedOf j) * a (storedOf j)) = ∑ j, a j * a j :=
    Equiv.sum_comp laneEquiv.symm fun j => a j * a j
  unfold rms
  simp only [h, stored_lane]

/-- The projected mix does not depend on the order of the first row's lanes. -/
theorem mix_reorder (a b ga gb : Fin 512 → EReal) (w w' : Fin 1024 → EReal)
    (lo : ∀ k : Fin 512, w' ⟨k.val, by omega⟩ = w ⟨(laneOf k).val, by omega⟩)
    (hi : ∀ k : Fin 512, w' ⟨512 + k.val, by omega⟩ = w ⟨512 + k.val, by omega⟩) :
    mixLane a b (fun k => ga (laneOf k)) gb w' = mixLane (fun k => a (storedOf k)) b ga gb w := by
  unfold mixLane
  simp only [lo, hi]
  refine congrArg₂ (· + ·) ?_ rfl
  refine Eq.trans (Finset.sum_congr rfl fun k _ => ?_) (Equiv.sum_comp laneEquiv
    fun k => rms halfE (fun k => a (storedOf k)) k * ga k * w ⟨k.val, by omega⟩)
  exact (congrArg (fun r => r * ga (laneOf k) * w ⟨(laneOf k).val, by omega⟩) (rms_reorder halfE a k)).symm

open Cert.Kernel2Ideal Cert.Kernel2Ideal.Gen in
theorem res_eq (m : (ℓ : Loc nD τ sig) → Buf (Elt Ideal) ℓ) (c : Dev nD) (b : Fin 8) (s : Fin 4096) :
    arrRes m c b s
      = refRes (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) b s := by
  funext n
  unfold arrRes refRes resRow
  refine congrArg₂ (· + ·) rfl (congrArg (modAt m c 2 b n * ·) ?_)
  exact mix_reorder (fun k => m ((c.tc : Thread nD τ).loc main_arg0) (ix3 b s k)) _
    (fun k => m ((c.tc : Thread nD τ).loc main_arg4) (ix2 0 k)) _
    (fun k => m ((c.tc : Thread nD τ).loc main_arg6) (ix3 0 k n)) _ (fun k => host_w_lo m c k n) fun k => host_w_hi m c k n

open Cert.Kernel2Ideal Cert.Kernel2Ideal.Gen in
/-- The first result. -/
theorem first_eq_ref (m : (ℓ : Loc nD τ sig) → Buf (Elt Ideal) ℓ) (c : Dev nD) :
    Cert.Reference2Ideal.Read.val_main_v43 (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      = (dats m 0 c).arrAt 7 cfg0.N := by
  rw [res_arr]
  funext j
  refine (congrArg _ (eq_ix3 j)).trans ?_
  exact (o_v43 _ _ _ _ _ _ _ (j 0) (j 1) (j 2)).trans (congrFun (res_eq m c (j 0) (j 1)) (j 2)).symm

open Cert.Kernel2Ideal Cert.Kernel2Ideal.Gen in
/-- The second result. -/
theorem second_eq_ref (m : (ℓ : Loc nD τ sig) → Buf (Elt Ideal) ℓ) (c : Dev nD) :
    Cert.Reference2Ideal.Read.val_main_v64 (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      = (dats m 0 c).arrAt 8 cfg0.N := by
  rw [mod_arr]
  funext j
  refine (congrArg _ (eq_ix2 j)).trans ?_
  refine (o_v64 _ _ _ _ _ _ _ (j 0) (j 1)).trans ?_
  unfold arrMod
  rw [res_eq]
  rfl

end Cert.Proof.Out
-- ==== Proof.WinPay.lean ====
/-
  The windowed attention's part of the input projection's vector code, read at an index over the extended reals: the rotary
  step on a tile of two heads of 64 lanes, the four stored tiles of the queries, the keys and the values.
-/
module

public import proofs.«01_k».proof.Proof.InPay

@[expose] public section

set_option maxRecDepth 16384

noncomputable section

namespace Cert.Proof

open Idealize.ShloMosaic Cert.KernelIdeal Cert.KernelIdeal.Gen

/-- The rotary step on a tile of two heads, from the tile's rows of the two tables. -/
def ropeWin (v c s : Fin 128 → EReal) (l : Fin 128) : EReal :=
  v l * c l + (if l.val % 64 < 32 then v ⟨(l.val + 128 - 96) % 128, by omega⟩
    else v ⟨(l.val + 128 - 32) % 128, by omega⟩) * s l

/-- The word the heads' width is divided by. -/
abbrev width : BitVec 32 := Scalar.select (Scalar.cmpi .eq 64#32 0#32) 1#32 64#32

/-- The mask of the lanes in the first half of their head. -/
theorem mask_win : ∀ l : Fin 128, k1_pay9 width k1_pay8 (ix2 0 l) = if l.val % 64 < 32 then 1#1 else 0#1 := by
  decide +kernel

theorem select_bit {α : Type} (p : Prop) [Decidable p] (x y : α) :
    Scalar.select (if p then 1#1 else 0#1) x y = if p then x else y := by
  split <;> rfl

/-- A lane of a stored tile of the queries; the tile starts at `o`. -/
def waLane (p : FVec Ideal S512x1280 .f32) (c s : FVec Ideal S512x128 .f32) (r : Fin 512) (o : ℕ) (ho : o + 128 ≤ 1280)
    (l : Fin 128) : EReal :=
  ropeWin (fun l => p (ix2 r ⟨o + l.val, by omega⟩)) (fun l => c (ix2 r l)) (fun l => s (ix2 r l)) l

/-- The scale folded into the stored queries. -/
abbrev winScale : EReal := Named.named (F := Ideal) (φ := .f32) κ "swa_scale" 0x3E38AA3B#32

section Tiles

variable (p : FVec Ideal S512x1280 .f32) (c s : FVec Ideal S512x128 .f32) (r : Fin 512) (l : Fin 128)
  (u : BitVec 32) (w : IVec S1x128 32) (m : IVec S1x128 1) (hm : k1_pay9 u w = m)
  (hb : m (ix2 0 l) = if l.val % 64 < 32 then 1#1 else 0#1)

include hm hb

theorem wa0_pay_apply : k1_pay10 (F := Ideal) p c s u w (ix3 0 r l) = waLane p c s r 0 (by omega) l * winScale := by
  unfold k1_pay10
  rw [hm]
  pointwise [waLane, ropeWin, hb]
  rw [select_bit]

theorem wa1_pay_apply :
    k1_pay12 (F := Ideal) (k1_pay11 p c s u w) (ix3 0 r l) = waLane p c s r 128 (by omega) l * winScale := by
  unfold k1_pay12 k1_pay11
  rw [hm]
  pointwise [waLane, ropeWin, hb]
  rw [select_bit]

omit hm

theorem wa2_pay_apply : k1_pay13 (F := Ideal) p c s m (ix3 0 r l) = waLane p c s r 256 (by omega) l * winScale := by
  unfold k1_pay13
  pointwise [waLane, ropeWin, hb]
  rw [select_bit]

theorem wa3_pay_apply : k1_pay14 (F := Ideal) p c s m (ix3 0 r l) = waLane p c s r 384 (by omega) l * winScale := by
  unfold k1_pay14
  pointwise [waLane, ropeWin, hb]
  rw [select_bit]

theorem wk_pay_apply : k1_pay16 (F := Ideal) (k1_pay15 p c s m) (ix3 0 r l) = waLane p c s r 512 (by omega) l := by
  unfold k1_pay16 k1_pay15
  pointwise [waLane, ropeWin, hb]
  rw [select_bit]

omit hb

theorem wv_pay_apply : k1_pay17 (F := Ideal) p (ix3 0 r l) = p (ix2 r ⟨640 + l.val, by omega⟩) := by
  unfold k1_pay17
  pointwise

end Tiles

end Cert.Proof
-- ==== Proof.WinIn.lean ====
/-
  The input projection's result arrays for the windowed attention, whole: each row from the arrays the kernel reads.
-/
module

public import proofs.«01_k».proof.Proof.WinPay
public import proofs.«01_k».proof.Proof.InprojArr

@[expose] public section

set_option maxRecDepth 16384

noncomputable section

namespace Cert.Proof

open Idealize.ShloMosaic Idealize.SL.Sem Cert.KernelIdeal Cert.KernelIdeal.Gen Idealize.ShloMosaic.TcCoe
open Idealize.ShloMosaic.Pipeline (Dat Cfg Window)

/-- A row of the stored queries. -/
def qaRow (p : Fin 1280 → EReal) (c s : Fin 128 → EReal) (n : Fin 512) : EReal :=
  ropeWin (fun l => p ⟨n.val / 128 * 128 + l.val, by omega⟩) c s ⟨n.val % 128, by omega⟩ * winScale

/-- A row of the stored keys. -/
def kaRow (p : Fin 1280 → EReal) (c s : Fin 128 → EReal) (n : Fin 128) : EReal :=
  ropeWin (fun l => p ⟨512 + l.val, by omega⟩) c s n

/-- A row of the stored values. -/
def vaRow (p : Fin 1280 → EReal) (n : Fin 128) : EReal := p ⟨640 + n.val, by omega⟩

section Block

variable (u0 : Vec Ideal S1x512x1024 .f32) (u1 : Vec Ideal S1x6x1024 .f32) (u2 : Vec Ideal S1024x1280 .bf16)
  (u3 : Vec Ideal S1x256 .f32) (u4 : Vec Ideal S256x1024 .bf16) (u5 : Vec Ideal S1x128 .f32)
  (u6 u7 : Vec Ideal S128x1024 .bf16) (u8 u9 u10 u11 : Vec Ideal S512x128 .f32)

theorem pay53_apply (r : Fin 512) (l : Fin 128) :
    k1_pay53 (F := Ideal) u0 u1 u2 u3 u4 u5 u6 u7 u8 u9 u10 u11 (ix2 r l) = u8 (ix2 r l) := by
  unfold k1_pay53 k1_pay6
  pointwise

theorem pay54_apply (r : Fin 512) (l : Fin 128) :
    k1_pay54 (F := Ideal) u0 u1 u2 u3 u4 u5 u6 u7 u8 u9 u10 u11 (ix2 r l) = u9 (ix2 r l) := by
  unfold k1_pay54 k1_pay7
  pointwise

theorem waLane_block (r : Fin 512) (o : ℕ) (ho : o + 128 ≤ 1280) (l : Fin 128) :
    waLane (k1_pay52 (F := Ideal) u0 u1 u2 u3 u4 u5 u6 u7 u8 u9 u10 u11) (k1_pay53 u0 u1 u2 u3 u4 u5 u6 u7 u8 u9 u10 u11)
        (k1_pay54 u0 u1 u2 u3 u4 u5 u6 u7 u8 u9 u10 u11) r o ho l
      = ropeWin (fun l => blockProj u0 u1 u2 r ⟨o + l.val, by omega⟩) (fun l => u8 (ix2 r l)) (fun l => u9 (ix2 r l)) l := by
  unfold waLane
  simp only [pay52_apply, pay53_apply, pay54_apply]

theorem mask_block (l : Fin 128) : k1_pay56 (F := Ideal) u0 u1 u2 u3 u4 u5 u6 u7 u8 u9 u10 u11 (ix2 0 l)
    = if l.val % 64 < 32 then 1#1 else 0#1 := mask_win l

theorem out1_14_apply (j : S1x512x128.Idx) :
    out1_14 (F := Ideal) u0 u1 u2 u3 u4 u5 u6 u7 u8 u9 u10 u11 j = vaRow (blockProj u0 u1 u2 (j 1)) (j 2) := by
  frame_out
  idx_vars j
  obtain rfl : j0 = 0 := Subsingleton.elim _ _
  refine (wv_pay_apply _ j1 j2).trans ?_
  rw [pay52_apply]
  rfl

theorem out1_13_apply (j : S1x512x128.Idx) :
    out1_13 (F := Ideal) u0 u1 u2 u3 u4 u5 u6 u7 u8 u9 u10 u11 j
      = kaRow (blockProj u0 u1 u2 (j 1)) (fun l => u8 (ix2 (j 1) l)) (fun l => u9 (ix2 (j 1) l)) (j 2) := by
  frame_out
  idx_vars j
  obtain rfl : j0 = 0 := Subsingleton.elim _ _
  refine (wk_pay_apply _ _ _ j1 j2 _ (mask_block u0 u1 u2 u3 u4 u5 u6 u7 u8 u9 u10 u11 j2)).trans ?_
  exact waLane_block u0 u1 u2 u3 u4 u5 u6 u7 u8 u9 u10 u11 j1 512 _ j2

theorem out1_12_apply (j : S1x512x512.Idx) :
    out1_12 (F := Ideal) u0 u1 u2 u3 u4 u5 u6 u7 u8 u9 u10 u11 j
      = qaRow (blockProj u0 u1 u2 (j 1)) (fun l => u8 (ix2 (j 1) l)) (fun l => u9 (ix2 (j 1) l)) (j 2) := by
  unfold out1_12
  refine View.canon_apply_of_pieces (Val := Elt Ideal) (fun j => qaRow (blockProj u0 u1 u2 (j 1))
    (fun l => u8 (ix2 (j 1) l)) (fun l => u9 (ix2 (j 1) l)) (j 2)) _ ?_ j (cover1_12 _ _ _ _ j)
  have key : ∀ (r : Fin 512) (l : Fin 128) (h : Fin 4) (i₁ : Fin 512) (i₂ : Fin 512), i₁.val = r.val →
      i₂.val = h.val * 128 + l.val →
      waLane (k1_pay52 (F := Ideal) u0 u1 u2 u3 u4 u5 u6 u7 u8 u9 u10 u11) (k1_pay53 u0 u1 u2 u3 u4 u5 u6 u7 u8 u9 u10 u11)
        (k1_pay54 u0 u1 u2 u3 u4 u5 u6 u7 u8 u9 u10 u11) r (h.val * 128) (by omega) l * winScale
      = qaRow (blockProj u0 u1 u2 i₁) (fun l => u8 (ix2 i₁ l)) (fun l => u9 (ix2 i₁ l)) i₂ := by
    intro r l h i₁ i₂ h₁ h₂
    obtain rfl : i₁ = r := Fin.ext h₁
    unfold qaRow
    rw [waLane_block]
    have e : i₂.val / 128 = h.val := by omega
    simp only [e]
    rw [show (⟨i₂.val % 128, by omega⟩ : Fin 128) = l from Fin.ext (by show i₂.val % 128 = l.val; omega)]
  have mk := mask_block u0 u1 u2 u3 u4 u5 u6 u7 u8 u9 u10 u11
  intro p hp x
  simp only [List.mem_cons, List.not_mem_nil, or_false] at hp
  rcases hp with rfl | rfl | rfl | rfl
  all_goals
    idx_vars x
    obtain rfl : x0 = 0 := Subsingleton.elim _ _
  · refine (wa3_pay_apply _ _ _ x1 x2 _ (mk x2)).trans ?_
    refine key x1 x2 3 _ _ ?_ ?_ <;> simp [ValueKit.rect_emb_unit_val]
  · refine (wa2_pay_apply _ _ _ x1 x2 _ (mk x2)).trans ?_
    refine key x1 x2 2 _ _ ?_ ?_ <;> simp [ValueKit.rect_emb_unit_val]
  · refine (wa1_pay_apply _ _ _ x1 x2 _ _ _ rfl (mask_win x2)).trans ?_
    refine key x1 x2 1 _ _ ?_ ?_ <;> simp [ValueKit.rect_emb_unit_val]
  · refine (wa0_pay_apply _ _ _ x1 x2 _ _ _ rfl (mask_win x2)).trans ?_
    refine key x1 x2 0 _ _ ?_ ?_ <;> simp [ValueKit.rect_emb_unit_val]

end Block

/-! ## The blocks' places -/

theorem idx1_8 : ∀ t : Fin cfg1.N, win1_8.index t = ![(grid1.coords t 0).val, 0] :=
  (by decide +kernel : ∀ t : Fin grid1.N, _)
theorem idx1_9 : ∀ t : Fin cfg1.N, win1_9.index t = ![(grid1.coords t 0).val, 0] :=
  (by decide +kernel : ∀ t : Fin grid1.N, _)
theorem idx1_12 : ∀ t : Fin cfg1.N, win1_12.index t = ![(grid1.coords t 1).val, (grid1.coords t 0).val, 0] :=
  (by decide +kernel : ∀ t : Fin grid1.N, _)
theorem idx1_13 : ∀ t : Fin cfg1.N, win1_13.index t = ![(grid1.coords t 1).val, (grid1.coords t 0).val, 0] :=
  (by decide +kernel : ∀ t : Fin grid1.N, _)
theorem idx1_14 : ∀ t : Fin cfg1.N, win1_14.index t = ![(grid1.coords t 1).val, (grid1.coords t 0).val, 0] :=
  (by decide +kernel : ∀ t : Fin grid1.N, _)

variable (V : (c : Dev nD) → (b : Ref sig .tc) → Buf (Elt Ideal) ((c : Thread nD τ).loc b)) (c : Dev nD)

set_option maxHeartbeats 1000000 in
theorem iblk1_8_apply (t : Fin cfg1.N) (r : Fin 512) (l : Fin 128) :
    iblk1 V c 8 t (ix2 r l) = V c main_v19 (ix2 (ptS t r) l) := by
  unfold ptS
  blk_ext [iblk1, idx1_8]

set_option maxHeartbeats 1000000 in
theorem iblk1_9_apply (t : Fin cfg1.N) (r : Fin 512) (l : Fin 128) :
    iblk1 V c 9 t (ix2 r l) = V c main_v22 (ix2 (ptS t r) l) := by
  unfold ptS
  blk_ext [iblk1, idx1_9]

/-! ## The arrays -/

/-- The stored queries, from the arrays. -/
def qaArr (b : Fin 8) (s : Fin 4096) (n : Fin 512) : EReal :=
  qaRow (arrProj V c b s) (fun l => V c main_v19 (ix2 s l)) (fun l => V c main_v22 (ix2 s l)) n

/-- The stored keys, from the arrays. -/
def kaArr (b : Fin 8) (s : Fin 4096) (n : Fin 128) : EReal :=
  kaRow (arrProj V c b s) (fun l => V c main_v19 (ix2 s l)) (fun l => V c main_v22 (ix2 s l)) n

/-- The stored values, from the arrays. -/
def vaArr (b : Fin 8) (s : Fin 4096) (n : Fin 128) : EReal := vaRow (arrProj V c b s) n

theorem qa_block (t : Fin cfg1.N) (r : Fin 512) (n : Fin 512) :
    qaRow (blockProj (iblk1 V c 0 t) (iblk1 V c 1 t) (iblk1 V c 2 t) r) (fun l => iblk1 V c 8 t (ix2 r l))
        (fun l => iblk1 V c 9 t (ix2 r l)) n = qaArr V c (ptB t) (ptS t r) n := by
  unfold qaArr
  simp only [blockProj_eq, iblk1_8_apply, iblk1_9_apply]

theorem ka_block (t : Fin cfg1.N) (r : Fin 512) (n : Fin 128) :
    kaRow (blockProj (iblk1 V c 0 t) (iblk1 V c 1 t) (iblk1 V c 2 t) r) (fun l => iblk1 V c 8 t (ix2 r l))
        (fun l => iblk1 V c 9 t (ix2 r l)) n = kaArr V c (ptB t) (ptS t r) n := by
  unfold kaArr
  simp only [blockProj_eq, iblk1_8_apply, iblk1_9_apply]

theorem va_block (t : Fin cfg1.N) (r : Fin 512) (n : Fin 128) :
    vaRow (blockProj (iblk1 V c 0 t) (iblk1 V c 1 t) (iblk1 V c 2 t) r) n = vaArr V c (ptB t) (ptS t r) n := by
  unfold vaArr
  simp only [blockProj_eq]

set_option maxHeartbeats 1000000 in
theorem qa_arr : (dat1 V c).arrAt 12 cfg1.N = fun i : S8x4096x512.Idx => qaArr V c (i 0) (i 1) (i 2) := by
  refine (dat1 V c).arrAt_eq_of_covers 12 _ (by decide +kernel) fun t hf y => ?_
  blk_simp
  rw [after1_12, out1_12_apply]
  refine (qa_block V c t (y 1) (y 2)).trans ?_
  have y0 : (y 0 : ℕ) = 0 := by have h : (y 0 : ℕ) < 1 := (y 0).isLt; omega
  refine congr₃ _ (Fin.ext ?_) (Fin.ext ?_) (Fin.ext ?_)
  · unfold ptB
    blk_simp [idx1_12, y0]
  · unfold ptS
    blk_simp [idx1_12]
  · blk_simp [idx1_12]

set_option maxHeartbeats 1000000 in
theorem ka_arr : (dat1 V c).arrAt 13 cfg1.N = fun i : S8x4096x128.Idx => kaArr V c (i 0) (i 1) (i 2) := by
  refine (dat1 V c).arrAt_eq_of_covers 13 _ (by decide +kernel) fun t hf y => ?_
  blk_simp
  rw [after1_13, out1_13_apply]
  refine (ka_block V c t (y 1) (y 2)).trans ?_
  have y0 : (y 0 : ℕ) = 0 := by have h : (y 0 : ℕ) < 1 := (y 0).isLt; omega
  refine congr₃ _ (Fin.ext ?_) (Fin.ext ?_) (Fin.ext ?_)
  · unfold ptB
    blk_simp [idx1_13, y0]
  · unfold ptS
    blk_simp [idx1_13]
  · blk_simp [idx1_13]

set_option maxHeartbeats 1000000 in
theorem va_arr : (dat1 V c).arrAt 14 cfg1.N = fun i : S8x4096x128.Idx => vaArr V c (i 0) (i 1) (i 2) := by
  refine (dat1 V c).arrAt_eq_of_covers 14 _ (by decide +kernel) fun t hf y => ?_
  blk_simp
  rw [after1_14, out1_14_apply]
  refine (va_block V c t (y 1) (y 2)).trans ?_
  have y0 : (y 0 : ℕ) = 0 := by have h : (y 0 : ℕ) < 1 := (y 0).isLt; omega
  refine congr₃ _ (Fin.ext ?_) (Fin.ext ?_) (Fin.ext ?_)
  · unfold ptB
    blk_simp [idx1_14, y0]
  · unfold ptS
    blk_simp [idx1_14]
  · blk_simp [idx1_14]

end Cert.Proof
-- ==== Proof.WinRows.lean ====
/-
  The windowed attention's queries, keys and values as plain functions of the layer's arguments, and the rotary step on a tile
  of two heads as the rotation of each head.
-/
module

public import proofs.«01_k».proof.Proof.WinPay
public import proofs.«01_k».proof.Proof.Rows

@[expose] public section

noncomputable section

namespace Cert.Proof

open Idealize.ShloMosaic

/-- The rotary angle of position `s` and frequency `j` in a head of 64 lanes. -/
def angleWin (s j : ℕ) : EReal :=
  (FloatOps.sitofp .f32 (BitVec.ofNat 32 s) : Ideal .f32)
    * Ideal.div 1 (Ideal.pow (Ideal.ofBits .f32 0x461C4000#32)
        (Ideal.div (Ideal.ofBits .f32 0x40000000#32 * (FloatOps.sitofp .f32 (BitVec.ofNat 32 j) : Ideal .f32))
          (Ideal.ofBits .f32 0x42800000#32)))

/-- The cosine table's lane. -/
def cosWin (s l : ℕ) : EReal := Ideal.cos (angleWin s (l % 32))

/-- The sine table's lane. -/
def sinWin (s l : ℕ) : EReal := if l % 64 < 32 then -Ideal.sin (angleWin s (l % 32)) else Ideal.sin (angleWin s (l % 32))

/-- The rotation of a head's 64 lanes at position `s`: the first half turned against the second. -/
def rope64 (v : Fin 64 → EReal) (s : ℕ) (i : Fin 64) : EReal :=
  if h : i.val < 32 then
    v ⟨i.val, by omega⟩ * Ideal.cos (angleWin s i.val) - v ⟨32 + i.val, by omega⟩ * Ideal.sin (angleWin s i.val)
  else v ⟨32 + (i.val - 32), by omega⟩ * Ideal.cos (angleWin s (i.val - 32))
    + v ⟨i.val - 32, by omega⟩ * Ideal.sin (angleWin s (i.val - 32))

/-- The two tables rotate each head of a tile. -/
theorem rope_win (v : Fin 128 → EReal) (s : ℕ) (l : Fin 128) :
    ropeWin v (fun l => cosWin s l.val) (fun l => sinWin s l.val) l
      = rope64 (fun d => v ⟨l.val / 64 * 64 + d.val, by omega⟩) s ⟨l.val % 64, by omega⟩ := by
  unfold ropeWin rope64 cosWin sinWin
  dsimp only
  by_cases h : l.val % 64 < 32
  · rw [if_pos h, if_pos h, dif_pos h, mul_neg, sub_eq_add_neg]
    have e₁ : (⟨l.val / 64 * 64 + l.val % 64, by omega⟩ : Fin 128) = l :=
      Fin.ext (by show l.val / 64 * 64 + l.val % 64 = l.val; omega)
    have e₂ : (⟨l.val / 64 * 64 + (32 + l.val % 64), by omega⟩ : Fin 128) = ⟨(l.val + 128 - 96) % 128, by omega⟩ :=
      Fin.ext (by show l.val / 64 * 64 + (32 + l.val % 64) = (l.val + 128 - 96) % 128; omega)
    have e₃ : l.val % 32 = l.val % 64 := by omega
    simp only [e₁, e₂, e₃]
  · rw [if_neg h, if_neg h, dif_neg h]
    have e₁ : (⟨l.val / 64 * 64 + (32 + (l.val % 64 - 32)), by omega⟩ : Fin 128) = l :=
      Fin.ext (by show l.val / 64 * 64 + (32 + (l.val % 64 - 32)) = l.val; omega)
    have e₂ : (⟨l.val / 64 * 64 + (l.val % 64 - 32), by omega⟩ : Fin 128) = ⟨(l.val + 128 - 32) % 128, by omega⟩ :=
      Fin.ext (by show l.val / 64 * 64 + (l.val % 64 - 32) = (l.val + 128 - 32) % 128; omega)
    have e₃ : l.val % 32 = l.val % 64 - 32 := by omega
    simp only [e₁, e₂, e₃]

/-- The place, among the lanes in the heads' own order, of stored lane `k`. -/
def winLane (k : Fin 512) : Fin 512 := ⟨(k.val / 64 % 2 * 4 + k.val / 128) * 64 + k.val % 64, by omega⟩

namespace Args

variable (A : Args)

/-- The stored queries: each head rotated, scaled, and in the stored order. -/
def qa (b : Fin 8) (s : Fin 4096) (n : Fin 512) : EReal :=
  rope64 (fun d => A.proj b s ⟨(n.val / 64 % 2 * 4 + n.val / 128) * 64 + d.val, by omega⟩) s.val ⟨n.val % 64, by omega⟩
    * Ideal.div 1 (Ideal.sqrt (Ideal.ofBits .f32 0x42800000#32) * Ideal.log (Ideal.ofBits .f32 0x40000000#32))

/-- The keys: each head rotated. -/
def ka (b : Fin 8) (s : Fin 4096) (n : Fin 128) : EReal :=
  rope64 (fun d => A.proj b s ⟨512 + (n.val / 64 * 64 + d.val), by omega⟩) s.val ⟨n.val % 64, by omega⟩

/-- The values. -/
def va (b : Fin 8) (s : Fin 4096) (n : Fin 128) : EReal := A.proj b s ⟨640 + n.val, by omega⟩

end Args

end Cert.Proof
-- ==== Proof.WinHost.lean ====
/-
  The host lines behind the windowed attention's operands: the two rotary tables, and the queries' columns of the projection
  matrix, gathered in the stored order of the heads.
-/
module

public import proofs.«01_k».proof.Proof.WinRows
public import proofs.«01_k».proof.Proof.HostReads

@[expose] public section

set_option maxRecDepth 16384

noncomputable section

namespace Cert.Proof

open Idealize.ShloMosaic Idealize.SL.Sem Cert.KernelIdeal Cert.KernelIdeal.Gen Idealize.ShloMosaic.TcCoe

/-- The table of places the host lines gather by. -/
theorem win_table (k : Fin 512) : lit0 (Shape.rowMajor S512 (ix1 k)) = BitVec.ofNat 32 (winLane k).val := by
  revert k
  decide +kernel

/-- The word of a number below 512 reads back as it. -/
theorem win_word (n : ℕ) (h : n < 512) : (BitVec.ofNat 32 n).toInt.toNat = n := by
  rw [BitVec.toInt_eq_toNat_of_lt (by rw [BitVec.toNat_ofNat]; omega), BitVec.toNat_ofNat]
  omega

theorem siIdx_col (l : Fin 1024) (k : Fin 512) (i) :
    gather_S1024x1184_S512x1_S1024x512_0_1_n_n_1_1_10241.siIdx (ix2 l k) i = ix2 k 0 := by
  funext b
  refine Fin.ext ?_
  match b with
  | ⟨0, _⟩ => rfl
  | ⟨1, _⟩ => exact Nat.lt_one_iff.mp (Fin.isLt _)

/-- A gather of whole columns reads the operand at the column index. -/
theorem gather_col_apply {α : Type} (x : S1024x1184.Idx → α) (idx : IVec S512x1 32) (l : Fin 1024) (k p : Fin 512)
    (h : idx (ix2 k 0) = BitVec.ofNat 32 p.val) :
    Host.gather gather_S1024x1184_S512x1_S1024x512_0_1_n_n_1_1_10241 x idx (ix2 l k) = x (ix2 l ⟨p.val, by omega⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  obtain rfl | rfl : a = 0 ∨ a = 1 := by
    match a with
    | ⟨0, _⟩ => exact Or.inl rfl
    | ⟨1, _⟩ => exact Or.inr rfl
  · unfold GatherDims.start GatherDims.offCoord
    rw [dif_neg (by decide), dif_pos (by decide)]
    simp only [Nat.add_zero, Nat.zero_add]
    rfl
  · rw [GatherDims.offCoord_eq_zero _ _ _ (by decide)]
    unfold GatherDims.start
    rw [dif_pos (by decide), siIdx_col, h, win_word _ p.isLt]
    exact Nat.min_eq_left (by have := p.isLt; show p.val ≤ 1183; omega)

/-- A choice by a bit that is off. -/
theorem choose_apply (f : IVec S512 1) (y t : IVec S512 32) (k : Fin 512) (hf : f (ix1 k) = 0#1) :
    broadcastInDim S512x1 ![0] bcast_S512_S512x1_0 (select f y t) (ix2 k 0) = t (ix1 k) := by
  pointwise
  rw [hf]
  rfl

variable (V : Valuation τ sig (Elt Ideal))

theorem read_c (k : Fin 512) :
    StableHlo.after hostOps0 V (Proc.devRef .tc main_c) (ix1 k) = BitVec.ofNat 32 (winLane k).val := by
  refine Eq.trans ?_ (win_table k)
  unfold hostOps0
  after_reads_at

theorem read_c0 (k : Fin 512) : StableHlo.after hostOps0 V (Proc.devRef .tc main_c_0) (ix1 k) = 0#1 := by
  unfold hostOps0
  after_reads_at

theorem read_v63_lo (l : Fin 1024) (n : Fin 512) (h : V (Proc.devRef .tc main_c) (ix1 n) = BitVec.ofNat 32 (winLane n).val)
    (h₀ : V (Proc.devRef .tc main_c_0) (ix1 n) = 0#1) :
    (StableHlo.after hostOps1 V (Proc.devRef .tc main_v63) (ix2 l ⟨n.val, by omega⟩) : EReal)
      = V (Proc.devRef .tc main_arg4) (ix3 0 l ⟨(winLane n).val, by omega⟩) := by
  unfold hostOps1
  after_reads_at
  after_reads_at
  refine (gather_col_apply _ _ l n (winLane n) ?_).trans ?_
  · exact (choose_apply _ _ _ n h₀).trans h
  · pointwise

set_option maxHeartbeats 2000000 in
theorem read_v19 (s : Fin 4096) (l : Fin 128) :
    (StableHlo.after hostOps0 V (Proc.devRef .tc main_v19) (ix2 s l) : EReal) = cosWin s.val l.val := by
  have hl := l.isLt
  by_cases h0 : l.val < 32
  · unfold cosWin angleWin
    rw [show l.val % 32 = l.val by omega]
    unfold hostOps0
    after_reads_at
    rw [dif_pos (by omega)]
    after_reads_at
  by_cases h1 : l.val < 64
  · unfold cosWin angleWin
    rw [show l.val % 32 = l.val - 32 by omega]
    unfold hostOps0
    after_reads_at
    rw [dif_neg (by omega), dif_pos (by omega)]
    after_reads_at
  by_cases h2 : l.val < 96
  · unfold cosWin angleWin
    rw [show l.val % 32 = l.val - 32 - 32 by omega]
    unfold hostOps0
    after_reads_at
    rw [dif_neg (by omega), dif_neg (by omega), dif_pos (by omega)]
    after_reads_at
  unfold cosWin angleWin
  rw [show l.val % 32 = l.val - 32 - 32 - 32 by omega]
  unfold hostOps0
  after_reads_at
  rw [dif_neg (by omega), dif_neg (by omega), dif_neg (by omega)]
  after_reads_at

set_option maxHeartbeats 2000000 in
theorem read_v22 (s : Fin 4096) (l : Fin 128) :
    (StableHlo.after hostOps0 V (Proc.devRef .tc main_v22) (ix2 s l) : EReal) = sinWin s.val l.val := by
  have hl := l.isLt
  by_cases h0 : l.val < 32
  · unfold sinWin angleWin
    rw [if_pos (by omega), show l.val % 32 = l.val by omega]
    unfold hostOps0
    after_reads_at
    rw [dif_pos (by omega)]
    after_reads_at
  by_cases h1 : l.val < 64
  · unfold sinWin angleWin
    rw [if_neg (by omega), show l.val % 32 = l.val - 32 by omega]
    unfold hostOps0
    after_reads_at
    rw [dif_neg (by omega), dif_pos (by omega)]
    after_reads_at
  by_cases h2 : l.val < 96
  · unfold sinWin angleWin
    rw [if_pos (by omega), show l.val % 32 = l.val - 32 - 32 by omega]
    unfold hostOps0
    after_reads_at
    rw [dif_neg (by omega), dif_neg (by omega), dif_pos (by omega)]
    after_reads_at
  unfold sinWin angleWin
  rw [if_neg (by omega), show l.val % 32 = l.val - 32 - 32 - 32 by omega]
  unfold hostOps0
  after_reads_at
  rw [dif_neg (by omega), dif_neg (by omega), dif_neg (by omega)]
  after_reads_at

end Cert.Proof
-- ==== Proof.WinMatch.lean ====
/-
  The windowed attention's operands as the kernel leaves them are the layer's rows.
-/
module

public import proofs.«01_k».proof.Proof.WinIn
public import proofs.«01_k».proof.Proof.WinHost
public import proofs.«01_k».proof.Proof.Lanes
public import proofs.«01_k».proof.Proof.Real

@[expose] public section

set_option maxRecDepth 16384

noncomputable section

namespace Cert.Proof

open Idealize.ShloMosaic Idealize.SL.Sem Cert.KernelIdeal Cert.KernelIdeal.Gen Idealize.ShloMosaic.TcCoe

variable (m : (ℓ : Loc nD τ sig) → Buf (Elt Ideal) ℓ) (ρ : Dev nD → PrngReg) (c : Dev nD)

theorem w9_win_lo (l : Fin 1024) (n : Fin 512) :
    (V9 m ρ c main_v63 (ix2 l ⟨n.val, by omega⟩) : EReal) = (argsOf m c).wIn l ⟨(winLane n).val, by omega⟩ := by
  refine (congrFun (w9_of_w3 m ρ c main_v63 (by decide) (by decide) (by decide) (by decide) (by decide) (by decide)) _).trans ?_
  refine (read_v63_lo (W2 m ρ c) l n ?_ ?_).trans ?_
  · exact (congrFun (W2_of m ρ c main_c (by decide)) _).trans (read_c (W0 m ρ c) n)
  · exact (congrFun (W2_of m ρ c main_c_0 (by decide)) _).trans (read_c0 (W0 m ρ c) n)
  rw [W2_args m ρ c main_arg4 (by decide)]
  rfl

theorem arrProj_lo (b : Fin 8) (s : Fin 4096) (n : Fin 512) :
    arrProj (V9 m ρ) c b s ⟨n.val, by omega⟩ = (argsOf m c).proj b s ⟨(winLane n).val, by omega⟩ := by
  unfold arrProj projRow
  have e₁ : (fun l => (V9 m ρ c main_arg0 (ix3 b s l) : EReal)) = (argsOf m c).x b s := funext fun l => w9_x m ρ c b s l
  have e₂ : (fun l => (V9 m ρ c main_v53 (ix3 b 0 l) : EReal)) = fun l : Fin 1024 => (argsOf m c).mod b ⟨l.val, by omega⟩ :=
    funext fun l => (w9_mod m ρ c b 0 l).trans (congrArg ((argsOf m c).mod b) (Fin.ext (by show 0 * 1024 + l.val = l.val; omega)))
  have e₃ : (fun l => (V9 m ρ c main_v53 (ix3 b 1 l) : EReal)) = fun l : Fin 1024 => (argsOf m c).mod b ⟨1024 + l.val, by omega⟩ :=
    funext fun l => (w9_mod m ρ c b 1 l).trans
      (congrArg ((argsOf m c).mod b) (Fin.ext (by show 1 * 1024 + l.val = 1024 + l.val; omega)))
  rw [e₁, e₂, e₃]
  exact Finset.sum_congr rfl fun l _ => mul_of_eq (w9_win_lo m ρ c l n)

theorem arrProj_hi (b : Fin 8) (s : Fin 4096) (n : Fin 1280) (h₁ : 512 ≤ n.val) (h₂ : n.val < 1184) :
    arrProj (V9 m ρ) c b s n = (argsOf m c).proj b s ⟨n.val, h₂⟩ :=
  (arrProj_eq m ρ c b s n h₁).trans (dif_pos h₂)

theorem win_tables_eq (s : Fin 4096) :
    (fun l => (V9 m ρ c main_v19 (ix2 s l) : EReal)) = (fun l => cosWin s.val l.val)
      ∧ (fun l => (V9 m ρ c main_v22 (ix2 s l) : EReal)) = fun l => sinWin s.val l.val :=
  ⟨funext fun l => (congrFun (w9_of_w1 m ρ c main_v19 (by decide) (by decide) (by decide) (by decide) (by decide) (by decide)
      (by decide) (by decide)) _).trans (read_v19 (W0 m ρ c) s l),
    funext fun l => (congrFun (w9_of_w1 m ρ c main_v22 (by decide) (by decide) (by decide) (by decide) (by decide) (by decide)
      (by decide) (by decide)) _).trans (read_v22 (W0 m ρ c) s l)⟩

theorem bits_64 : Ideal.ofBits .f32 0x42800000#32 = ((64 : ℝ) : EReal) := by
  simp [Ideal.ofBits, Ideal.ieee, -EReal.coe_mul]; norm_num

theorem log_two : Ideal.log (Ideal.ofBits .f32 0x40000000#32) = ((Real.log 2 : ℝ) : EReal) := by
  rw [bits_2]
  exact if_neg (by norm_num)

theorem sqrt_sixty_four : Ideal.sqrt (Ideal.ofBits .f32 0x42800000#32) = ((8 : ℝ) : EReal) := by
  rw [bits_64, Ideal.sqrt_coe, if_neg (by norm_num), show (64 : ℝ) = 8 ^ 2 by norm_num, Real.sqrt_sq (by norm_num)]

theorem win_scale : winScale
    = Ideal.div 1 (Ideal.sqrt (Ideal.ofBits .f32 0x42800000#32) * Ideal.log (Ideal.ofBits .f32 0x40000000#32)) := by
  refine (IdealRules.named_const.ideal_named_scalar _ _ _ _ rfl).trans ?_
  have h : (8 : ℝ) * Real.log 2 ≠ 0 := mul_ne_zero (by norm_num) (Real.log_pos (by norm_num)).ne'
  rw [log_two, sqrt_sixty_four, ← EReal.coe_mul]
  unfold Ideal.div
  rw [if_neg (by exact_mod_cast h), one_mul, ← EReal.coe_inv]
  refine congrArg _ ?_
  rw [mul_inv, mul_comm]

theorem qa_eq (b : Fin 8) (s : Fin 4096) (n : Fin 512) : qaArr (V9 m ρ) c b s n = (argsOf m c).qa b s n := by
  unfold qaArr qaRow Args.qa
  rw [(win_tables_eq m ρ c s).1, (win_tables_eq m ρ c s).2, rope_win]
  refine congrArg₂ (· * ·) ?_ win_scale
  refine congr₃ _ (funext fun d => ?_) rfl (Fin.ext ?_)
  · refine (arrProj_lo m ρ c b s ⟨n.val / 128 * 128 + (n.val % 128 / 64 * 64 + d.val), by omega⟩).trans ?_
    refine congrArg ((argsOf m c).proj b s) (Fin.ext ?_)
    show ((n.val / 128 * 128 + (n.val % 128 / 64 * 64 + d.val)) / 64 % 2 * 4
        + (n.val / 128 * 128 + (n.val % 128 / 64 * 64 + d.val)) / 128) * 64
      + (n.val / 128 * 128 + (n.val % 128 / 64 * 64 + d.val)) % 64 = (n.val / 64 % 2 * 4 + n.val / 128) * 64 + d.val
    omega
  · show n.val % 128 % 64 = n.val % 64
    omega

theorem ka_eq (b : Fin 8) (s : Fin 4096) (n : Fin 128) : kaArr (V9 m ρ) c b s n = (argsOf m c).ka b s n := by
  unfold kaArr kaRow Args.ka
  rw [(win_tables_eq m ρ c s).1, (win_tables_eq m ρ c s).2, rope_win]
  refine congr₃ _ (funext fun d => ?_) rfl rfl
  exact arrProj_hi m ρ c b s _ (by show 512 ≤ 512 + (n.val / 64 * 64 + d.val); omega)
    (by show 512 + (n.val / 64 * 64 + d.val) < 1184; omega)

theorem va_eq (b : Fin 8) (s : Fin 4096) (n : Fin 128) : vaArr (V9 m ρ) c b s n = (argsOf m c).va b s n :=
  arrProj_hi m ρ c b s _ (by show 512 ≤ 640 + n.val; omega) (by show 640 + n.val < 1184; omega)

/-! ## The arrays at the run's end -/

theorem w11_qa (b : Fin 8) (s : Fin 4096) (n : Fin 512) :
    (W11 m ρ c (Proc.devRef .tc main_v83_0) (ix3 b s n) : EReal) = (argsOf m c).qa b s n :=
  (congrFun ((W11_of m ρ c main_v83_0 (by decide)).trans ((W10_arr m ρ c 12).trans (qa_arr (V9 m ρ) c))) (ix3 b s n)).trans
    (qa_eq m ρ c b s n)

theorem w11_ka (b : Fin 8) (s : Fin 4096) (n : Fin 128) :
    (W11 m ρ c (Proc.devRef .tc main_v83_1) (ix3 b s n) : EReal) = (argsOf m c).ka b s n :=
  (congrFun ((W11_of m ρ c main_v83_1 (by decide)).trans ((W10_arr m ρ c 13).trans (ka_arr (V9 m ρ) c))) (ix3 b s n)).trans
    (ka_eq m ρ c b s n)

theorem w11_va (b : Fin 8) (s : Fin 4096) (n : Fin 128) :
    (W11 m ρ c (Proc.devRef .tc main_v83_2) (ix3 b s n) : EReal) = (argsOf m c).va b s n :=
  (congrFun ((W11_of m ρ c main_v83_2 (by decide)).trans ((W10_arr m ρ c 14).trans (va_arr (V9 m ρ) c))) (ix3 b s n)).trans
    (va_eq m ρ c b s n)

end Cert.Proof
-- ==== Proof.WinRef.lean ====
/-
  The reference's operands of the windowed attention, at an index, as the layer's rows.
-/
module

public import proofs.«01_k».proof.Proof.Ref1
public import proofs.«01_k».proof.Proof.WinRows

@[expose] public section

set_option maxRecDepth 16384

noncomputable section

namespace Cert.Proof

open Cert.ReferenceIdeal Cert.ReferenceIdeal.Gen Cert.ReferenceIdeal.Read Idealize.ShloMosaic Idealize.ShloMosaic.TcCoe

variable (x0 : (⟨S8x4096x1024, .f32⟩ : BufTy).Contents (Elt Ideal)) (x1 : (⟨S8x1024, .f32⟩ : BufTy).Contents (Elt Ideal))
  (x2 : (⟨S1x1024x6144, .f32⟩ : BufTy).Contents (Elt Ideal)) (x3 : (⟨S1x6144, .f32⟩ : BufTy).Contents (Elt Ideal))
  (x4 : (⟨S1x1024x1184, .f32⟩ : BufTy).Contents (Elt Ideal)) (x5 : (⟨S1x256, .f32⟩ : BufTy).Contents (Elt Ideal))
  (x6 : (⟨S1x256x768, .f32⟩ : BufTy).Contents (Elt Ideal)) (x7 : (⟨S1x128, .f32⟩ : BufTy).Contents (Elt Ideal))
  (x8 : (⟨S1x128x1024, .f32⟩ : BufTy).Contents (Elt Ideal))

theorem r_v167 (s : Fin 4096) (j : Fin 32) : val_main_v167 (F := Ideal) (ix2 s j) = Ideal.cos (angleWin s.val j.val) := by
  unfold val_main_v167 val_main_v166 val_main_v165 val_main_v164 val_main_v163 val_main_v162 val_main_v161 val_main_v160
    val_main_v159 val_main_v158 val_main_v157 val_main_v156 val_main_v155 val_main_v154 val_main_v153 val_main_v152
    val_main_v151 val_main_v150 val_main_cst_19 val_main_cst_20 val_main_cst_21 val_main_cst_22 val_main_cst_23
  pointwise [angleWin]

theorem r_v168 (s : Fin 4096) (j : Fin 32) : val_main_v168 (F := Ideal) (ix2 s j) = Ideal.sin (angleWin s.val j.val) := by
  unfold val_main_v168 val_main_v166 val_main_v165 val_main_v164 val_main_v163 val_main_v162 val_main_v161 val_main_v160
    val_main_v159 val_main_v158 val_main_v157 val_main_v156 val_main_v155 val_main_v154 val_main_v153 val_main_v152
    val_main_v151 val_main_v150 val_main_cst_19 val_main_cst_20 val_main_cst_21 val_main_cst_22 val_main_cst_23
  pointwise [angleWin]

theorem r_v184 (b : Fin 8) (s : Fin 4096) (h : Fin 8) (d : Fin 64) :
    val_main_v184 (F := Ideal) x0 x1 x2 x3 x4 (ix4 b s h d)
      = rope64 (fun d => (refArgs x0 x1 x2 x3 x4 x5 x6 x7 x8).proj b s ⟨h.val * 64 + d.val, by omega⟩) s.val d := by
  unfold val_main_v184 val_main_v183 val_main_v182 val_main_v181 val_main_v180 val_main_v179 val_main_v178 val_main_v177
    val_main_v176 val_main_v175 val_main_v174 val_main_v173 val_main_v172 val_main_v171 val_main_v170 val_main_v169 val_main_v147
  pointwise [r_v32 x0 x1 x2 x3 x4 x5 x6 x7 x8, r_v167, r_v168, rope64]

theorem r_v200 (b : Fin 8) (s : Fin 4096) (h : Fin 2) (d : Fin 64) :
    val_main_v200 (F := Ideal) x0 x1 x2 x3 x4 (ix4 b s h d)
      = rope64 (fun d => (refArgs x0 x1 x2 x3 x4 x5 x6 x7 x8).proj b s ⟨512 + (h.val * 64 + d.val), by omega⟩) s.val d := by
  unfold val_main_v200 val_main_v199 val_main_v198 val_main_v197 val_main_v196 val_main_v195 val_main_v194 val_main_v193
    val_main_v192 val_main_v191 val_main_v190 val_main_v189 val_main_v188 val_main_v187 val_main_v186 val_main_v185 val_main_v148
  pointwise [r_v32 x0 x1 x2 x3 x4 x5 x6 x7 x8, r_v167, r_v168, rope64]

/-- The heads' lanes in the stored order. -/
theorem order_apply (y : S8x4096x8x64.Idx → Ideal .f32) (b : Fin 8) (s : Fin 4096) (n : Fin 512) :
    shapeCast S8x4096x512 (transpose S8x4096x4x2x64 [0, 1, 3, 2, 4] (shapeCast S8x4096x2x4x64 y shapeCasts_S8x4096x8x64_S8x4096x2x4x64)
        transposes_S8x4096x2x4x64_S8x4096x4x2x64_0_1_3_2_4) shapeCasts_S8x4096x4x2x64_S8x4096x512 (ix3 b s n)
      = y (ix4 b s ⟨n.val / 64 % 2 * 4 + n.val / 128, by omega⟩ ⟨n.val % 64, by omega⟩) := by
  pointwise

theorem r_v207 (b : Fin 8) (s : Fin 4096) (n : Fin 512) :
    val_main_v207 (F := Ideal) x0 x1 x2 x3 x4 (ix3 b s n)
      = rope64 (fun d => (refArgs x0 x1 x2 x3 x4 x5 x6 x7 x8).proj b s
          ⟨(n.val / 64 % 2 * 4 + n.val / 128) * 64 + d.val, by omega⟩) s.val ⟨n.val % 64, by omega⟩ := by
  refine Eq.trans ?_ (r_v184 x0 x1 x2 x3 x4 x5 x6 x7 x8 b s ⟨n.val / 64 % 2 * 4 + n.val / 128, by omega⟩ ⟨n.val % 64, by omega⟩)
  unfold val_main_v207 val_main_v206 val_main_v205
  generalize val_main_v184 (F := Ideal) x0 x1 x2 x3 x4 = y
  exact order_apply y b s n

theorem r_v208 (i : S8x4096x512.Idx) : val_main_v208 (F := Ideal) i
    = Ideal.div 1 (Ideal.sqrt (Ideal.ofBits .f32 0x42800000#32) * Ideal.log (Ideal.ofBits .f32 0x40000000#32)) := by
  unfold val_main_v208 val_main_v204 val_main_v203 val_main_v202 val_main_v201 val_main_cst_24 val_main_cst_25 val_main_cst_26
  pointwise

theorem r_v210 (b : Fin 8) (s : Fin 4096) (n : Fin 512) :
    val_main_v210 (F := Ideal) x0 x1 x2 x3 x4 (ix3 b s n) = (refArgs x0 x1 x2 x3 x4 x5 x6 x7 x8).qa b s n :=
  congrArg₂ (fun a b : EReal => a * b) (r_v207 x0 x1 x2 x3 x4 x5 x6 x7 x8 b s n) (r_v208 (ix3 b s n))

theorem r_v212 (b : Fin 8) (s : Fin 4096) (n : Fin 128) :
    val_main_v212 (F := Ideal) x0 x1 x2 x3 x4 (ix3 b s n) = (refArgs x0 x1 x2 x3 x4 x5 x6 x7 x8).ka b s n := by
  unfold val_main_v212 val_main_v211
  pointwise [r_v200 x0 x1 x2 x3 x4 x5 x6 x7 x8, Args.ka]

theorem r_v213 (b : Fin 8) (s : Fin 4096) (n : Fin 128) :
    val_main_v213 (F := Ideal) x0 x1 x2 x3 x4 (ix3 b s n) = (refArgs x0 x1 x2 x3 x4 x5 x6 x7 x8).va b s n := by
  unfold val_main_v213 val_main_v149
  pointwise [r_v32 x0 x1 x2 x3 x4 x5 x6 x7 x8, Args.va]

end Cert.Proof
-- ==== Proof.SwaRef.lean ====
/-
  The windowed attention's reference, at an index.
-/
module

public import proofs.«01_k».proof.Proof.Gen.Reference3Ideal.Read
public import proofs.«01_k».proof.Proof.MlaPay

@[expose] public section

set_option maxRecDepth 16384

noncomputable section

namespace Cert.Proof.Swa

open Cert.Reference3Ideal Cert.Reference3Ideal.Gen Cert.Reference3Ideal.Read Idealize.ShloMosaic Idealize.ShloMosaic.TcCoe

/-- A row's scores, those outside the window at the bottom, with the sink after them. -/
def rowX (s : Fin 4096 → EReal) (t : ℕ) (σ : EReal) (k : Fin 4097) : EReal :=
  if h : k.val < 4096 then (if t ≤ k.val + 128 ∧ k.val ≤ t + 128 then s ⟨k.val, h⟩ else ⊥) else σ

/-- The greatest of a row's scores. -/
def topX (s : Fin 4096 → EReal) (t : ℕ) (σ : EReal) : EReal := max ⊥ (Finset.univ.fold max ⊥ (rowX s t σ))

/-- The values weighted by the row's softmax. -/
def rowRef (s v : Fin 4096 → EReal) (t : ℕ) (σ : EReal) : EReal :=
  ∑ k : Fin 4096, v k * Ideal.div (Ideal.exp (rowX s t σ ⟨k.val, by omega⟩ - topX s t σ))
    (∑ k', Ideal.exp (rowX s t σ k' - topX s t σ))

/-- The score, in units of one over the logarithm of two, of query `t` against key `k` for group `g` of key head `h`. -/
def score2 (Q : S8x4096x512.Idx → EReal) (K : S8x4096x128.Idx → EReal) (b : Fin 8) (g : Fin 4) (h : Fin 2) (t k : Fin 4096) :
    EReal :=
  ∑ d : Fin 64, K (ix3 b k ⟨h.val * 64 + d.val, by omega⟩) * Q (ix3 b t ⟨g.val * 128 + h.val * 64 + d.val, by omega⟩)

def logTwo : EReal := Ideal.log (Ideal.ofBits .f32 0x40000000#32)

theorem small_pos : ∀ d : Fin 8192, IntOp.cmpi CmpIPredicate.sle (IntOp.absi (BitVec.ofNat 32 d.val)) 128#32
    = if d.val ≤ 128 then 1#1 else 0#1 := by decide +kernel

theorem small_neg : ∀ d : Fin 8192, IntOp.cmpi CmpIPredicate.sle (IntOp.absi (-BitVec.ofNat 32 d.val)) 128#32
    = if d.val ≤ 128 then 1#1 else 0#1 := by decide +kernel

/-- Two numbers at most 128 apart, as words. -/
theorem near_word (a b : ℕ) (ha : a < 8192) (hb : b < 8192) :
    IntOp.cmpi CmpIPredicate.sle (IntOp.absi (BitVec.ofNat 32 a - BitVec.ofNat 32 b)) 128#32
      = if a ≤ b + 128 ∧ b ≤ a + 128 then 1#1 else 0#1 := by
  rcases le_total b a with h | h
  · have e : BitVec.ofNat 32 a - BitVec.ofNat 32 b = BitVec.ofNat 32 (a - b) := by
      apply BitVec.eq_of_toNat_eq
      simp only [BitVec.toNat_sub, BitVec.toNat_ofNat]
      omega
    rw [e]
    refine (small_pos ⟨a - b, by omega⟩).trans (if_congr ?_ rfl rfl)
    show a - b ≤ 128 ↔ _
    omega
  · have e : BitVec.ofNat 32 a - BitVec.ofNat 32 b = -BitVec.ofNat 32 (b - a) := by
      apply BitVec.eq_of_toNat_eq
      simp only [BitVec.toNat_sub, BitVec.toNat_neg, BitVec.toNat_ofNat]
      omega
    rw [e]
    refine (small_neg ⟨b - a, by omega⟩).trans (if_congr ?_ rfl rfl)
    show b - a ≤ 128 ↔ _
    omega

/-- Positions within the window, as words. -/
theorem band_word (t k : Fin 4096) :
    IntOp.cmpi CmpIPredicate.sle (IntOp.absi (IntOp.subi (BitVec.ofNat 32 k.val) (BitVec.ofNat 32 t.val))) 128#32
      = if t.val ≤ k.val + 128 ∧ k.val ≤ t.val + 128 then 1#1 else 0#1 :=
  (near_word k.val t.val (by omega) (by omega)).trans (if_congr And.comm rfl rfl)

/-- A maximum over the last of five axes, at an index: the fold of `max` over that axis's coordinates. -/
theorem max_last5 {n0 n1 n2 n3 n4 : ℕ} {u : Shape} (h' : (⟨5, ![n0, n1, n2, n3, n4]⟩ : Shape).ReducesTo [4] ⟨4, ![n0, n1, n2, n3]⟩)
    (h : (⟨5, ![n0, n1, n2, n3, n4]⟩ : Shape).Reduces [4] ⟨4, ![n0, n1, n2, n3]⟩) (hu : 0 < u.numel)
    (y : (⟨5, ![n0, n1, n2, n3, n4]⟩ : Shape).Idx → Ideal .f32) (init : u.Idx → Ideal .f32) (b : Fin n0) (c : Fin n1) (d : Fin n2)
    (e : Fin n3) :
    Host.reduce FloatOps.maximumf y init h' hu (ix4 b c d e)
      = Finset.univ.fold max (init (Shape.Idx.first hu) : EReal) fun k : Fin n4 => (y (ix5 b c d e k) : EReal) := by
  show Host.reduce (max : EReal → EReal → EReal) y init h' hu (ix4 b c d e) = _
  rw [Host.reduce_eq_fold, Shape.ReducesTo.drop_eq_drop h' h, h.fold_filter_drop_single]
  refine Finset.fold_congr fun k _ => ?_
  exact congrArg y (funext fun a => Fin.ext (by
    match a with | ⟨0, _⟩ => rfl | ⟨1, _⟩ => rfl | ⟨2, _⟩ => rfl | ⟨3, _⟩ => rfl | ⟨4, _⟩ => rfl))

variable (x0 : (⟨S8x4096x512, .bf16⟩ : BufTy).Contents (Elt Ideal)) (x1 x2 : (⟨S8x4096x128, .bf16⟩ : BufTy).Contents (Elt Ideal))
  (x3 : (⟨S1x8, .f32⟩ : BufTy).Contents (Elt Ideal))

/-- The scores of a row, times the logarithm of two. -/
def scoreE (b : Fin 8) (g : Fin 4) (h : Fin 2) (t k : Fin 4096) : EReal := score2 x0 x1 b g h t k * logTwo

/-- The sink of a head. -/
def sinkE (g : Fin 4) (h : Fin 2) : EReal := x3 (ix2 0 ⟨h.val * 4 + g.val, by omega⟩)

theorem s_v10 (b : Fin 8) (g : Fin 4) (h : Fin 2) (t k : Fin 4096) :
    val_main_v10 (F := Ideal) x0 x1 (ix5 b g h t k) = scoreE x0 x1 b g h t k := by
  unfold val_main_v10 val_main_v9 val_main_v8 val_main_v7 val_main_v6 val_main_v3 val_main_v2 val_main_v1 val_main_v0 val_main_cst
  pointwise [scoreE, score2, logTwo]

theorem s_v22 (b : Fin 8) (g : Fin 4) (h : Fin 2) (t k : Fin 4096) :
    val_main_v22 (F := Ideal) x0 x1 (ix5 b g h t k)
      = if t.val ≤ k.val + 128 ∧ k.val ≤ t.val + 128 then scoreE x0 x1 b g h t k else ⊥ := by
  unfold val_main_v22 val_main_call0_v1 val_main_call0_v2 val_main_call0_v0 val_main_cst_0 val_main_v21 val_main_v20 val_main_v19
    val_main_v18 val_main_v17 val_main_v16 val_main_v15 val_main_v14 val_main_v13 val_main_v12 val_main_v11 val_main_c
  pointwise [s_v10, negInf_bits, band_word]
  split <;> rfl

theorem s_v27 (b : Fin 8) (g : Fin 4) (h : Fin 2) (t : Fin 4096) (z : Fin 1) :
    val_main_v27 (F := Ideal) x3 (ix5 b g h t z) = sinkE x3 g h := by
  unfold val_main_v27 val_main_v26 val_main_v25 val_main_v24 val_main_v23
  pointwise [sinkE]

theorem s_v28 (b : Fin 8) (g : Fin 4) (h : Fin 2) (t : Fin 4096) (k : Fin 4097) :
    val_main_v28 (F := Ideal) x0 x1 x3 (ix5 b g h t k) = rowX (scoreE x0 x1 b g h t) t.val (sinkE x3 g h) k := by
  unfold val_main_v28
  pointwise [s_v22, s_v27, rowX]

theorem s_v29 (b : Fin 8) (g : Fin 4) (h : Fin 2) (t : Fin 4096) :
    val_main_v29 (F := Ideal) x0 x1 x3 (ix4 b g h t)
      = Finset.univ.fold max ⊥ (rowX (scoreE x0 x1 b g h t) t.val (sinkE x3 g h)) := by
  unfold val_main_v29
  refine (max_last5 _ (by decide) _ _ _ b g h t).trans ?_
  rw [show val_main_cst_1 (F := Ideal) (Shape.Idx.first h_S_) = (⊥ : EReal) from negInf_bits]
  exact Finset.fold_congr fun k _ => s_v28 x0 x1 x3 b g h t k

theorem s_v31 (b : Fin 8) (g : Fin 4) (h : Fin 2) (t : Fin 4096) :
    val_main_v31 (F := Ideal) x0 x1 x3 (ix4 b g h t) = topX (scoreE x0 x1 b g h t) t.val (sinkE x3 g h) := by
  rw [val_main_v31_apply, s_v29]
  exact congrArg (max · _) negInf_bits

theorem s_v35 (b : Fin 8) (g : Fin 4) (h : Fin 2) (t : Fin 4096) (k : Fin 4097) :
    val_main_v35 (F := Ideal) x0 x1 x3 (ix5 b g h t k)
      = Ideal.exp (rowX (scoreE x0 x1 b g h t) t.val (sinkE x3 g h) k - topX (scoreE x0 x1 b g h t) t.val (sinkE x3 g h)) := by
  unfold val_main_v35 val_main_v34 val_main_v33 val_main_v32
  pointwise [s_v28, s_v31]

theorem s_v42 (b : Fin 8) (t : Fin 4096) (g : Fin 4) (h : Fin 2) (d : Fin 64) :
    val_main_v42 (F := Ideal) x0 x1 x2 x3 (ix5 b t g h d)
      = rowRef (scoreE x0 x1 b g h t) (fun k => x2 (ix3 b k ⟨h.val * 64 + d.val, by omega⟩)) t.val (sinkE x3 g h) := by
  unfold val_main_v42 val_main_v41 val_main_v40 val_main_v39 val_main_v38 val_main_v37 val_main_v36 val_main_v5 val_main_v4
    val_main_cst_3
  pointwise [s_v35, rowRef]

/-- The reference's result. -/
theorem s_v43 (b : Fin 8) (t : Fin 4096) (n : Fin 512) :
    val_main_v43 (F := Ideal) x0 x1 x2 x3 (ix3 b t n)
      = rowRef (scoreE x0 x1 b ⟨n.val / 128, by omega⟩ ⟨n.val / 64 % 2, by omega⟩ t)
          (fun k => x2 (ix3 b k ⟨n.val % 128, by omega⟩)) t.val (sinkE x3 ⟨n.val / 128, by omega⟩ ⟨n.val / 64 % 2, by omega⟩) := by
  have e : n.val / 64 % 2 * 64 + n.val % 64 = n.val % 128 := by omega
  unfold val_main_v43
  pointwise [s_v42, e]

end Cert.Proof.Swa
-- ==== Proof.SwaPay.lean ====
/-
  The windowed attention's block step, read at an index: each half of 128 lanes is one head's softmax over the 512
  columns, with the sink.
-/
module

public import proofs.«01_k».proof.Proof.Gen.Kernel3Ideal.Frame
public import proofs.«01_k».proof.Proof.MlaPay
public import proofs.«01_k».proof.Proof.SwaRef
public import Idealize.ShloMosaic.Lib.Pipeline.ValueKit.Geometry
public import Idealize.ShloMosaic.Lib.Pipeline.ValueKit.Acc

@[expose] public section

set_option maxRecDepth 16384

noncomputable section

namespace Cert.Proof.Swa

open Idealize.ShloMosaic Idealize.SL.Sem Cert.Kernel3Ideal Cert.Kernel3Ideal.Gen Idealize.ShloMosaic.TcCoe

/-- The scores of a block's rows, in the lanes of one half, those outside the window masked. -/
def halfScore (lanes : IVec S1x128 1) (K : FVec Ideal S512x128 .bf16) (mask : IVec S256x512 1) (q : FVec Ideal S256x128 .bf16) :
    FVec Ideal S256x512 .f32 :=
  select mask (matmul dot_S256x128_S512x128_S256x512_1_1_0_0_n_n none
      (select (broadcastTo S256x128 (shapeCast S1x128 lanes shapeCasts_S1x128_S1x128) broadcasts_S1x128_S256x128) q
        (broadcast S256x128 (Scalar.ofBits (F := Ideal) .bf16 0x0000#16))) K (constant S256x512 .f32 0x00000000#32))
    (broadcast S256x512 (Named.named (F := Ideal) (φ := .f32) κ "mask" 0xF149F2CA#32))

def halfSink (σ : Elt Ideal .f32) : Ideal .f32 :=
  Scalar.mulf (F := Ideal) σ (Named.named (F := Ideal) (φ := .f32) κ "log2e" 0x3FB8AA3B#32)

/-- The rows' greatest scores. -/
def halfTop (s : FVec Ideal S256x512 .f32) (σ : Ideal .f32) : FVec Ideal S256x1 .f32 :=
  maximumf (shapeCast S256x1 (multiReduction .maximumf [1] S256 s 0xFF800000#32 reduces_S256x512_S256 (.inl rfl) rfl)
    shapeCasts_S256_S256x1) (broadcast S256x1 σ)

/-- The rows' weights. -/
def halfExp (s : FVec Ideal S256x512 .f32) (σ : Ideal .f32) : FVec Ideal S256x512 .f32 :=
  exp2 (subf s (broadcastTo S256x512 (halfTop s σ) broadcasts_S256x1_S256x512))

/-- The weighted values over the weights' sum. -/
def halfOf (s : FVec Ideal S256x512 .f32) (σ : Ideal .f32) (V : FVec Ideal S512x128 .bf16) : FVec Ideal S256x128 .f32 :=
  divf (matmul dot_S256x512_S512x128_S256x128_1_0_0_1_n_n none (truncf .bf16 (halfExp s σ) bitsLt_bf16_f32) V
      (constant S256x128 .f32 0x00000000#32))
    (broadcastTo S256x128 (addf (shapeCast S256x1 (multiReduction .add [1] S256 (halfExp s σ) 0x00000000#32
        reduces_S256x512_S256 (.inl rfl) rfl) shapeCasts_S256_S256x1)
      (exp2 (subf (broadcast S256x1 σ) (halfTop s σ)))) broadcasts_S256x1_S256x128)

/-- What the block stores in 128 lanes: below lane 64 one head, from it on the next. -/
def chunk (K V : FVec Ideal S512x128 .bf16) (mask : IVec S256x512 1) (lo : IVec S1x128 1) (q : Vec Ideal S1x256x128 .bf16)
    (σ₀ σ₁ : Elt Ideal .f32) : FVec Ideal S1x256x128 .f32 :=
  shapeCast S1x256x128 (select (broadcastTo S256x128 (shapeCast S1x128 lo shapeCasts_S1x128_S1x128) broadcasts_S1x128_S256x128)
    (halfOf (halfScore lo K mask (shapeCast S256x128 q shapeCasts_S1x256x128_S256x128)) (halfSink σ₀) V)
    (halfOf (halfScore (xori lo (constantI S1x128 1 1#1)) K mask (shapeCast S256x128 q shapeCasts_S1x256x128_S256x128))
      (halfSink σ₁) V)) shapeCasts_S256x128_S1x256x128

set_option maxHeartbeats 4000000 in
theorem run_pieces  (c : Dev nD) (i : grid0.Coords) (arg2 : Memref sig .tc .smem S8 .f32) (harg2 : arg2.IsWhole) (arg3 : Memref sig .tc .vmem S1x256x512 .bf16) (harg3 : arg3.IsWhole) (arg4 : Memref sig .tc .vmem S1x128x128 .bf16) (harg4 : arg4.IsWhole) (arg5 : Memref sig .tc .vmem S1x256x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x256x128 .bf16) (harg8 : arg8.IsWhole) (arg9 : Memref sig .tc .vmem S1x128x128 .bf16) (harg9 : arg9.IsWhole) (arg10 : Memref sig .tc .vmem S1x256x512 .f32) (harg10 : arg10.IsWhole)
    (x0 : Vec Ideal S8 .f32) (x1 : Vec Ideal S1x256x512 .bf16) (x2 : Vec Ideal S1x128x128 .bf16) (x3 : Vec Ideal S1x256x128 .bf16) (x4 : Vec Ideal S1x128x128 .bf16) (x5 : Vec Ideal S1x128x128 .bf16) (x6 : Vec Ideal S1x256x128 .bf16) (x7 : Vec Ideal S1x128x128 .bf16) :
    (kernelRun0_A c i arg2 harg2 arg3 harg3 arg4 harg4 arg5 harg5 arg6 harg6 arg7 harg7 arg8 harg8 arg9 harg9 arg10 harg10 x0 x1 x2 x3 x4 x5 x6 x7).1 = ([⟨Rect.unit ![0, 0, 384] S1x256x128.size inb_S1x256x512_S1x256x128_0_0_384, chunk (k0_pay2 (View.readAt (Elt Ideal) arg4.view (Rect.unit (s := S1x128x128) ![0, 0, 0] S1x128x128.size inb_S1x128x128_S1x128x128_0_0_0).toLoadRect (harg4.unread x2)) (View.readAt (Elt Ideal) arg5.view (Rect.unit (s := S1x256x128) ![0, 0, 0] S1x256x128.size inb_S1x256x128_S1x256x128_0_0_0).toLoadRect (harg5.unread x3)) (View.readAt (Elt Ideal) arg6.view (Rect.unit (s := S1x128x128) ![0, 0, 0] S1x128x128.size inb_S1x128x128_S1x128x128_0_0_0).toLoadRect (harg6.unread x4)))
        (k0_pay3 (View.readAt (Elt Ideal) arg7.view (Rect.unit (s := S1x128x128) ![0, 0, 0] S1x128x128.size inb_S1x128x128_S1x128x128_0_0_0).toLoadRect (harg7.unread x5)) (View.readAt (Elt Ideal) arg8.view (Rect.unit (s := S1x256x128) ![0, 0, 0] S1x256x128.size inb_S1x256x128_S1x256x128_0_0_0).toLoadRect (harg8.unread x6)) (View.readAt (Elt Ideal) arg9.view (Rect.unit (s := S1x128x128) ![0, 0, 0] S1x128x128.size inb_S1x128x128_S1x128x128_0_0_0).toLoadRect (harg9.unread x7))) (k0_pay4 i) (k0_pay5 kernelRun0_A.sl.v33)
        (View.readAt (Elt Ideal) arg3.view (Rect.unit (s := S1x256x512) ![0, 0, 384] S1x256x128.size inb_S1x256x512_S1x256x128_0_0_384).toLoadRect (harg3.unread x1))
        ((View.readAt (Elt Ideal) arg2.view (Rect.unit (s := S8) ![6] S1.size inb_S8_S1_6).toLoadRect (harg2.unread x0)) (Shape.Idx.first (by decide))) ((View.readAt (Elt Ideal) arg2.view (Rect.unit (s := S8) ![7] S1.size inb_S8_S1_7).toLoadRect (harg2.unread x0)) (Shape.Idx.first (by decide)))⟩,
      ⟨Rect.unit ![0, 0, 256] S1x256x128.size inb_S1x256x512_S1x256x128_0_0_256, chunk (k0_pay2 (View.readAt (Elt Ideal) arg4.view (Rect.unit (s := S1x128x128) ![0, 0, 0] S1x128x128.size inb_S1x128x128_S1x128x128_0_0_0).toLoadRect (harg4.unread x2)) (View.readAt (Elt Ideal) arg5.view (Rect.unit (s := S1x256x128) ![0, 0, 0] S1x256x128.size inb_S1x256x128_S1x256x128_0_0_0).toLoadRect (harg5.unread x3)) (View.readAt (Elt Ideal) arg6.view (Rect.unit (s := S1x128x128) ![0, 0, 0] S1x128x128.size inb_S1x128x128_S1x128x128_0_0_0).toLoadRect (harg6.unread x4)))
        (k0_pay3 (View.readAt (Elt Ideal) arg7.view (Rect.unit (s := S1x128x128) ![0, 0, 0] S1x128x128.size inb_S1x128x128_S1x128x128_0_0_0).toLoadRect (harg7.unread x5)) (View.readAt (Elt Ideal) arg8.view (Rect.unit (s := S1x256x128) ![0, 0, 0] S1x256x128.size inb_S1x256x128_S1x256x128_0_0_0).toLoadRect (harg8.unread x6)) (View.readAt (Elt Ideal) arg9.view (Rect.unit (s := S1x128x128) ![0, 0, 0] S1x128x128.size inb_S1x128x128_S1x128x128_0_0_0).toLoadRect (harg9.unread x7))) (k0_pay4 i) (k0_pay5 kernelRun0_A.sl.v33)
        (View.readAt (Elt Ideal) arg3.view (Rect.unit (s := S1x256x512) ![0, 0, 256] S1x256x128.size inb_S1x256x512_S1x256x128_0_0_256).toLoadRect (harg3.unread x1))
        ((View.readAt (Elt Ideal) arg2.view (Rect.unit (s := S8) ![4] S1.size inb_S8_S1_4).toLoadRect (harg2.unread x0)) (Shape.Idx.first (by decide))) ((View.readAt (Elt Ideal) arg2.view (Rect.unit (s := S8) ![5] S1.size inb_S8_S1_5).toLoadRect (harg2.unread x0)) (Shape.Idx.first (by decide)))⟩,
      ⟨Rect.unit ![0, 0, 128] S1x256x128.size inb_S1x256x512_S1x256x128_0_0_128, chunk (k0_pay2 (View.readAt (Elt Ideal) arg4.view (Rect.unit (s := S1x128x128) ![0, 0, 0] S1x128x128.size inb_S1x128x128_S1x128x128_0_0_0).toLoadRect (harg4.unread x2)) (View.readAt (Elt Ideal) arg5.view (Rect.unit (s := S1x256x128) ![0, 0, 0] S1x256x128.size inb_S1x256x128_S1x256x128_0_0_0).toLoadRect (harg5.unread x3)) (View.readAt (Elt Ideal) arg6.view (Rect.unit (s := S1x128x128) ![0, 0, 0] S1x128x128.size inb_S1x128x128_S1x128x128_0_0_0).toLoadRect (harg6.unread x4)))
        (k0_pay3 (View.readAt (Elt Ideal) arg7.view (Rect.unit (s := S1x128x128) ![0, 0, 0] S1x128x128.size inb_S1x128x128_S1x128x128_0_0_0).toLoadRect (harg7.unread x5)) (View.readAt (Elt Ideal) arg8.view (Rect.unit (s := S1x256x128) ![0, 0, 0] S1x256x128.size inb_S1x256x128_S1x256x128_0_0_0).toLoadRect (harg8.unread x6)) (View.readAt (Elt Ideal) arg9.view (Rect.unit (s := S1x128x128) ![0, 0, 0] S1x128x128.size inb_S1x128x128_S1x128x128_0_0_0).toLoadRect (harg9.unread x7))) (k0_pay4 i) (k0_pay5 kernelRun0_A.sl.v33)
        (View.readAt (Elt Ideal) arg3.view (Rect.unit (s := S1x256x512) ![0, 0, 128] S1x256x128.size inb_S1x256x512_S1x256x128_0_0_128).toLoadRect (harg3.unread x1))
        ((View.readAt (Elt Ideal) arg2.view (Rect.unit (s := S8) ![2] S1.size inb_S8_S1_2).toLoadRect (harg2.unread x0)) (Shape.Idx.first (by decide))) ((View.readAt (Elt Ideal) arg2.view (Rect.unit (s := S8) ![3] S1.size inb_S8_S1_3).toLoadRect (harg2.unread x0)) (Shape.Idx.first (by decide)))⟩,
      ⟨Rect.unit ![0, 0, 0] S1x256x128.size inb_S1x256x512_S1x256x128_0_0_0, chunk (k0_pay2 (View.readAt (Elt Ideal) arg4.view (Rect.unit (s := S1x128x128) ![0, 0, 0] S1x128x128.size inb_S1x128x128_S1x128x128_0_0_0).toLoadRect (harg4.unread x2)) (View.readAt (Elt Ideal) arg5.view (Rect.unit (s := S1x256x128) ![0, 0, 0] S1x256x128.size inb_S1x256x128_S1x256x128_0_0_0).toLoadRect (harg5.unread x3)) (View.readAt (Elt Ideal) arg6.view (Rect.unit (s := S1x128x128) ![0, 0, 0] S1x128x128.size inb_S1x128x128_S1x128x128_0_0_0).toLoadRect (harg6.unread x4)))
        (k0_pay3 (View.readAt (Elt Ideal) arg7.view (Rect.unit (s := S1x128x128) ![0, 0, 0] S1x128x128.size inb_S1x128x128_S1x128x128_0_0_0).toLoadRect (harg7.unread x5)) (View.readAt (Elt Ideal) arg8.view (Rect.unit (s := S1x256x128) ![0, 0, 0] S1x256x128.size inb_S1x256x128_S1x256x128_0_0_0).toLoadRect (harg8.unread x6)) (View.readAt (Elt Ideal) arg9.view (Rect.unit (s := S1x128x128) ![0, 0, 0] S1x128x128.size inb_S1x128x128_S1x128x128_0_0_0).toLoadRect (harg9.unread x7))) (k0_pay4 i) (k0_pay5 kernelRun0_A.sl.v33)
        (View.readAt (Elt Ideal) arg3.view (Rect.unit (s := S1x256x512) ![0, 0, 0] S1x256x128.size inb_S1x256x512_S1x256x128_0_0_0).toLoadRect (harg3.unread x1))
        ((View.readAt (Elt Ideal) arg2.view (Rect.unit (s := S8) ![0] S1.size inb_S8_S1_0).toLoadRect (harg2.unread x0)) (Shape.Idx.first (by decide))) ((View.readAt (Elt Ideal) arg2.view (Rect.unit (s := S8) ![1] S1.size inb_S8_S1_1).toLoadRect (harg2.unread x0)) (Shape.Idx.first (by decide)))⟩] : List (View.Piece (Elt Ideal) S1x256x512 .f32)) := by
  rfl

/-- A load from a buffer holding `x` reads `x`. -/
theorem load_held {κ : Kind} {sp : Space} {s : Shape} {e : EltTy} (a : Memref sig κ sp s e) (h : a.IsWhole)
    (x : Vec Ideal s e) (r : Rect s) : View.readAt (Elt Ideal) a.view r.toLoadRect (h.unread x) = View.ld x r :=
  congrArg (fun y => View.ld y r) (h.read_unread x)

theorem run_held  (c : Dev nD) (i : grid0.Coords) (arg2 : Memref sig .tc .smem S8 .f32) (harg2 : arg2.IsWhole) (arg3 : Memref sig .tc .vmem S1x256x512 .bf16) (harg3 : arg3.IsWhole) (arg4 : Memref sig .tc .vmem S1x128x128 .bf16) (harg4 : arg4.IsWhole) (arg5 : Memref sig .tc .vmem S1x256x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x256x128 .bf16) (harg8 : arg8.IsWhole) (arg9 : Memref sig .tc .vmem S1x128x128 .bf16) (harg9 : arg9.IsWhole) (arg10 : Memref sig .tc .vmem S1x256x512 .f32) (harg10 : arg10.IsWhole)
    (x0 : Vec Ideal S8 .f32) (x1 : Vec Ideal S1x256x512 .bf16) (x2 : Vec Ideal S1x128x128 .bf16) (x3 : Vec Ideal S1x256x128 .bf16) (x4 : Vec Ideal S1x128x128 .bf16) (x5 : Vec Ideal S1x128x128 .bf16) (x6 : Vec Ideal S1x256x128 .bf16) (x7 : Vec Ideal S1x128x128 .bf16) :
    (kernelRun0_A c i arg2 harg2 arg3 harg3 arg4 harg4 arg5 harg5 arg6 harg6 arg7 harg7 arg8 harg8 arg9 harg9 arg10 harg10 x0 x1 x2 x3 x4 x5 x6 x7).1 = ([⟨Rect.unit ![0, 0, 384] S1x256x128.size inb_S1x256x512_S1x256x128_0_0_384, chunk (k0_pay2 (View.ld x2 (Rect.unit ![0, 0, 0] S1x128x128.size inb_S1x128x128_S1x128x128_0_0_0)) (View.ld x3 (Rect.unit ![0, 0, 0] S1x256x128.size inb_S1x256x128_S1x256x128_0_0_0)) (View.ld x4 (Rect.unit ![0, 0, 0] S1x128x128.size inb_S1x128x128_S1x128x128_0_0_0)))
        (k0_pay3 (View.ld x5 (Rect.unit ![0, 0, 0] S1x128x128.size inb_S1x128x128_S1x128x128_0_0_0)) (View.ld x6 (Rect.unit ![0, 0, 0] S1x256x128.size inb_S1x256x128_S1x256x128_0_0_0)) (View.ld x7 (Rect.unit ![0, 0, 0] S1x128x128.size inb_S1x128x128_S1x128x128_0_0_0))) (k0_pay4 i) (k0_pay5 kernelRun0_A.sl.v33)
        (View.ld x1 (Rect.unit (s := S1x256x512) ![0, 0, 384] S1x256x128.size inb_S1x256x512_S1x256x128_0_0_384))
        ((View.ld x0 (Rect.unit (s := S8) ![6] S1.size inb_S8_S1_6)) (Shape.Idx.first (by decide))) ((View.ld x0 (Rect.unit (s := S8) ![7] S1.size inb_S8_S1_7)) (Shape.Idx.first (by decide)))⟩,
      ⟨Rect.unit ![0, 0, 256] S1x256x128.size inb_S1x256x512_S1x256x128_0_0_256, chunk (k0_pay2 (View.ld x2 (Rect.unit ![0, 0, 0] S1x128x128.size inb_S1x128x128_S1x128x128_0_0_0)) (View.ld x3 (Rect.unit ![0, 0, 0] S1x256x128.size inb_S1x256x128_S1x256x128_0_0_0)) (View.ld x4 (Rect.unit ![0, 0, 0] S1x128x128.size inb_S1x128x128_S1x128x128_0_0_0)))
        (k0_pay3 (View.ld x5 (Rect.unit ![0, 0, 0] S1x128x128.size inb_S1x128x128_S1x128x128_0_0_0)) (View.ld x6 (Rect.unit ![0, 0, 0] S1x256x128.size inb_S1x256x128_S1x256x128_0_0_0)) (View.ld x7 (Rect.unit ![0, 0, 0] S1x128x128.size inb_S1x128x128_S1x128x128_0_0_0))) (k0_pay4 i) (k0_pay5 kernelRun0_A.sl.v33)
        (View.ld x1 (Rect.unit (s := S1x256x512) ![0, 0, 256] S1x256x128.size inb_S1x256x512_S1x256x128_0_0_256))
        ((View.ld x0 (Rect.unit (s := S8) ![4] S1.size inb_S8_S1_4)) (Shape.Idx.first (by decide))) ((View.ld x0 (Rect.unit (s := S8) ![5] S1.size inb_S8_S1_5)) (Shape.Idx.first (by decide)))⟩,
      ⟨Rect.unit ![0, 0, 128] S1x256x128.size inb_S1x256x512_S1x256x128_0_0_128, chunk (k0_pay2 (View.ld x2 (Rect.unit ![0, 0, 0] S1x128x128.size inb_S1x128x128_S1x128x128_0_0_0)) (View.ld x3 (Rect.unit ![0, 0, 0] S1x256x128.size inb_S1x256x128_S1x256x128_0_0_0)) (View.ld x4 (Rect.unit ![0, 0, 0] S1x128x128.size inb_S1x128x128_S1x128x128_0_0_0)))
        (k0_pay3 (View.ld x5 (Rect.unit ![0, 0, 0] S1x128x128.size inb_S1x128x128_S1x128x128_0_0_0)) (View.ld x6 (Rect.unit ![0, 0, 0] S1x256x128.size inb_S1x256x128_S1x256x128_0_0_0)) (View.ld x7 (Rect.unit ![0, 0, 0] S1x128x128.size inb_S1x128x128_S1x128x128_0_0_0))) (k0_pay4 i) (k0_pay5 kernelRun0_A.sl.v33)
        (View.ld x1 (Rect.unit (s := S1x256x512) ![0, 0, 128] S1x256x128.size inb_S1x256x512_S1x256x128_0_0_128))
        ((View.ld x0 (Rect.unit (s := S8) ![2] S1.size inb_S8_S1_2)) (Shape.Idx.first (by decide))) ((View.ld x0 (Rect.unit (s := S8) ![3] S1.size inb_S8_S1_3)) (Shape.Idx.first (by decide)))⟩,
      ⟨Rect.unit ![0, 0, 0] S1x256x128.size inb_S1x256x512_S1x256x128_0_0_0, chunk (k0_pay2 (View.ld x2 (Rect.unit ![0, 0, 0] S1x128x128.size inb_S1x128x128_S1x128x128_0_0_0)) (View.ld x3 (Rect.unit ![0, 0, 0] S1x256x128.size inb_S1x256x128_S1x256x128_0_0_0)) (View.ld x4 (Rect.unit ![0, 0, 0] S1x128x128.size inb_S1x128x128_S1x128x128_0_0_0)))
        (k0_pay3 (View.ld x5 (Rect.unit ![0, 0, 0] S1x128x128.size inb_S1x128x128_S1x128x128_0_0_0)) (View.ld x6 (Rect.unit ![0, 0, 0] S1x256x128.size inb_S1x256x128_S1x256x128_0_0_0)) (View.ld x7 (Rect.unit ![0, 0, 0] S1x128x128.size inb_S1x128x128_S1x128x128_0_0_0))) (k0_pay4 i) (k0_pay5 kernelRun0_A.sl.v33)
        (View.ld x1 (Rect.unit (s := S1x256x512) ![0, 0, 0] S1x256x128.size inb_S1x256x512_S1x256x128_0_0_0))
        ((View.ld x0 (Rect.unit (s := S8) ![0] S1.size inb_S8_S1_0)) (Shape.Idx.first (by decide))) ((View.ld x0 (Rect.unit (s := S8) ![1] S1.size inb_S8_S1_1)) (Shape.Idx.first (by decide)))⟩] : List (View.Piece (Elt Ideal) S1x256x512 .f32)) := by
  rw [run_pieces]
  simp only [load_held]

/-! ## One half at an index -/

/-- The greatest of a row's scores and the sink. -/
def kTop (X : Fin 512 → EReal) (σ : EReal) : EReal := max (Finset.univ.fold max ⊥ X) σ

/-- A row's values weighted by its softmax, as the block computes it. -/
def kRow (X : Fin 512 → EReal) (σ : EReal) (v : Fin 512 → EReal) : EReal :=
  Ideal.div (∑ c, Ideal.exp2 (X c - kTop X σ) * v c) ((∑ c, Ideal.exp2 (X c - kTop X σ)) + Ideal.exp2 (σ - kTop X σ))

theorem top_apply (s : FVec Ideal S256x512 .f32) (σ : Ideal .f32) (r : Fin 256) (z : Fin 1) :
    halfTop s σ (ix2 r z) = kTop (fun c => s (ix2 r c)) σ := by
  unfold halfTop
  pointwise [kTop, negInf_bits]

theorem exp_apply (s : FVec Ideal S256x512 .f32) (σ : Ideal .f32) (r : Fin 256) (k : Fin 512) :
    halfExp s σ (ix2 r k) = Ideal.exp2 (s (ix2 r k) - kTop (fun c => s (ix2 r c)) σ) := by
  unfold halfExp
  pointwise [top_apply]
  rfl

theorem of_apply (s : FVec Ideal S256x512 .f32) (σ : Ideal .f32) (V : FVec Ideal S512x128 .bf16) (r : Fin 256) (l : Fin 128) :
    halfOf s σ V (ix2 r l) = kRow (fun c => s (ix2 r c)) σ fun c => V (ix2 c l) := by
  unfold halfOf
  pointwise [kRow, exp_apply, top_apply]
  rfl

theorem score_apply (lanes : IVec S1x128 1) (K : FVec Ideal S512x128 .bf16) (mask : IVec S256x512 1)
    (q : FVec Ideal S256x128 .bf16) (r : Fin 256) (k : Fin 512) :
    halfScore lanes K mask q (ix2 r k)
      = Scalar.select (mask (ix2 r k)) (∑ l : Fin 128, Scalar.select (lanes (ix2 0 l)) (q (ix2 r l)) 0 * K (ix2 k l)) (⊥ : EReal) := by
  have e : Named.named (F := Ideal) (φ := .f32) κ "mask" 0xF149F2CA#32 = (⊥ : EReal) :=
    IdealRules.named_const.ideal_named_scalar _ _ _ _ rfl
  unfold halfScore
  rw [e]
  pointwise

theorem sink_apply (σ : Elt Ideal .f32) : halfSink σ = (σ : EReal) * (((Real.log 2)⁻¹ : ℝ) : EReal) := by
  have e : Named.named (F := Ideal) (φ := .f32) κ "log2e" 0x3FB8AA3B#32 = (((Real.log 2)⁻¹ : ℝ) : EReal) :=
    IdealRules.named_const.ideal_named_scalar _ _ _ _ rfl
  unfold halfSink
  rw [e]
  rfl

/-! ## The mask and the lanes -/

/-- Column `k` of block `i` is within the window of row `r`, and inside the sequence. -/
def colOk (i r k : ℕ) : Prop := (r ≤ k ∧ k ≤ r + 256) ∧ 128 ≤ i * 256 + k ∧ i * 256 + k < 4224

instance (i r k : ℕ) : Decidable (colOk i r k) := by unfold colOk; infer_instance

theorem pos_word : ∀ p : Fin 8192, IntOp.cmpi CmpIPredicate.sge (BitVec.ofNat 32 p.val - 128#32) 0#32
    = if 128 ≤ p.val then 1#1 else 0#1 := by decide +kernel

theorem end_word : ∀ p : Fin 8192, IntOp.cmpi CmpIPredicate.slt (BitVec.ofNat 32 p.val - 128#32) 4096#32
    = if p.val < 4224 then 1#1 else 0#1 := by decide +kernel

theorem and_word (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem mask_apply (i : grid0.Coords) (r : Fin 256) (k : Fin 512) :
    k0_pay4 i (ix2 r k) = if colOk (i 1).val r.val k.val then 1#1 else 0#1 := by
  have hi : (i 1).val < 16 := (i 1).isLt
  unfold k0_pay4
  pointwise
  generalize (i 1).val = a at hi ⊢
  have e₁ : BitVec.ofNat 32 a * 256#32 + BitVec.ofNat 32 r.val - (BitVec.ofNat 32 a * 256#32 - 128#32 + BitVec.ofNat 32 k.val)
      = BitVec.ofNat 32 (r.val + 128) - BitVec.ofNat 32 k.val := by
    apply BitVec.eq_of_toNat_eq
    simp only [BitVec.toNat_sub, BitVec.toNat_add, BitVec.toNat_mul, BitVec.toNat_ofNat]
    omega
  have e₂ : BitVec.ofNat 32 a * 256#32 - 128#32 + BitVec.ofNat 32 k.val = BitVec.ofNat 32 (a * 256 + k.val) - 128#32 := by
    apply BitVec.eq_of_toNat_eq
    simp only [BitVec.toNat_sub, BitVec.toNat_add, BitVec.toNat_mul, BitVec.toNat_ofNat]
    omega
  have w₁ := (congrArg (fun x => IntOp.cmpi CmpIPredicate.sle (IntOp.absi x) 128#32) e₁).trans
    (near_word (r.val + 128) k.val (by omega) (by omega))
  have w₂ := (congrArg (fun x => IntOp.cmpi CmpIPredicate.sge x 0#32) e₂).trans (pos_word ⟨a * 256 + k.val, by omega⟩)
  have w₃ := (congrArg (fun x => IntOp.cmpi CmpIPredicate.slt x 4096#32) e₂).trans (end_word ⟨a * 256 + k.val, by omega⟩)
  refine (congrArg₂ IntOp.andi (congrArg₂ IntOp.andi w₁ w₂) w₃).trans ?_
  rw [and_word, and_word]
  refine if_congr ?_ rfl rfl
  unfold colOk
  dsimp only
  omega

theorem lo_apply (l : Fin 128) : k0_pay5 kernelRun0_A.sl.v33 (ix2 0 l) = if l.val < 64 then 1#1 else 0#1 := by
  unfold k0_pay5 kernelRun0_A.sl.v33
  pointwise
  revert l
  decide +kernel

theorem hi_apply (l : Fin 128) :
    xori (k0_pay5 kernelRun0_A.sl.v33) (constantI S1x128 1 1#1) (ix2 0 l) = if l.val < 64 then 0#1 else 1#1 := by
  refine (congrArg (fun x => IntOp.xori x 1#1) (lo_apply l)).trans ?_
  split <;> rfl

/-- One result of a block: row `r`, the lanes' group `g`, half `h` of them, lane `l` of the values. -/
def blockRow (i : ℕ) (q : Fin 64 → EReal) (σ : EReal) (K : Fin 512 → Fin 64 → EReal) (v : Fin 512 → EReal) (r : ℕ) : EReal :=
  kRow (fun k => if colOk i r k.val then ∑ d : Fin 64, q d * K k d else ⊥) (σ * (((Real.log 2)⁻¹ : ℝ) : EReal)) v

theorem chunk_apply (K V : FVec Ideal S512x128 .bf16) (i : grid0.Coords) (q : Vec Ideal S1x256x128 .bf16)
    (σ₀ σ₁ : Elt Ideal .f32) (z : Fin 1) (r : Fin 256) (l : Fin 128) (h : Fin 2) (hl : l.val / 64 = h.val) :
    chunk K V (k0_pay4 i) (k0_pay5 kernelRun0_A.sl.v33) q σ₀ σ₁ (ix3 z r l)
      = blockRow (i 1).val (fun d => q (ix3 0 r ⟨h.val * 64 + d.val, by omega⟩)) (if h = 0 then σ₀ else σ₁)
          (fun k d => K (ix2 k ⟨h.val * 64 + d.val, by omega⟩)) (fun k => V (ix2 k l)) r.val := by
  have hs : ∀ (p : Prop) [Decidable p] (x y : EReal), Scalar.select (if p then 1#1 else 0#1) x y = if p then x else y := by
    intro p _ x y
    split <;> rfl
  unfold chunk
  pointwise [lo_apply, of_apply, score_apply, sink_apply, mask_apply, hs]
  have hh : h = 0 ∨ h = 1 := by omega
  rcases hh with rfl | rfl
  · rw [if_pos (by simp at hl; omega)]
    unfold blockRow
    refine congrArg (fun X => kRow X _ _) (funext fun k => if_congr Iff.rfl ?_ rfl)
    refine (congrArg₂ (· + ·) (Finset.sum_congr rfl fun d _ => ?_) (Finset.sum_eq_zero fun d _ => zero_mul _)).trans (add_zero _)
    simp
  · rw [if_neg (by simp at hl; omega)]
    unfold blockRow
    refine congrArg (fun X => kRow X _ _) (funext fun k => if_congr Iff.rfl ?_ rfl)
    refine (congrArg₂ (· + ·) (Finset.sum_eq_zero fun d _ => ?_) (Finset.sum_congr rfl fun d _ => ?_)).trans (zero_add _)
    · rfl
    · refine (rfl : _ = q (ix3 0 r ⟨64 + d.val, by omega⟩) * K (ix2 k ⟨64 + d.val, by omega⟩)).trans ?_
      simp

theorem cat_apply (x : Vec Ideal S1x128x128 .bf16) (y : Vec Ideal S1x256x128 .bf16) (z : Vec Ideal S1x128x128 .bf16)
    (k : Fin 512) (l : Fin 128) :
    k0_pay2 (F := Ideal) x y z (ix2 k l)
      = if h : k.val < 128 then x (ix3 0 ⟨k.val, h⟩ l)
        else if h : k.val - 128 < 256 then y (ix3 0 ⟨k.val - 128, h⟩ l)
        else z (ix3 0 ⟨k.val - 128 - 256, by omega⟩ l) := by
  unfold k0_pay2
  pointwise

theorem cat_apply' (x : Vec Ideal S1x128x128 .bf16) (y : Vec Ideal S1x256x128 .bf16) (z : Vec Ideal S1x128x128 .bf16)
    (k : Fin 512) (l : Fin 128) :
    k0_pay3 (F := Ideal) x y z (ix2 k l) = k0_pay2 (F := Ideal) x y z (ix2 k l) := rfl

/-! ## The block -/

/-- A result of the block. -/
def blockAt (i : ℕ) (x0 : Vec Ideal S8 .f32) (x1 : Vec Ideal S1x256x512 .bf16) (x2 : Vec Ideal S1x128x128 .bf16)
    (x3 : Vec Ideal S1x256x128 .bf16) (x4 x5 : Vec Ideal S1x128x128 .bf16) (x6 : Vec Ideal S1x256x128 .bf16)
    (x7 : Vec Ideal S1x128x128 .bf16) (r : Fin 256) (n : Fin 512) : EReal :=
  blockRow i (fun d => x1 (ix3 0 r ⟨n.val / 128 * 128 + n.val / 64 % 2 * 64 + d.val, by omega⟩))
    (x0 (ix1 ⟨n.val / 128 * 2 + n.val / 64 % 2, by omega⟩))
    (fun k d => k0_pay2 (F := Ideal) x2 x3 x4 (ix2 k ⟨n.val / 64 % 2 * 64 + d.val, by omega⟩))
    (fun k => k0_pay2 (F := Ideal) x5 x6 x7 (ix2 k ⟨n.val % 128, by omega⟩)) r.val

theorem ld_full {e : EltTy} (a b d : ℕ) (x : Vec Ideal ⟨3, ![a, b, d]⟩ e) (inb) :
    View.ld x (Rect.unit (s := ⟨3, ![a, b, d]⟩) ![0, 0, 0] (Shape.size ⟨3, ![a, b, d]⟩) inb) = x := by
  funext y
  refine congrArg x (funext fun k => Fin.ext ?_)
  fin_cases k <;> simp [ValueKit.rect_emb_unit_val]

theorem piece_apply (i : grid0.Coords) (x0 : Vec Ideal S8 .f32) (x1 : Vec Ideal S1x256x512 .bf16) (x2 : Vec Ideal S1x128x128 .bf16)
    (x3 : Vec Ideal S1x256x128 .bf16) (x4 x5 : Vec Ideal S1x128x128 .bf16) (x6 : Vec Ideal S1x256x128 .bf16)
    (x7 : Vec Ideal S1x128x128 .bf16) (q : Vec Ideal S1x256x128 .bf16) (σ₀ σ₁ : Elt Ideal .f32) (g : Fin 4)
    (hq : ∀ (r : Fin 256) (l : Fin 128), q (ix3 0 r l) = x1 (ix3 0 r ⟨g.val * 128 + l.val, by omega⟩))
    (h₀ : σ₀ = x0 (ix1 ⟨g.val * 2, by omega⟩)) (h₁ : σ₁ = x0 (ix1 ⟨g.val * 2 + 1, by omega⟩)) (z : Fin 1) (r : Fin 256) (l : Fin 128)
    (a : Fin 256) (n : Fin 512) (ha : a = r) (hn : n.val = g.val * 128 + l.val) :
    chunk (k0_pay2 x2 x3 x4) (k0_pay3 x5 x6 x7) (k0_pay4 i) (k0_pay5 kernelRun0_A.sl.v33) q σ₀ σ₁ (ix3 z r l)
      = blockAt (i 1).val x0 x1 x2 x3 x4 x5 x6 x7 a n := by
  subst ha
  have e₁ : n.val / 128 = g.val := by omega
  have e₂ : n.val / 64 % 2 = l.val / 64 := by omega
  have e₃ : n.val % 128 = l.val := by omega
  refine (chunk_apply _ _ i q σ₀ σ₁ z a l ⟨l.val / 64, by omega⟩ rfl).trans ?_
  unfold blockAt
  simp only [e₁, e₂, e₃, hq, cat_apply', Nat.add_assoc]
  refine congrArg (fun s => blockRow (i 1).val _ s _ _ a.val) ?_
  have hl : l.val / 64 = 0 ∨ l.val / 64 = 1 := by omega
  rcases hl with hl | hl <;> simp [hl, h₀, h₁]

set_option maxHeartbeats 4000000 in
theorem out_apply  (c : Dev nD) (i : grid0.Coords) (arg2 : Memref sig .tc .smem S8 .f32) (harg2 : arg2.IsWhole) (arg3 : Memref sig .tc .vmem S1x256x512 .bf16) (harg3 : arg3.IsWhole) (arg4 : Memref sig .tc .vmem S1x128x128 .bf16) (harg4 : arg4.IsWhole) (arg5 : Memref sig .tc .vmem S1x256x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x256x128 .bf16) (harg8 : arg8.IsWhole) (arg9 : Memref sig .tc .vmem S1x128x128 .bf16) (harg9 : arg9.IsWhole) (arg10 : Memref sig .tc .vmem S1x256x512 .f32) (harg10 : arg10.IsWhole)
    (x0 : Vec Ideal S8 .f32) (x1 : Vec Ideal S1x256x512 .bf16) (x2 : Vec Ideal S1x128x128 .bf16) (x3 : Vec Ideal S1x256x128 .bf16) (x4 : Vec Ideal S1x128x128 .bf16) (x5 : Vec Ideal S1x128x128 .bf16) (x6 : Vec Ideal S1x256x128 .bf16) (x7 : Vec Ideal S1x128x128 .bf16) (j : S1x256x512.Idx) :
    out0_A_8 c i arg2 harg2 arg3 harg3 arg4 harg4 arg5 harg5 arg6 harg6 arg7 harg7 arg8 harg8 arg9 harg9 arg10 harg10 x0 x1 x2 x3 x4 x5 x6 x7 j = blockAt (i 1).val x0 x1 x2 x3 x4 x5 x6 x7 (j 1) (j 2) := by
  unfold out0_A_8
  rw [View.read_writes_junk_eq_canon]
  refine View.canon_apply_of_pieces (Val := Elt Ideal) (fun j => blockAt (i 1).val x0 x1 x2 x3 x4 x5 x6 x7 (j 1) (j 2)) _ ?_ j
    (cover0_A_8 c i arg2 harg2 arg3 harg3 arg4 harg4 arg5 harg5 arg6 harg6 arg7 harg7 arg8 harg8 arg9 harg9 arg10 harg10 x0 x1 x2 x3 x4 x5 x6 x7 j)
  rw [run_held]
  intro p hp w
  simp only [List.mem_cons, List.not_mem_nil, or_false] at hp
  rcases hp with rfl | rfl | rfl | rfl
  · idx_vars w
    obtain rfl : w0 = 0 := Subsingleton.elim _ _
    rw [ld_full, ld_full, ld_full, ld_full, ld_full, ld_full]
    refine piece_apply i x0 x1 x2 x3 x4 x5 x6 x7 _ _ _ 3 (fun r l => ?_) ?_ ?_ 0 w1 w2 _ _ (Fin.ext ?_) ?_
    · refine congrArg x1 (funext fun k => Fin.ext ?_)
      fin_cases k <;> simp [ValueKit.rect_emb_unit_val]
    · refine congrArg x0 (funext fun k => Fin.ext ?_)
      fin_cases k
      simp [ValueKit.rect_emb_unit_val]
    · refine congrArg x0 (funext fun k => Fin.ext ?_)
      fin_cases k
      simp [ValueKit.rect_emb_unit_val]
    · simp [ValueKit.rect_emb_unit_val]
    · simp [ValueKit.rect_emb_unit_val]

  · idx_vars w
    obtain rfl : w0 = 0 := Subsingleton.elim _ _
    rw [ld_full, ld_full, ld_full, ld_full, ld_full, ld_full]
    refine piece_apply i x0 x1 x2 x3 x4 x5 x6 x7 _ _ _ 2 (fun r l => ?_) ?_ ?_ 0 w1 w2 _ _ (Fin.ext ?_) ?_
    · refine congrArg x1 (funext fun k => Fin.ext ?_)
      fin_cases k <;> simp [ValueKit.rect_emb_unit_val]
    · refine congrArg x0 (funext fun k => Fin.ext ?_)
      fin_cases k
      simp [ValueKit.rect_emb_unit_val]
    · refine congrArg x0 (funext fun k => Fin.ext ?_)
      fin_cases k
      simp [ValueKit.rect_emb_unit_val]
    · simp [ValueKit.rect_emb_unit_val]
    · simp [ValueKit.rect_emb_unit_val]

  · idx_vars w
    obtain rfl : w0 = 0 := Subsingleton.elim _ _
    rw [ld_full, ld_full, ld_full, ld_full, ld_full, ld_full]
    refine piece_apply i x0 x1 x2 x3 x4 x5 x6 x7 _ _ _ 1 (fun r l => ?_) ?_ ?_ 0 w1 w2 _ _ (Fin.ext ?_) ?_
    · refine congrArg x1 (funext fun k => Fin.ext ?_)
      fin_cases k <;> simp [ValueKit.rect_emb_unit_val]
    · refine congrArg x0 (funext fun k => Fin.ext ?_)
      fin_cases k
      simp [ValueKit.rect_emb_unit_val]
    · refine congrArg x0 (funext fun k => Fin.ext ?_)
      fin_cases k
      simp [ValueKit.rect_emb_unit_val]
    · simp [ValueKit.rect_emb_unit_val]
    · simp [ValueKit.rect_emb_unit_val]

  · idx_vars w
    obtain rfl : w0 = 0 := Subsingleton.elim _ _
    rw [ld_full, ld_full, ld_full, ld_full, ld_full, ld_full]
    refine piece_apply i x0 x1 x2 x3 x4 x5 x6 x7 _ _ _ 0 (fun r l => ?_) ?_ ?_ 0 w1 w2 _ _ (Fin.ext ?_) ?_
    · refine congrArg x1 (funext fun k => Fin.ext ?_)
      fin_cases k <;> simp [ValueKit.rect_emb_unit_val]
    · refine congrArg x0 (funext fun k => Fin.ext ?_)
      fin_cases k
      simp [ValueKit.rect_emb_unit_val]
    · refine congrArg x0 (funext fun k => Fin.ext ?_)
      fin_cases k
      simp [ValueKit.rect_emb_unit_val]
    · simp [ValueKit.rect_emb_unit_val]
    · simp [ValueKit.rect_emb_unit_val]

end Cert.Proof.Swa
-- ==== Proof.SwaMath.lean ====
/-
  The masked softmax with a sink, both ways: the block's, over the columns around the rows, by powers of two and one
  division, and the reference's, over all positions.
-/
module

public import proofs.«01_k».proof.Proof.SwaPay
public import proofs.«01_k».proof.Proof.Softmax

@[expose] public section

noncomputable section

namespace Cert.Proof.Swa

open Idealize.ShloMosaic

/-- A number that is real or at the bottom. -/
def IsLow (x : EReal) : Prop := x = ⊥ ∨ IsReal x

theorem max_low {x y : EReal} (hx : IsLow x) (hy : IsLow y) : IsLow (max x y) := by
  rcases max_choice x y with h | h <;> rw [h] <;> assumption

theorem fold_low {n : ℕ} (f : Fin n → EReal) (h : ∀ k, IsLow (f k)) (s : Finset (Fin n)) : IsLow (s.fold max ⊥ f) := by
  classical
  induction s using Finset.induction_on with
  | empty => exact Or.inl rfl
  | insert a s ha ih => rw [Finset.fold_insert ha]; exact max_low (h a) ih

theorem real_of_le {x y : EReal} (hx : IsLow x) (hy : IsReal y) (h : y ≤ x) : IsReal x := by
  rcases hx with rfl | hx
  · obtain ⟨r, rfl⟩ := hy
    exact absurd (le_bot_iff.1 h) (EReal.coe_ne_bot r)
  · exact hx

theorem kTop_real {X : Fin 512 → EReal} {σ : EReal} (hX : ∀ k, IsLow (X k)) (hσ : IsReal σ) : IsReal (kTop X σ) :=
  real_of_le (max_low (fold_low X hX _) (Or.inr hσ)) hσ (le_max_right _ _)

theorem topX_real {s : Fin 4096 → EReal} {t : ℕ} {σ : EReal} (hs : ∀ k, IsReal (s k)) (hσ : IsReal σ) :
    IsReal (topX s t σ) := by
  have hX : ∀ k, IsLow (rowX s t σ k) := fun k => by
    unfold rowX
    split
    · split
      · exact Or.inr (hs _)
      · exact Or.inl rfl
    · exact Or.inr hσ
  unfold topX
  rw [max_eq_right bot_le]
  refine real_of_le (fold_low _ hX _) hσ ?_
  rw [Finset.le_fold_max]
  exact Or.inr ⟨Fin.last 4096, Finset.mem_univ _, le_of_eq (by unfold rowX; rw [dif_neg (by simp)])⟩

theorem exp2_low (x : EReal) : Ideal.exp2 (⊥ - x) = 0 := by
  rw [EReal.bot_sub]
  rfl

theorem exp_low (x : EReal) : Ideal.exp (⊥ - x) = 0 := by
  rw [EReal.bot_sub]
  rfl

/-- Values at masked columns do not matter. -/
theorem kRow_congr {X : Fin 512 → EReal} {σ : EReal} {v w : Fin 512 → EReal} (h : ∀ k, X k = ⊥ ∨ v k = w k) :
    kRow X σ v = kRow X σ w := by
  unfold kRow
  refine congrArg (fun x => Ideal.div x _) (Finset.sum_congr rfl fun k _ => ?_)
  rcases h k with h | h
  · rw [h, exp2_low, zero_mul, zero_mul]
  · rw [h]

/-- The position of column `k` of block `i`. -/
def posOf (i k : ℕ) : Fin 4096 := ⟨(i * 256 + k - 128) % 4096, Nat.mod_lt _ (by norm_num)⟩

/-- A sum over the window's columns is the sum over its positions. -/
theorem sum_window {A : Type} [AddCommMonoid A] (F : Fin 4096 → A) (i r : ℕ) (hi : i < 16) (hr : r < 256) :
    (∑ k : Fin 512, if colOk i r k.val then F (posOf i k.val) else 0)
      = ∑ k : Fin 4096, if i * 256 + r ≤ k.val + 128 ∧ k.val ≤ i * 256 + r + 128 then F k else 0 := by
  rw [← Finset.sum_filter, ← Finset.sum_filter]
  refine Finset.sum_bij' (fun k _ => posOf i k.val) (fun k hk => ⟨k.val + 128 - i * 256, ?_⟩) ?_ ?_ ?_ ?_ ?_
  · have := (Finset.mem_filter.1 hk).2
    omega
  · intro k hk
    have h := (Finset.mem_filter.1 hk).2
    unfold colOk at h
    refine Finset.mem_filter.2 ⟨Finset.mem_univ _, ?_⟩
    unfold posOf
    dsimp only
    omega
  · intro k hk
    have h := (Finset.mem_filter.1 hk).2
    refine Finset.mem_filter.2 ⟨Finset.mem_univ _, ?_⟩
    unfold colOk
    dsimp only
    omega
  · intro k hk
    have h := (Finset.mem_filter.1 hk).2
    unfold colOk at h
    refine Fin.ext ?_
    unfold posOf
    dsimp only
    omega
  · intro k hk
    have h := (Finset.mem_filter.1 hk).2
    refine Fin.ext ?_
    unfold posOf
    dsimp only
    omega
  · intro k hk
    rfl

/-- A nonnegative real factor goes into a sum. -/
theorem sum_mul_real {ι : Type} (s : Finset ι) (f : ι → EReal) {c : ℝ} (hc : 0 ≤ c) :
    (∑ k ∈ s, f k) * (c : EReal) = ∑ k ∈ s, f k * (c : EReal) := by
  classical
  induction s using Finset.induction_on with
  | empty => exact zero_mul _
  | insert a s ha ih =>
    rw [Finset.sum_insert ha, Finset.sum_insert ha, ← ih]
    exact EReal.right_distrib_of_nonneg_of_ne_top (by exact_mod_cast hc) (EReal.coe_ne_top c) _ _

/-- The block's row is the reference's. -/
theorem window_softmax (a v : Fin 4096 → EReal) (σ : EReal) (i r t : ℕ) (hi : i < 16) (hr : r < 256) (ht : t = i * 256 + r)
    (ha : ∀ k, IsReal (a k)) (hσ : IsReal σ) :
    kRow (fun k => if colOk i r k.val then a (posOf i k.val) else ⊥) (σ * (((Real.log 2)⁻¹ : ℝ) : EReal))
        (fun k => v (posOf i k.val))
      = rowRef (fun k => a k * ((Real.log 2 : ℝ) : EReal)) v t σ := by
  have hL : Real.log 2 ≠ 0 := (Real.log_pos (by norm_num)).ne'
  have hN : IsReal (kTop (fun k => if colOk i r k.val then a (posOf i k.val) else ⊥) (σ * (((Real.log 2)⁻¹ : ℝ) : EReal))) := by
    refine kTop_real (fun k => ?_) (hσ.mul ⟨_, rfl⟩)
    split
    · exact Or.inr (ha _)
    · exact Or.inl rfl
  have hM : IsReal (topX (fun k => a k * ((Real.log 2 : ℝ) : EReal)) t σ) := topX_real (fun k => (ha k).mul ⟨_, rfl⟩) hσ
  obtain ⟨N, hN⟩ := hN
  obtain ⟨M, hM⟩ := hM
  choose ar har using ha
  obtain ⟨s, rfl⟩ := hσ
  unfold kRow rowRef
  rw [hN, hM]
  -- the block's weights
  have k₁ : ∀ k : Fin 512, Ideal.exp2 ((if colOk i r k.val then a (posOf i k.val) else ⊥) - (N : EReal))
      = ((if colOk i r k.val then Real.exp (ar (posOf i k.val) * Real.log 2 - N * Real.log 2) else 0 : ℝ) : EReal) := by
    intro k
    split
    · rw [har, ← EReal.coe_sub, ← exp2_scaled]
      congr 2
      field_simp
    · exact exp2_low _
  have k₂ : Ideal.exp2 ((s : EReal) * (((Real.log 2)⁻¹ : ℝ) : EReal) - (N : EReal))
      = ((Real.exp (s - N * Real.log 2) : ℝ) : EReal) := by
    rw [← EReal.coe_mul, ← EReal.coe_sub, ← exp2_scaled]
    congr 2
    field_simp
  -- the reference's weights
  have r₁ : ∀ k : Fin 4096, Ideal.exp (rowX (fun k => a k * ((Real.log 2 : ℝ) : EReal)) t s ⟨k.val, by omega⟩ - (M : EReal))
      = ((if i * 256 + r ≤ k.val + 128 ∧ k.val ≤ i * 256 + r + 128 then Real.exp (ar k * Real.log 2 - M) else 0 : ℝ) : EReal) := by
    intro k
    unfold rowX
    rw [dif_pos k.isLt, ht]
    split
    · dsimp only
      rw [har, ← EReal.coe_mul, ← EReal.coe_sub, Ideal.exp_coe]
    · exact exp_low _
  have r₂ : ∑ k', Ideal.exp (rowX (fun k => a k * ((Real.log 2 : ℝ) : EReal)) t s k' - (M : EReal))
      = (((∑ k : Fin 4096, if i * 256 + r ≤ k.val + 128 ∧ k.val ≤ i * 256 + r + 128 then Real.exp (ar k * Real.log 2 - M) else 0)
          + Real.exp (s - M) : ℝ) : EReal) := by
    rw [Fin.sum_univ_castSucc, EReal.coe_add, ← coe_sum]
    refine congrArg₂ (· + ·) (Finset.sum_congr rfl fun k _ => r₁ k) ?_
    unfold rowX
    rw [dif_neg (by simp), ← EReal.coe_sub, Ideal.exp_coe]
  have p₁ : ∀ k : Fin 512, ((if colOk i r k.val then Real.exp (ar (posOf i k.val) * Real.log 2 - N * Real.log 2) else 0 : ℝ) : EReal)
      * v (posOf i k.val)
      = if colOk i r k.val then (Real.exp (ar (posOf i k.val) * Real.log 2 - N * Real.log 2) : EReal) * v (posOf i k.val) else 0 := by
    intro k
    split
    · rfl
    · rw [EReal.coe_zero, zero_mul]
  rw [r₂]
  simp only [k₁, k₂, r₁, p₁, coe_sum, ← EReal.coe_add]
  rw [sum_window (fun k => (Real.exp (ar k * Real.log 2 - N * Real.log 2) : EReal) * v k) i r hi hr,
    sum_window (fun k => Real.exp (ar k * Real.log 2 - N * Real.log 2)) i r hi hr]
  have hD : (0 : ℝ) < (∑ k : Fin 4096, if i * 256 + r ≤ k.val + 128 ∧ k.val ≤ i * 256 + r + 128
      then Real.exp (ar k * Real.log 2 - M) else 0) + Real.exp (s - M) :=
    add_pos_of_nonneg_of_pos (Finset.sum_nonneg fun k _ => by split <;> positivity) (Real.exp_pos _)
  have e : ∀ x : ℝ, Real.exp (x - N * Real.log 2) = Real.exp (x - M) * Real.exp (M - N * Real.log 2) := fun x => by
    rw [← Real.exp_add]
    congr 1
    ring
  have hc : 0 < Real.exp (M - N * Real.log 2) := Real.exp_pos _
  have eD : (∑ k : Fin 4096, if i * 256 + r ≤ k.val + 128 ∧ k.val ≤ i * 256 + r + 128
      then Real.exp (ar k * Real.log 2 - N * Real.log 2) else 0) + Real.exp (s - N * Real.log 2)
      = ((∑ k : Fin 4096, if i * 256 + r ≤ k.val + 128 ∧ k.val ≤ i * 256 + r + 128
      then Real.exp (ar k * Real.log 2 - M) else 0) + Real.exp (s - M)) * Real.exp (M - N * Real.log 2) := by
    rw [add_mul, Finset.sum_mul, e s]
    refine congrArg (· + _) (Finset.sum_congr rfl fun k _ => ?_)
    rw [ite_mul, zero_mul, e]
  have e' : ∀ k, Real.exp (ar k * Real.log 2 - N * Real.log 2) = Real.exp (ar k * Real.log 2 - M) * Real.exp (M - N * Real.log 2) :=
    fun k => e _
  rw [eD]
  simp only [e']
  generalize (∑ k : Fin 4096, if i * 256 + r ≤ k.val + 128 ∧ k.val ≤ i * 256 + r + 128
      then Real.exp (ar k * Real.log 2 - M) else 0) + Real.exp (s - M) = D at hD ⊢
  generalize Real.exp (M - N * Real.log 2) = C at hc ⊢
  have h₁ : ((D * C : ℝ) : EReal) ≠ 0 := by exact_mod_cast (mul_pos hD hc).ne'
  have h₂ : (D : EReal) ≠ 0 := by exact_mod_cast hD.ne'
  simp only [Ideal.div, if_neg h₁, if_neg h₂, ← EReal.coe_inv]
  rw [sum_mul_real _ _ (inv_nonneg.2 (mul_pos hD hc).le)]
  refine Finset.sum_congr rfl fun k _ => ?_
  split
  · rw [mul_comm _ (v k), mul_assoc, ← EReal.coe_mul, ← EReal.coe_mul]
    congr 2
    field_simp
  · rw [zero_mul, EReal.coe_zero, zero_mul, mul_zero]

end Cert.Proof.Swa
-- ==== Proof.SwaHost.lean ====
/-
  The host lines before the windowed attention: its sinks in the order of the stored heads.
-/
module

public import proofs.«01_k».proof.Proof.Gen.Kernel3Ideal.Frame
public import Idealize.ShloMosaic.Lib.Pointwise
public import Idealize.ShloMosaic.Lib.StableHlo.ReadAt
public import Idealize.ShloMosaic.Lib.Pipeline.Value

@[expose] public section

set_option maxRecDepth 16384

noncomputable section

namespace Cert.Proof.Swa

open Idealize.ShloMosaic Idealize.SL.Sem Cert.Kernel3Ideal Cert.Kernel3Ideal.Gen Idealize.ShloMosaic.TcCoe

/-- The head stored at place `k`. -/
def headOf (k : Fin 8) : Fin 8 := ⟨k.val % 2 * 4 + k.val / 2, by omega⟩

theorem heads_apply (k : Fin 8) : lit0 (Shape.rowMajor S8 (ix1 k)) = BitVec.ofNat 32 (headOf k).val := by
  revert k
  decide +kernel

theorem head_word : ∀ p : Fin 8, (BitVec.ofNat 32 p.val).toInt.toNat = p.val := by decide +kernel

theorem siIdx_head (k : Fin 8) (i) : gather_S8_S8x1_S8_n_0_n_n_0_1_1.siIdx (ix1 k) i = ix2 k 0 := by
  funext b
  refine Fin.ext ?_
  match b with
  | ⟨0, _⟩ => rfl
  | ⟨1, _⟩ => exact Nat.lt_one_iff.mp (Fin.isLt _)

/-- A gather of single elements reads the operand at the index. -/
theorem gather_head_apply {α : Type} (x : S8.Idx → α) (idx : IVec S8x1 32) (k p : Fin 8)
    (h : idx (ix2 k 0) = BitVec.ofNat 32 p.val) :
    Host.gather gather_S8_S8x1_S8_n_0_n_n_0_1_1 x idx (ix1 k) = x (ix1 p) := by
  unfold Host.gather
  congr 1
  funext a
  obtain rfl : a = 0 := Subsingleton.elim _ _
  refine Fin.ext ?_
  show GatherDims.start _ _ idx 0 + GatherDims.batchCoord _ _ 0 + GatherDims.offCoord _ _ 0 = _
  rw [GatherDims.batchCoord_eq_zero _ _ _ List.not_mem_nil, GatherDims.offCoord_eq_zero _ _ _ (by decide)]
  unfold GatherDims.start
  rw [dif_pos (by decide), siIdx_head, h, head_word p]
  exact Nat.min_eq_left (Nat.le_of_lt_succ p.isLt)

theorem head_index_apply (y : IVec S8 32) (k : Fin 8) :
    broadcastInDim S8x1 ![0] bcast_S8_S8x1_0
      (select (constantI S8 1 0#1) y fun i => lit0 (S8.rowMajor i)) (ix2 k 0) = BitVec.ofNat 32 (headOf k).val := by
  refine Eq.trans ?_ (heads_apply k)
  pointwise

theorem host_sink (m : (ℓ : Loc nD τ sig) → Buf (Elt Ideal) ℓ) (c : Dev nD) (k : Fin 8) :
    V m c main_v5 (ix1 k) = m ((c.tc : Thread nD τ).loc main_arg3) (ix2 0 (headOf k)) := by
  unfold V hostOps0
  after_reads_at
  refine (gather_head_apply _ _ k (headOf k) (head_index_apply _ k)).trans ?_
  pointwise

end Cert.Proof.Swa
-- ==== Proof.SwaArr.lean ====
/-
  The windowed attention's result array, whole, from the arguments.
-/
module

public import proofs.«01_k».proof.Proof.SwaMath
public import proofs.«01_k».proof.Proof.SwaHost

@[expose] public section

set_option maxRecDepth 16384

noncomputable section

namespace Cert.Proof.Swa

open Idealize.ShloMosaic Idealize.SL.Sem Cert.Kernel3Ideal Cert.Kernel3Ideal.Gen Idealize.ShloMosaic.TcCoe
open Idealize.ShloMosaic.Pipeline (Dat Cfg Window)

/-! ## The blocks' places -/

theorem sidx_0 : ∀ t : Fin cfg0.N, win0_0.index t = ![0] := (by decide +kernel : ∀ t : Fin grid0.N, _)
theorem sidx_1 : ∀ t : Fin cfg0.N, win0_1.index t = ![(grid0.coords t 0).val, (grid0.coords t 1).val, 0] :=
  (by decide +kernel : ∀ t : Fin grid0.N, _)
theorem sidx_2 : ∀ t : Fin cfg0.N, win0_2.index t = ![(grid0.coords t 0).val, (grid0.coords t 1).val * 2 - 1, 0] :=
  (by decide +kernel : ∀ t : Fin grid0.N, _)
theorem sidx_3 : ∀ t : Fin cfg0.N, win0_3.index t = ![(grid0.coords t 0).val, (grid0.coords t 1).val, 0] :=
  (by decide +kernel : ∀ t : Fin grid0.N, _)
theorem sidx_4 : ∀ t : Fin cfg0.N, win0_4.index t
    = ![(grid0.coords t 0).val, min ((grid0.coords t 1).val * 2 + 2) 31, 0] :=
  (by decide +kernel : ∀ t : Fin grid0.N, _)
theorem sidx_5 : ∀ t : Fin cfg0.N, win0_5.index t = ![(grid0.coords t 0).val, (grid0.coords t 1).val * 2 - 1, 0] :=
  (by decide +kernel : ∀ t : Fin grid0.N, _)
theorem sidx_6 : ∀ t : Fin cfg0.N, win0_6.index t = ![(grid0.coords t 0).val, (grid0.coords t 1).val, 0] :=
  (by decide +kernel : ∀ t : Fin grid0.N, _)
theorem sidx_7 : ∀ t : Fin cfg0.N, win0_7.index t
    = ![(grid0.coords t 0).val, min ((grid0.coords t 1).val * 2 + 2) 31, 0] :=
  (by decide +kernel : ∀ t : Fin grid0.N, _)
theorem sidx_8 : ∀ t : Fin cfg0.N, win0_8.index t = ![(grid0.coords t 0).val, (grid0.coords t 1).val, 0] :=
  (by decide +kernel : ∀ t : Fin grid0.N, _)

variable (m : (ℓ : Loc nD τ sig) → Buf (Elt Ideal) ℓ) (c : Dev nD)

/-- The batch and the row block of point `t`, and the position of row `r` of it. -/
def swaB (t : Fin cfg0.N) : Fin 8 := grid0.coords t 0
def swaI (t : Fin cfg0.N) : Fin 16 := grid0.coords t 1
def swaS (i : Fin 16) (r : Fin 256) : Fin 4096 := ⟨i.val * 256 + r.val, by omega⟩

set_option maxHeartbeats 1000000 in
theorem sblk_0_apply (t : Fin cfg0.N) (k : Fin 8) :
    iblk m c 0 t (ix1 k) = m ((c.tc : Thread nD τ).loc main_arg3) (ix2 0 (headOf k)) := by
  refine Eq.trans ?_ (host_sink m c k)
  blk_ext [iblk, sidx_0]

set_option maxHeartbeats 1000000 in
theorem sblk_1_apply (t : Fin cfg0.N) (r : Fin 256) (n : Fin 512) :
    iblk m c 1 t (ix3 0 r n) = m ((c.tc : Thread nD τ).loc main_arg0) (ix3 (swaB t) (swaS (swaI t) r) n) := by
  refine Eq.trans ?_ (congrFun (V_main_arg0 m c) _)
  unfold swaB swaI swaS
  blk_ext [iblk, sidx_1]

set_option maxHeartbeats 1000000 in
theorem sblk_2_apply (t : Fin cfg0.N) (k l : Fin 128) :
    iblk m c 2 t (ix3 0 k l) = m ((c.tc : Thread nD τ).loc main_arg1)
      (ix3 (swaB t) ⟨((swaI t).val * 2 - 1) * 128 + k.val, by omega⟩ l) := by
  refine Eq.trans ?_ (congrFun (V_main_arg1 m c) _)
  unfold swaB swaI
  blk_ext [iblk, sidx_2]

set_option maxHeartbeats 1000000 in
theorem sblk_3_apply (t : Fin cfg0.N) (r : Fin 256) (l : Fin 128) :
    iblk m c 3 t (ix3 0 r l) = m ((c.tc : Thread nD τ).loc main_arg1) (ix3 (swaB t) (swaS (swaI t) r) l) := by
  refine Eq.trans ?_ (congrFun (V_main_arg1 m c) _)
  unfold swaB swaI swaS
  blk_ext [iblk, sidx_3]

set_option maxHeartbeats 1000000 in
theorem sblk_4_apply (t : Fin cfg0.N) (k l : Fin 128) :
    iblk m c 4 t (ix3 0 k l) = m ((c.tc : Thread nD τ).loc main_arg1)
      (ix3 (swaB t) ⟨min ((swaI t).val * 2 + 2) 31 * 128 + k.val, by omega⟩ l) := by
  refine Eq.trans ?_ (congrFun (V_main_arg1 m c) _)
  unfold swaB swaI
  blk_ext [iblk, sidx_4]

set_option maxHeartbeats 1000000 in
theorem sblk_5_apply (t : Fin cfg0.N) (k l : Fin 128) :
    iblk m c 5 t (ix3 0 k l) = m ((c.tc : Thread nD τ).loc main_arg2)
      (ix3 (swaB t) ⟨((swaI t).val * 2 - 1) * 128 + k.val, by omega⟩ l) := by
  refine Eq.trans ?_ (congrFun (V_main_arg2 m c) _)
  unfold swaB swaI
  blk_ext [iblk, sidx_5]

set_option maxHeartbeats 1000000 in
theorem sblk_6_apply (t : Fin cfg0.N) (r : Fin 256) (l : Fin 128) :
    iblk m c 6 t (ix3 0 r l) = m ((c.tc : Thread nD τ).loc main_arg2) (ix3 (swaB t) (swaS (swaI t) r) l) := by
  refine Eq.trans ?_ (congrFun (V_main_arg2 m c) _)
  unfold swaB swaI swaS
  blk_ext [iblk, sidx_6]

set_option maxHeartbeats 1000000 in
theorem sblk_7_apply (t : Fin cfg0.N) (k l : Fin 128) :
    iblk m c 7 t (ix3 0 k l) = m ((c.tc : Thread nD τ).loc main_arg2)
      (ix3 (swaB t) ⟨min ((swaI t).val * 2 + 2) 31 * 128 + k.val, by omega⟩ l) := by
  refine Eq.trans ?_ (congrFun (V_main_arg2 m c) _)
  unfold swaB swaI
  blk_ext [iblk, sidx_7]

/-! ## The array -/

/-- Three blocks of rows after one another, read at a column inside the sequence. -/
theorem cat_pos (x : Vec Ideal S1x128x128 .bf16) (y : Vec Ideal S1x256x128 .bf16) (z : Vec Ideal S1x128x128 .bf16)
    (A : S8x4096x128.Idx → EReal) (b : Fin 8) (i : Fin 16)
    (hx : ∀ k l : Fin 128, x (ix3 0 k l) = A (ix3 b ⟨(i.val * 2 - 1) * 128 + k.val, by omega⟩ l))
    (hy : ∀ (r : Fin 256) (l : Fin 128), y (ix3 0 r l) = A (ix3 b (swaS i r) l))
    (hz : ∀ k l : Fin 128, z (ix3 0 k l) = A (ix3 b ⟨min (i.val * 2 + 2) 31 * 128 + k.val, by omega⟩ l))
    (k : Fin 512) (l : Fin 128) (h₁ : 128 ≤ i.val * 256 + k.val) (h₂ : i.val * 256 + k.val < 4224) :
    k0_pay2 (F := Ideal) x y z (ix2 k l) = A (ix3 b (posOf i.val k.val) l) := by
  have e : ∀ p q : Fin 4096, p.val = q.val → A (ix3 b p l) = A (ix3 b q l) := fun p q h => by rw [Fin.ext h]
  rw [cat_apply]
  split
  · rw [hx]
    refine e _ _ ?_
    unfold posOf
    dsimp only
    omega
  · split
    · rw [hy]
      refine e _ _ ?_
      unfold posOf swaS
      dsimp only
      omega
    · rw [hz]
      refine e _ _ ?_
      unfold posOf
      dsimp only
      omega

/-- The result of batch `b`, row `r` of block `i`, lane `n`, from queries, keys, values and sinks. -/
def swaRow (Q : S8x4096x512.Idx → EReal) (K V : S8x4096x128.Idx → EReal) (σ : S1x8.Idx → EReal) (b : Fin 8) (i : Fin 16)
    (r : Fin 256) (n : Fin 512) : EReal :=
  kRow (fun k => if colOk i.val r.val k.val
      then ∑ d : Fin 64, Q (ix3 b (swaS i r) ⟨n.val / 128 * 128 + n.val / 64 % 2 * 64 + d.val, by omega⟩)
          * K (ix3 b (posOf i.val k.val) ⟨n.val / 64 % 2 * 64 + d.val, by omega⟩)
      else ⊥)
    (σ (ix2 0 (headOf ⟨n.val / 128 * 2 + n.val / 64 % 2, by omega⟩)) * (((Real.log 2)⁻¹ : ℝ) : EReal))
    fun k => V (ix3 b (posOf i.val k.val) ⟨n.val % 128, by omega⟩)

/-- The block's result of batch `b`, row `r` of block `i`, lane `n`, from the arguments. -/
def arrRow (b : Fin 8) (i : Fin 16) (r : Fin 256) (n : Fin 512) : EReal :=
  swaRow (m ((c.tc : Thread nD τ).loc main_arg0)) (m ((c.tc : Thread nD τ).loc main_arg1))
    (m ((c.tc : Thread nD τ).loc main_arg2)) (m ((c.tc : Thread nD τ).loc main_arg3)) b i r n

theorem block_row (t : Fin cfg0.N) (r : Fin 256) (n : Fin 512) :
    blockAt (swaI t).val (iblk m c 0 t) (iblk m c 1 t) (iblk m c 2 t) (iblk m c 3 t) (iblk m c 4 t) (iblk m c 5 t) (iblk m c 6 t)
        (iblk m c 7 t) r n
      = arrRow m c (swaB t) (swaI t) r n := by
  unfold blockAt blockRow arrRow swaRow
  refine (kRow_congr fun k => ?_).trans (congrArg₂ (fun X s => kRow X s _) (funext fun k => ?_) ?_)
  · by_cases h : colOk (swaI t).val r.val k.val
    · have h' := h
      unfold colOk at h'
      exact Or.inr (cat_pos _ _ _ _ (swaB t) (swaI t) (sblk_5_apply m c t) (sblk_6_apply m c t) (sblk_7_apply m c t) k _
        h'.2.1 h'.2.2)
    · exact Or.inl (if_neg h)
  · by_cases h : colOk (swaI t).val r.val k.val
    · have h' := h
      unfold colOk at h'
      rw [if_pos h, if_pos h]
      refine Finset.sum_congr rfl fun d _ => congrArg₂ (· * ·) (sblk_1_apply m c t r _) ?_
      exact cat_pos _ _ _ _ (swaB t) (swaI t) (sblk_2_apply m c t) (sblk_3_apply m c t) (sblk_4_apply m c t) k _ h'.2.1 h'.2.2
    · rw [if_neg h, if_neg h]
  · exact congrArg (fun x : EReal => x * (((Real.log 2)⁻¹ : ℝ) : EReal)) (sblk_0_apply m c t _)

set_option maxHeartbeats 1000000 in
theorem swa_arr : (dats m 0 c).arrAt 8 cfg0.N = fun i : S8x4096x512.Idx =>
    arrRow m c (i 0) ⟨(i 1).val / 256, by have : (i 1).val < 4096 := (i 1).isLt; omega⟩ ⟨(i 1).val % 256, by omega⟩ (i 2) := by
  refine (dats m 0 c).arrAt_eq_of_covers 8 _ (by decide +kernel) fun t hf y => ?_
  blk_simp
  rw [after0_8]
  unfold outsAt0
  refine (out_apply c _ _ _ _ _ _ _ _ _ _ _ _ _ _ _ _ _ _ _ _ _ _ _ _ _ _ _ y).trans ?_
  refine (block_row m c t (y 1) (y 2)).trans ?_
  have y0 : (y 0 : ℕ) = 0 := by have h : (y 0 : ℕ) < 1 := (y 0).isLt; omega
  have h1 : (y 1 : ℕ) < 256 := (y 1).isLt
  have e : ∀ (b b' : Fin 8) (i i' : Fin 16) (r r' : Fin 256) (n n' : Fin 512), b = b' → i = i' → r = r' → n = n' →
      arrRow m c b i r n = arrRow m c b' i' r' n' := by
    rintro b _ i _ r _ n _ rfl rfl rfl rfl
    rfl
  refine e _ _ _ _ _ _ _ _ (Fin.ext ?_) (Fin.ext ?_) (Fin.ext ?_) (Fin.ext ?_)
  · unfold swaB
    blk_simp [sidx_8, y0]
  · unfold swaI
    blk_simp [sidx_8]
    show (grid0.coords t 1).val = ((grid0.coords t 1).val * 256 + (y 1).val) / 256
    omega
  · blk_simp [sidx_8]
    show (y 1).val = ((grid0.coords t 1).val * 256 + (y 1).val) % 256
    omega
  · blk_simp [sidx_8]

end Cert.Proof.Swa
-- ==== Proof.SwaMatch.lean ====
/-
  The windowed attention's result is the reference's, for queries, keys and sinks that are real.
-/
module

public import proofs.«01_k».proof.Proof.SwaArr
public import proofs.«01_k».proof.Proof.WinMatch
public import proofs.«01_k».proof.Proof.Gen.Pre_finite3
public import proofs.«01_k».proof.Proof.Finite

@[expose] public section

set_option maxRecDepth 16384

noncomputable section

namespace Cert.Proof.Swa

open Idealize.ShloMosaic Idealize.SL.Sem Cert.Kernel3Ideal Cert.Kernel3Ideal.Gen Idealize.ShloMosaic.TcCoe

/-- A row of the block is the reference's row. -/
theorem row_eq_ref (Q : S8x4096x512.Idx → EReal) (K V : S8x4096x128.Idx → EReal) (σ : S1x8.Idx → EReal)
    (hQ : ∀ i, IsReal (Q i)) (hK : ∀ i, IsReal (K i)) (hσ : ∀ i, IsReal (σ i)) (b : Fin 8) (t : Fin 4096) (n : Fin 512) :
    swaRow Q K V σ b ⟨t.val / 256, by omega⟩ ⟨t.val % 256, by omega⟩ n
      = rowRef (scoreE Q K b ⟨n.val / 128, by omega⟩ ⟨n.val / 64 % 2, by omega⟩ t)
          (fun k => V (ix3 b k ⟨n.val % 128, by omega⟩)) t.val
          (sinkE σ ⟨n.val / 128, by omega⟩ ⟨n.val / 64 % 2, by omega⟩) := by
  have et : swaS ⟨t.val / 256, by omega⟩ ⟨t.val % 256, by omega⟩ = t := Fin.ext (by unfold swaS; dsimp only; omega)
  have eh : headOf ⟨n.val / 128 * 2 + n.val / 64 % 2, by omega⟩
      = (⟨n.val / 64 % 2 * 4 + n.val / 128, by omega⟩ : Fin 8) := Fin.ext (by unfold headOf; dsimp only; omega)
  unfold swaRow
  rw [et, eh]
  refine (window_softmax (fun k => ∑ d : Fin 64, Q (ix3 b t ⟨n.val / 128 * 128 + n.val / 64 % 2 * 64 + d.val, by omega⟩)
      * K (ix3 b k ⟨n.val / 64 % 2 * 64 + d.val, by omega⟩)) (fun k => V (ix3 b k ⟨n.val % 128, by omega⟩))
    (σ (ix2 0 ⟨n.val / 64 % 2 * 4 + n.val / 128, by omega⟩)) (t.val / 256) (t.val % 256) t.val (by omega) (by omega) (by omega)
    (fun k => IsReal.sum _ fun d => (hQ _).mul (hK _)) (hσ _)).trans ?_
  refine congrArg (fun s => rowRef s _ t.val _) (funext fun k => ?_)
  unfold scoreE score2 logTwo
  rw [log_two]
  exact congrArg (fun x : EReal => x * ((Real.log 2 : ℝ) : EReal)) (Finset.sum_congr rfl fun d _ => mul_comm _ _)

theorem inf_bits_bf16 : Ideal.ofBits .bf16 0x7F80#16 = ⊤ := by
  simp [Ideal.ofBits, Ideal.ieee, -EReal.coe_mul]

/-- An array of 16-bit floats whose absolute values compare below infinity is real. -/
theorem real_of_finite_bf16 {S : Shape} {x y : FVec Ideal S .bf16} (hy : ∀ i, y i = (⊤ : EReal))
    (h : cmpf .olt (Host.absf x) y = fun _ => 1#1) (i : S.Idx) : IsReal (x i) := by
  have h₁ := congrFun h i
  have h₂ : (cmpf .olt (Host.absf x) y) i = BitVec.ofBool (decide (max (x i : EReal) (-(x i)) < y i)) := by
    pointwise
    rfl
  rw [h₂, hy i] at h₁
  by_cases h₃ : max (x i : EReal) (-(x i)) < ⊤
  · exact isReal_of_abs_lt_top h₃
  · rw [decide_eq_false h₃] at h₁
    exact absurd h₁ (by decide)

/-- The kernel's result is the reference's. -/
theorem same_oa (m : (ℓ : Loc nD τ sig) → Buf (Elt Ideal) ℓ) (h : Cert.Pre_Kernel3Ideal_finite3 m) (c : Dev nD) :
    Cert.Reference3Ideal.Read.val_main_v43 (F := Ideal) (m ((c.tc : Thread nD τ).loc main_arg0))
        (m ((c.tc : Thread nD τ).loc main_arg1)) (m ((c.tc : Thread nD τ).loc main_arg2))
        (m ((c.tc : Thread nD τ).loc main_arg3))
      = (dats m 0 c).arrAt 8 cfg0.N := by
  obtain ⟨h₀, h₁, h₂⟩ := h c
  rw [swa_arr]
  funext i
  rw [eq_ix3 i]
  refine (s_v43 _ _ _ _ _ _ _).trans (row_eq_ref _ _ _ _ (real_of_finite_bf16 (fun _ => inf_bits_bf16) h₀)
    (real_of_finite_bf16 (fun _ => inf_bits_bf16) h₁) (real_of_finite (fun _ => inf_bits) h₂) (i 0) (i 1) (i 2)).symm

end Cert.Proof.Swa
-- ==== Proof.lean ====
/-
  The claims, from the modules under Proof/: the kernel's run ends with its results at the layer's rows (Run, Chain,
  Lanes, Match, WinMatch), the reference's at the same rows (Ref1, Ref2, WinRef), and on real arguments (Real, Finite) the two are equal.
  The same for the output projection (the Out modules) and for the windowed attention (the Swa modules).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite3
public import proofs.«01_k».proof.Proof.Gen.Reference3Ideal.Run
public import proofs.«01_k».proof.Proof.Gen.Reference3Ideal.Read
public import Idealize.ShloMosaic.Adequacy
public import Idealize.ShloMosaic.Init
public import Idealize.ShloMosaic.Lib.Quiescent
public import proofs.«01_k».proof.Proof.Finite
public import proofs.«01_k».proof.Proof.Run
public import proofs.«01_k».proof.Proof.OutMatch
public import proofs.«01_k».proof.Proof.WinMatch
public import proofs.«01_k».proof.Proof.WinRef
public import proofs.«01_k».proof.Proof.SwaMatch

@[expose] public section

noncomputable section

namespace Cert.Proof

open Idealize.ShloMosaic Idealize.SL.Sem

theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The kernel's attention output is the reference's. -/
theorem same_out (m : (ℓ : Loc Cert.KernelIdeal.nD Cert.KernelIdeal.τ Cert.KernelIdeal.sig) → Buf (Elt Ideal) ℓ)
    (ρ : Dev Cert.KernelIdeal.nD → PrngReg) (h : Cert.Pre_KernelIdeal_finite m) (c : Dev Cert.KernelIdeal.nD) :
    Cert.ReferenceIdeal.Read.val_main_v146 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.Gen.W11 m ρ c (Proc.devRef .tc Cert.KernelIdeal.main_v84) := by
  funext i
  rw [eq_ix3 i]
  exact (r_v146 _ _ _ _ _ _ _ _ _ _ _ _).trans
    ((w11_ob m ρ c _ _ _).trans (out_eq m ρ c (allReal_of_pre m h c) _ _ _)).symm

/-- The windowed attention's queries are the reference's. -/
theorem same_qa (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v210 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Gen.W11 m ρ c (Proc.devRef .tc Cert.KernelIdeal.main_v83_0) := by
  funext i
  rw [eq_ix3 i]
  exact (r_v210 _ _ _ _ _ (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) _ _ _).trans (w11_qa m ρ c _ _ _).symm

/-- The windowed attention's keys are the reference's. -/
theorem same_ka (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v212 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Gen.W11 m ρ c (Proc.devRef .tc Cert.KernelIdeal.main_v83_1) := by
  funext i
  rw [eq_ix3 i]
  exact (r_v212 _ _ _ _ _ (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) _ _ _).trans (w11_ka m ρ c _ _ _).symm

/-- The windowed attention's values are the reference's. -/
theorem same_va (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v213 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Gen.W11 m ρ c (Proc.devRef .tc Cert.KernelIdeal.main_v83_2) := by
  funext i
  rw [eq_ix3 i]
  exact (r_v213 _ _ _ _ _ (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) _ _ _).trans (w11_va m ρ c _ _ _).symm

theorem equal : Cert.algebraic_KernelIdeal_ReferenceIdeal_pre_finite := fun m ρ m' ρ' hpre hargs =>
  ⟨fun c => Cert.KernelIdeal.Gen.W11 m ρ c (Proc.devRef .tc Cert.KernelIdeal.main_v84),
    fun c => Cert.KernelIdeal.Gen.W11 m ρ c (Proc.devRef .tc Cert.KernelIdeal.main_v83_0),
    fun c => Cert.KernelIdeal.Gen.W11 m ρ c (Proc.devRef .tc Cert.KernelIdeal.main_v83_1),
    fun c => Cert.KernelIdeal.Gen.W11 m ρ c (Proc.devRef .tc Cert.KernelIdeal.main_v83_2),
    Cert.KernelIdeal.Gen.run_ob m ρ,
    (θ_run Cert.ReferenceIdeal.defs _ _).mono
      (fun r h c => ⟨((h c).1).trans ((Cert.ReferenceIdeal.Read.val_main_v146_eq _).trans (by
          obtain ⟨a₀, a₁, a₂, a₃, a₄, a₅, a₆, a₇, a₈⟩ := hargs c
          refine Eq.trans ?_ (same_out m ρ hpre c)
          rw [← a₀, ← a₁, ← a₂, ← a₃, ← a₄, ← a₅, ← a₆, ← a₇, ← a₈])),
        ((h c).2.1).trans ((Cert.ReferenceIdeal.Read.val_main_v210_eq _).trans (by
          obtain ⟨a₀, a₁, a₂, a₃, a₄, a₅, a₆, a₇, a₈⟩ := hargs c
          refine Eq.trans ?_ (same_qa m ρ c)
          rw [← a₀, ← a₁, ← a₂, ← a₃, ← a₄])),
        ((h c).2.2.1).trans ((Cert.ReferenceIdeal.Read.val_main_v212_eq _).trans (by
          obtain ⟨a₀, a₁, a₂, a₃, a₄, a₅, a₆, a₇, a₈⟩ := hargs c
          refine Eq.trans ?_ (same_ka m ρ c)
          rw [← a₀, ← a₁, ← a₂, ← a₃, ← a₄])),
        ((h c).2.2.2.1).trans ((Cert.ReferenceIdeal.Read.val_main_v213_eq _).trans (by
          obtain ⟨a₀, a₁, a₂, a₃, a₄, a₅, a₆, a₇, a₈⟩ := hargs c
          refine Eq.trans ?_ (same_va m ρ c)
          rw [← a₀, ← a₁, ← a₂, ← a₃, ← a₄])), (h c).2.2.2.2⟩)
      (Cert.ReferenceIdeal.Value.run (F := Ideal) m' ρ')⟩

/-! ## The output projection -/

theorem frame_reference2 : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

open Cert.Kernel2Ideal Cert.Kernel2Ideal.Gen in
theorem equal2 : Cert.algebraic_Kernel2Ideal_Reference2Ideal := fun m ρ m' ρ' _ hargs =>
  ⟨fun c => (dats m 0 c).arrAt 7 cfg0.N, fun c => (dats m 0 c).arrAt 8 cfg0.N,
    (θ_run Cert.Kernel2Ideal.defs _ _).mono (fun r h c => ⟨(h.1 c).1 7, (h.1 c).1 8, h.2 c⟩)
      (θ_run_and (run_main m ρ) (unchanged m ρ)),
    (θ_run Cert.Reference2Ideal.defs _ _).mono
      (fun r h c => ⟨(h c).1.trans ((Cert.Reference2Ideal.Read.val_main_v43_eq _ _ _ _ _ _ _).trans (by
          obtain ⟨a₀, a₁, a₂, a₃, a₄, a₅, a₆⟩ := hargs c
          refine Eq.trans ?_ (Out.first_eq_ref m c)
          rw [← a₀, ← a₁, ← a₂, ← a₃, ← a₄, ← a₅, ← a₆])),
        (h c).2.1.trans ((Cert.Reference2Ideal.Read.val_main_v64_eq _ _).trans (by
          obtain ⟨a₀, a₁, a₂, a₃, a₄, a₅, a₆⟩ := hargs c
          refine Eq.trans ?_ (Out.second_eq_ref m c)
          rw [← a₀, ← a₁, ← a₂, ← a₃, ← a₄, ← a₅, ← a₆])), (h c).2.2⟩)
      (Cert.Reference2Ideal.Value.run (F := Ideal) m' ρ')⟩

/-! ## The windowed attention -/

theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

open Cert.Kernel3Ideal Cert.Kernel3Ideal.Gen in
theorem equal3 : Cert.algebraic_Kernel3Ideal_Reference3Ideal_pre_finite3 := fun m ρ m' ρ' hpre hargs =>
  ⟨fun c => (dats m 0 c).arrAt 8 cfg0.N,
    (θ_run Cert.Kernel3Ideal.defs _ _).mono (fun r h c => ⟨(h.1 c).1 8, h.2 c⟩)
      (θ_run_and (run_main m ρ) (unchanged m ρ)),
    (θ_run Cert.Reference3Ideal.defs _ _).mono
      (fun r h c => ⟨(h c).1.trans ((Cert.Reference3Ideal.Read.val_main_v43_eq _ _).trans (by
          obtain ⟨a₀, a₁, a₂, a₃⟩ := hargs c
          refine Eq.trans ?_ (Swa.same_oa m hpre c)
          rw [← a₀, ← a₁, ← a₂, ← a₃])), (h c).2⟩)
      (Cert.Reference3Ideal.Value.run (F := Ideal) m' ρ')⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite.Gen.facts, Cert.Pre_finite3.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    fun m ρ _ => Cert.Kernel3Ideal.Gen.frame m ρ,
    frame_reference3,
    fun m ρ _ => frame_reference3 m ρ trivial,
    ⟨IdealRules.named_const.statement Cert.KernelIdeal.κ "swa_scale" .f32 0x3E38AA3B#32 _ rfl,
      IdealRules.named_const.statement Cert.KernelIdeal.κ "mla_scale" .f32 0x3E16C740#32 _ rfl⟩,
    equal,
    trivial,
    equal2,
    ⟨IdealRules.named_const.statement Cert.Kernel3Ideal.κ "mask" .f32 0xF149F2CA#32 _ rfl,
      IdealRules.named_const.statement Cert.Kernel3Ideal.κ "log2e" .f32 0x3FB8AA3B#32 _ rfl⟩,
    equal3⟩

end Cert.Proof

end
